-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v14_1)) (v2 : (c : Dev Cert.KernelIdeal.nD) → Buf (Elt Ideal) ((c.tc : Thread Cert.KernelIdeal.nD Cert.KernelIdeal.τ).loc Cert.KernelIdeal.main_v14_2)) (v3 : (c : Dev Cert.KernelIdeal.nD) → Buf (Elt Ideal) ((c.tc : Thread Cert.KernelIdeal.nD Cert.KernelIdeal.τ).loc Cert.KernelIdeal.main_v14_3)) (v4 : (c : Dev Cert.KernelIdeal.nD) → Buf (Elt Ideal) ((c.tc : Thread Cert.KernelIdeal.nD Cert.KernelIdeal.τ).loc Cert.KernelIdeal.main_v14_4)) (v5 : (c : Dev Cert.KernelIdeal.nD) → Buf (Elt Ideal) ((c.tc : Thread Cert.KernelIdeal.nD Cert.KernelIdeal.τ).loc Cert.KernelIdeal.main_v14_5)) (v6 : (c : Dev Cert.KernelIdeal.nD) → Buf (Elt Ideal) ((c.tc : Thread Cert.KernelIdeal.nD Cert.KernelIdeal.τ).loc Cert.KernelIdeal.main_v14_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v14_1) = v1 c
          ∧ r.2.mem ((c.tc : Thread Cert.KernelIdeal.nD Cert.KernelIdeal.τ).loc Cert.KernelIdeal.main_v14_2) = v2 c
          ∧ r.2.mem ((c.tc : Thread Cert.KernelIdeal.nD Cert.KernelIdeal.τ).loc Cert.KernelIdeal.main_v14_3) = v3 c
          ∧ r.2.mem ((c.tc : Thread Cert.KernelIdeal.nD Cert.KernelIdeal.τ).loc Cert.KernelIdeal.main_v14_4) = v4 c
          ∧ r.2.mem ((c.tc : Thread Cert.KernelIdeal.nD Cert.KernelIdeal.τ).loc Cert.KernelIdeal.main_v14_5) = v5 c
          ∧ r.2.mem ((c.tc : Thread Cert.KernelIdeal.nD Cert.KernelIdeal.τ).loc Cert.KernelIdeal.main_v14_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23_0) = v0 c
          ∧ r.2.mem ((c.tc : Thread Cert.ReferenceIdeal.nD Cert.ReferenceIdeal.τ).loc Cert.ReferenceIdeal.main_v23_1) = v1 c
          ∧ r.2.mem ((c.tc : Thread Cert.ReferenceIdeal.nD Cert.ReferenceIdeal.τ).loc Cert.ReferenceIdeal.main_v23_2) = v2 c
          ∧ r.2.mem ((c.tc : Thread Cert.ReferenceIdeal.nD Cert.ReferenceIdeal.τ).loc Cert.ReferenceIdeal.main_v23_3) = v3 c
          ∧ r.2.mem ((c.tc : Thread Cert.ReferenceIdeal.nD Cert.ReferenceIdeal.τ).loc Cert.ReferenceIdeal.main_v23_4) = v4 c
          ∧ r.2.mem ((c.tc : Thread Cert.ReferenceIdeal.nD Cert.ReferenceIdeal.τ).loc Cert.ReferenceIdeal.main_v9) = v5 c
          ∧ r.2.mem ((c.tc : Thread Cert.ReferenceIdeal.nD Cert.ReferenceIdeal.τ).loc Cert.ReferenceIdeal.main_v12) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S64x1x16x64 : Shape := ⟨4, ![64, 1, 16, 64]⟩
abbrev S64x1x4x64 : Shape := ⟨4, ![64, 1, 4, 64]⟩
abbrev S64x4x4x64 : Shape := ⟨4, ![64, 4, 4, 64]⟩
abbrev S64x4x4 : Shape := ⟨3, ![64, 4, 4]⟩
abbrev S64x2048x4x64 : Shape := ⟨4, ![64, 2048, 4, 64]⟩
abbrev S64x2048x4 : Shape := ⟨3, ![64, 2048, 4]⟩
abbrev S64 : Shape := ⟨1, ![64]⟩
abbrev S_ : Shape := ⟨0, ![]⟩

class Facts : Prop where
  bcast_S_S64x1x4x64 : S_.BroadcastsInDim S64x1x4x64 (![] : Fin 0 → Fin S64x1x4x64.rank)
  reducesTo_S64x1x4x64_S_d0_1_2_3 : S64x1x4x64.ReducesTo [0, 1, 2, 3] S_
  h_S_ : 0 < S_.numel

variable [Facts]

def fn {F : FTy → Type} [FloatOps F] (main_arg0 : FVec F S64x1x16x64 .bf16) (main_arg1 : FVec F S64x1x4x64 .bf16) (main_arg2 : FVec F S64x1x4x64 .bf16) (main_arg3 : FVec F S64x4x4x64 .fp8e4m3) (main_arg4 : FVec F S64x4x4 .f32) (main_arg5 : FVec F S64x4x4x64 .fp8e4m3) (main_arg6 : FVec F S64x4x4 .f32) (main_arg7 : FVec F S64x2048x4x64 .fp8e4m3) (main_arg8 : FVec F S64x2048x4 .f32) (main_arg9 : FVec F S64x2048x4x64 .fp8e4m3) (main_arg10 : FVec F S64x2048x4 .f32) (main_arg11 : IVec S64 32) : IVec S_ 1 :=
  let main_v0 : FVec F S64x1x4x64 .bf16 := Host.absf main_arg1
  let main_cst : FVec F S_ .bf16 := constant S_ .bf16 0x7F7F#16
  let main_v1 : FVec F S64x1x4x64 .bf16 := broadcastInDim S64x1x4x64 ![] bcast_S_S64x1x4x64 main_cst
  let main_v2 : IVec S64x1x4x64 1 := cmpf .ole main_v0 main_v1
  let main_c : IVec S_ 1 := constantI S_ 1 1#1
  let main_v3 : IVec S_ 1 := (fun x v => Host.reduce IntOp.andi x v reducesTo_S64x1x4x64_S_d0_1_2_3 h_S_) main_v2 main_c
  let main_v4 : FVec F S64x1x4x64 .bf16 := Host.absf main_arg2
  let main_cst_0 : FVec F S_ .bf16 := constant S_ .bf16 0x7F7F#16
  let main_v5 : FVec F S64x1x4x64 .bf16 := broadcastInDim S64x1x4x64 ![] bcast_S_S64x1x4x64 main_cst_0
  let main_v6 : IVec S64x1x4x64 1 := cmpf .ole main_v4 main_v5
  let main_c_1 : IVec S_ 1 := constantI S_ 1 1#1
  let main_v7 : IVec S_ 1 := (fun x v => Host.reduce IntOp.andi x v reducesTo_S64x1x4x64_S_d0_1_2_3 h_S_) main_v6 main_c_1
  let main_v8 : IVec S_ 1 := andi main_v3 main_v7
  main_v8
-- ==== Kernel.lean ====
abbrev S64x1x16x64 : Shape := ⟨4, ![64, 1, 16, 64]⟩
abbrev S64x1x4x64 : Shape := ⟨4, ![64, 1, 4, 64]⟩
abbrev S64x4x4x64 : Shape := ⟨4, ![64, 4, 4, 64]⟩
abbrev S64x4x4 : Shape := ⟨3, ![64, 4, 4]⟩
abbrev S64x2048x4x64 : Shape := ⟨4, ![64, 2048, 4, 64]⟩
abbrev S64x2048x4 : Shape := ⟨3, ![64, 2048, 4]⟩
abbrev S64 : Shape := ⟨1, ![64]⟩
abbrev S1024x64 : Shape := ⟨2, ![1024, 64]⟩
abbrev S256x64 : Shape := ⟨2, ![256, 64]⟩
abbrev S4x4x64 : Shape := ⟨3, ![4, 4, 64]⟩
abbrev S64x4x64x2048 : Shape := ⟨4, ![64, 4, 64, 2048]⟩
abbrev S64x256x2048 : Shape := ⟨3, ![64, 256, 2048]⟩
abbrev S64x4x2048 : Shape := ⟨3, ![64, 4, 2048]⟩
abbrev S1x64 : Shape := ⟨2, ![1, 64]⟩
abbrev S64x1024 : Shape := ⟨2, ![64, 1024]⟩
abbrev S4x64 : Shape := ⟨2, ![4, 64]⟩
abbrev S1x256x2048 : Shape := ⟨3, ![1, 256, 2048]⟩
abbrev S1x4x2048 : Shape := ⟨3, ![1, 4, 2048]⟩
abbrev S1024x128 : Shape := ⟨2, ![1024, 128]⟩
abbrev S256x128 : Shape := ⟨2, ![256, 128]⟩
abbrev S64x128 : Shape := ⟨2, ![64, 128]⟩
abbrev S128x128 : Shape := ⟨2, ![128, 128]⟩
abbrev S256 : Shape := ⟨1, ![256]⟩
abbrev S256x1 : Shape := ⟨2, ![256, 1]⟩
abbrev S256x255 : Shape := ⟨2, ![256, 255]⟩
abbrev S1x4x64 : Shape := ⟨3, ![1, 4, 64]⟩
abbrev S16x64 : Shape := ⟨2, ![16, 64]⟩
abbrev S16x32 : Shape := ⟨2, ![16, 32]⟩
abbrev S32x64 : Shape := ⟨2, ![32, 64]⟩
abbrev S1x128 : Shape := ⟨2, ![1, 128]⟩
abbrev S1x32 : Shape := ⟨2, ![1, 32]⟩
abbrev S16x256 : Shape := ⟨2, ![16, 256]⟩
abbrev S256x2048 : Shape := ⟨2, ![256, 2048]⟩
abbrev S16x2048 : Shape := ⟨2, ![16, 2048]⟩
abbrev S4x2048 : Shape := ⟨2, ![4, 2048]⟩
abbrev S4x1x2048 : Shape := ⟨3, ![4, 1, 2048]⟩
abbrev S4x4x2048 : Shape := ⟨3, ![4, 4, 2048]⟩
abbrev S1 : Shape := ⟨1, ![1]⟩
abbrev S16 : Shape := ⟨1, ![16]⟩
abbrev S16x1 : Shape := ⟨2, ![16, 1]⟩
abbrev S16x128 : Shape := ⟨2, ![16, 128]⟩
abbrev S32x128 : Shape := ⟨2, ![32, 128]⟩
abbrev S8x128 : Shape := ⟨2, ![8, 128]⟩

abbrev nBuf : Space → Nat
  | .hbm => 32
  | .vmem => 32
  | .smem => 1
  | _ => 0

abbrev bufTy : (tb : Table) → Fin (tcTables nBuf tb) → BufTy
  | .hbm, ⟨0, _⟩ => ⟨S64x1x16x64, .bf16⟩
  | .hbm, ⟨1, _⟩ => ⟨S64x1x4x64, .bf16⟩
  | .hbm, ⟨2, _⟩ => ⟨S64x1x4x64, .bf16⟩
  | .hbm, ⟨3, _⟩ => ⟨S64x4x4x64, .fp8e4m3⟩
  | .hbm, ⟨4, _⟩ => ⟨S64x4x4, .f32⟩
  | .hbm, ⟨5, _⟩ => ⟨S64x4x4x64, .fp8e4m3⟩
  | .hbm, ⟨6, _⟩ => ⟨S64x4x4, .f32⟩
  | .hbm, ⟨7, _⟩ => ⟨S64x2048x4x64, .fp8e4m3⟩
  | .hbm, ⟨8, _⟩ => ⟨S64x2048x4, .f32⟩
  | .hbm, ⟨9, _⟩ => ⟨S64x2048x4x64, .fp8e4m3⟩
  | .hbm, ⟨10, _⟩ => ⟨S64x2048x4, .f32⟩
  | .hbm, ⟨11, _⟩ => ⟨S1024x64, .bf16⟩
  | .hbm, ⟨12, _⟩ => ⟨S256x64, .bf16⟩
  | .hbm, ⟨13, _⟩ => ⟨S256x64, .bf16⟩
  | .hbm, ⟨14, _⟩ => ⟨S1024x64, .fp8e4m3⟩
  | .hbm, ⟨15, _⟩ => ⟨S1024x64, .fp8e4m3⟩
  | .hbm, ⟨16, _⟩ => ⟨S4x4x64, .f32⟩
  | .hbm, ⟨17, _⟩ => ⟨S4x4x64, .f32⟩
  | .hbm, ⟨18, _⟩ => ⟨S64x4x64x2048, .fp8e4m3⟩
  | .hbm, ⟨19, _⟩ => ⟨S64x256x2048, .fp8e4m3⟩
  | .hbm, ⟨20, _⟩ => ⟨S64x4x64x2048, .fp8e4m3⟩
  | .hbm, ⟨21, _⟩ => ⟨S64x256x2048, .fp8e4m3⟩
  | .hbm, ⟨22, _⟩ => ⟨S64x4x2048, .f32⟩
  | .hbm, ⟨23, _⟩ => ⟨S64x4x2048, .f32⟩
  | .hbm, ⟨24, _⟩ => ⟨S1x64, .i32⟩
  | .hbm, ⟨25, _⟩ => ⟨S64x1024, .bf16⟩
  | .hbm, ⟨26, _⟩ => ⟨S256x64, .fp8e4m3⟩
  | .hbm, ⟨27, _⟩ => ⟨S4x64, .f32⟩
  | .hbm, ⟨28, _⟩ => ⟨S256x64, .fp8e4m3⟩
  | .hbm, ⟨29, _⟩ => ⟨S4x64, .f32⟩
  | .hbm, ⟨30, _⟩ => ⟨S1x64, .i32⟩
  | .hbm, ⟨31, _⟩ => ⟨S1x64, .i32⟩
  | .local _ .vmem, ⟨0, _⟩ => ⟨S1024x64, .bf16⟩
  | .local _ .vmem, ⟨1, _⟩ => ⟨S256x64, .bf16⟩
  | .local _ .vmem, ⟨2, _⟩ => ⟨S256x64, .bf16⟩
  | .local _ .vmem, ⟨3, _⟩ => ⟨S1024x64, .fp8e4m3⟩
  | .local _ .vmem, ⟨4, _⟩ => ⟨S4x4x64, .f32⟩
  | .local _ .vmem, ⟨5, _⟩ => ⟨S1024x64, .fp8e4m3⟩
  | .local _ .vmem, ⟨6, _⟩ => ⟨S4x4x64, .f32⟩
  | .local _ .vmem, ⟨7, _⟩ => ⟨S1x64, .i32⟩
  | .local _ .vmem, ⟨8, _⟩ => ⟨S1x256x2048, .fp8e4m3⟩
  | .local _ .vmem, ⟨9, _⟩ => ⟨S1x256x2048, .fp8e4m3⟩
  | .local _ .vmem, ⟨10, _⟩ => ⟨S1x4x2048, .f32⟩
  | .local _ .vmem, ⟨11, _⟩ => ⟨S1x4x2048, .f32⟩
  | .local _ .vmem, ⟨12, _⟩ => ⟨S1x256x2048, .fp8e4m3⟩
  | .local _ .vmem, ⟨13, _⟩ => ⟨S1x256x2048, .fp8e4m3⟩
  | .local _ .vmem, ⟨14, _⟩ => ⟨S1x4x2048, .f32⟩
  | .local _ .vmem, ⟨15, _⟩ => ⟨S1x4x2048, .f32⟩
  | .local _ .vmem, ⟨16, _⟩ => ⟨S64x1024, .bf16⟩
  | .local _ .vmem, ⟨17, _⟩ => ⟨S256x64, .fp8e4m3⟩
  | .local _ .vmem, ⟨18, _⟩ => ⟨S4x64, .f32⟩
  | .local _ .vmem, ⟨19, _⟩ => ⟨S256x64, .fp8e4m3⟩
  | .local _ .vmem, ⟨20, _⟩ => ⟨S4x64, .f32⟩
  | .local _ .vmem, ⟨21, _⟩ => ⟨S1x64, .i32⟩
  | .local _ .vmem, ⟨22, _⟩ => ⟨S1x64, .i32⟩
  | .local _ .vmem, ⟨23, _⟩ => ⟨S1024x64, .bf16⟩
  | .local _ .vmem, ⟨24, _⟩ => ⟨S1024x128, .bf16⟩
  | .local _ .vmem, ⟨25, _⟩ => ⟨S256x64, .bf16⟩
  | .local _ .vmem, ⟨26, _⟩ => ⟨S256x128, .bf16⟩
  | .local _ .vmem, ⟨27, _⟩ => ⟨S64x128, .f32⟩
  | .local _ .vmem, ⟨28, _⟩ => ⟨S64x128, .f32⟩
  | .local _ .vmem, ⟨29, _⟩ => ⟨S256x128, .f32⟩
  | .local _ .vmem, ⟨30, _⟩ => ⟨S128x128, .f32⟩
  | .local _ .vmem, ⟨31, _⟩ => ⟨S1024x128, .f32⟩
  | .local _ .smem, ⟨0, _⟩ => ⟨S64, .i32⟩
  | _, _ => ⟨S64x1x16x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14_0 : Ref sig .tc := ⟨.hbm, 25, rfl⟩
abbrev main_v14_1 : Ref sig .tc := ⟨.hbm, 26, rfl⟩
abbrev main_v14_2 : Ref sig .tc := ⟨.hbm, 27, rfl⟩
abbrev main_v14_3 : Ref sig .tc := ⟨.hbm, 28, rfl⟩
abbrev main_v14_4 : Ref sig .tc := ⟨.hbm, 29, rfl⟩
abbrev main_v14_5 : Ref sig .tc := ⟨.hbm, 30, rfl⟩
abbrev main_v14_6 : Ref sig .tc := ⟨.hbm, 31, rfl⟩
abbrev main_arg11 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg8_1 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg18_0 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_scratch4 : Ref sig .tc := ⟨.vmem, 27, rfl⟩
abbrev cc0_scratch5 : Ref sig .tc := ⟨.vmem, 28, rfl⟩
abbrev cc0_scratch6 : Ref sig .tc := ⟨.vmem, 29, rfl⟩
abbrev cc0_scratch7 : Ref sig .tc := ⟨.vmem, 30, rfl⟩
abbrev cc0_scratch8 : Ref sig .tc := ⟨.vmem, 31, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem8_1 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem18_0 : DmaSem sig := 22

abbrev nD : Nat := 1
abbrev τ : Topo := Topo.v7x

variable {F : FTy → Type} [FloatOps F]

abbrev grid0 : Pipeline.Grid := ⟨1, ![64], ![false]⟩

abbrev pre0 : Pipeline.Prefetch sig := ⟨1, ![main_arg11.idx], fun | 0 => main_arg11.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let arg0 : BitVec 32 := BitVec.ofNat 32 (i 0).val
  let c16_i32 : BitVec 32 := 16#32
  let v3 : BitVec 32 := Scalar.muli arg0 c16_i32
  let v4 : Index := Scalar.indexCast v3
  let c0 : Index := 0#32
  ![v4.toNat, 0]
def k0_mult1 (i : grid0.Coords) : BitVec 32 :=
  let arg0 : BitVec 32 := BitVec.ofNat 32 (i 0).val
  let c2_i32_5 : BitVec 32 := 2#32
  let v25 : BitVec 32 := Scalar.shrsi arg0 c2_i32_5
  let c16_i32_6 : BitVec 32 := 16#32
  let v26 : BitVec 32 := Scalar.muli v25 c16_i32_6
  v26
def k0_off2 (i : grid0.Coords) : Fin 2 → Nat :=
  let arg0 : BitVec 32 := BitVec.ofNat 32 (i 0).val
  let c2_i32_5 : BitVec 32 := 2#32
  let v25 : BitVec 32 := Scalar.shrsi arg0 c2_i32_5
  let c16_i32_6 : BitVec 32 := 16#32
  let v26 : BitVec 32 := Scalar.muli v25 c16_i32_6
  let v27 : BitVec 32 := v26
  let v31 : Index := Scalar.indexCast v27
  let c0_9 : Index := 0#32
  ![v31.toNat, 0]
def k0_off3 (i : grid0.Coords) : Fin 2 → Nat :=
  let arg0 : BitVec 32 := BitVec.ofNat 32 (i 0).val
  let v35 : Index := Scalar.indexCast arg0
  let c0_10 : Index := 0#32
  ![v35.toNat, 0]
def k0_off4 (i : grid0.Coords) : Fin 1 → Nat :=
  let arg0 : BitVec 32 := BitVec.ofNat 32 (i 0).val
  let v72 : Index := Scalar.indexCast arg0
  ![v72.toNat]
def k0_off5 (i : grid0.Coords) : Fin 2 → Nat :=
  let arg0 : BitVec 32 := BitVec.ofNat 32 (i 0).val
  let c16_i32_33 : BitVec 32 := 16#32
  let v110 : BitVec 32 := Scalar.muli arg0 c16_i32_33
  let v111 : Index := Scalar.indexCast v110
  let c0_34 : Index := 0#32
  ![v111.toNat, 0]
def k0_off6 (i : grid0.Coords) : Fin 2 → Nat :=
  let arg0 : BitVec 32 := BitVec.ofNat 32 (i 0).val
  let c2_i32_5 : BitVec 32 := 2#32
  let v25 : BitVec 32 := Scalar.shrsi arg0 c2_i32_5
  let c16_i32_6 : BitVec 32 := 16#32
  let v26 : BitVec 32 := Scalar.muli v25 c16_i32_6
  let v27 : BitVec 32 := v26
  let v113 : Index := Scalar.indexCast v27
  let c0_35 : Index := 0#32
  ![v113.toNat, 0]
def k0_off7 (i : grid0.Coords) (c0_i32_43 : BitVec 32) : Fin 2 → Nat :=
  let arg0 : BitVec 32 := BitVec.ofNat 32 (i 0).val
  let c16_i32_42 : BitVec 32 := 16#32
  let v131 : BitVec 32 := Scalar.muli arg0 c16_i32_42
  let v132 : BitVec 32 := Scalar.addi v131 c0_i32_43
  let v133 : Index := Scalar.indexCast v132
  let c0_44 : Index := 0#32
  ![v133.toNat, 0]
def k0_cond2 (i : grid0.Coords) : BitVec 1 :=
  let arg0 : BitVec 32 := BitVec.ofNat 32 (i 0).val
  let c63_i32 : BitVec 32 := 63#32
  let v153 : BitVec 1 := Scalar.cmpi .eq arg0 c63_i32
  let v154 : BitVec 32 := Scalar.extui v153
  let c0_i32_50 : BitVec 32 := 0#32
  let v155 : BitVec 1 := Scalar.cmpi .ne v154 c0_i32_50
  v155

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x64 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x64 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x4x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x256x2048 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x4x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256x2048 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x4x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S64x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x64 .fp8e4m3 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S4x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x64 .fp8e4m3 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S4x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x64 .i32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x64 .i32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== ReferenceIdeal.lean ====
abbrev S64x1x16x64 : Shape := ⟨4, ![64, 1, 16, 64]⟩
abbrev S64x1x4x64 : Shape := ⟨4, ![64, 1, 4, 64]⟩
abbrev S64x4x4x64 : Shape := ⟨4, ![64, 4, 4, 64]⟩
abbrev S64x4x4 : Shape := ⟨3, ![64, 4, 4]⟩
abbrev S64x2048x4x64 : Shape := ⟨4, ![64, 2048, 4, 64]⟩
abbrev S64x2048x4 : Shape := ⟨3, ![64, 2048, 4]⟩
abbrev S64 : Shape := ⟨1, ![64]⟩
abbrev S_ : Shape := ⟨0, ![]⟩
abbrev S64x1 : Shape := ⟨2, ![64, 1]⟩
abbrev S1x64 : Shape := ⟨2, ![1, 64]⟩
abbrev S64x4x64 : Shape := ⟨3, ![64, 4, 64]⟩
abbrev S64x4x2048x64 : Shape := ⟨4, ![64, 4, 2048, 64]⟩
abbrev S64x4x2048 : Shape := ⟨3, ![64, 4, 2048]⟩
abbrev S64x1024 : Shape := ⟨2, ![64, 1024]⟩
abbrev S256x64 : Shape := ⟨2, ![256, 64]⟩
abbrev S4x64 : Shape := ⟨2, ![4, 64]⟩
abbrev S64x4 : Shape := ⟨2, ![64, 4]⟩
abbrev S64x4x254 : Shape := ⟨3, ![64, 4, 254]⟩
abbrev S64x4x1 : Shape := ⟨3, ![64, 4, 1]⟩
abbrev S64x4x4x1x64 : Shape := ⟨5, ![64, 4, 4, 1, 64]⟩
abbrev S64x4x1x4x64 : Shape := ⟨5, ![64, 4, 1, 4, 64]⟩
abbrev S64x4x4x4x64 : Shape := ⟨5, ![64, 4, 4, 4, 64]⟩
abbrev S64x4x4x4 : Shape := ⟨4, ![64, 4, 4, 4]⟩
abbrev S64x4x1x4 : Shape := ⟨4, ![64, 4, 1, 4]⟩
abbrev S64x4x1x2048x64 : Shape := ⟨5, ![64, 4, 1, 2048, 64]⟩
abbrev S64x4x4x2048x64 : Shape := ⟨5, ![64, 4, 4, 2048, 64]⟩
abbrev S64x4x4x2048 : Shape := ⟨4, ![64, 4, 4, 2048]⟩
abbrev S64x4x1x2048 : Shape := ⟨4, ![64, 4, 1, 2048]⟩
abbrev S64x4x1x64 : Shape := ⟨4, ![64, 4, 1, 64]⟩
abbrev S64x4x1x1x64 : Shape := ⟨5, ![64, 4, 1, 1, 64]⟩
abbrev S64x4x4x1 : Shape := ⟨4, ![64, 4, 4, 1]⟩
abbrev S64x4x1x1 : Shape := ⟨4, ![64, 4, 1, 1]⟩
abbrev S64x1x1x1 : Shape := ⟨4, ![64, 1, 1, 1]⟩
abbrev S64x4x4x4x1 : Shape := ⟨5, ![64, 4, 4, 4, 1]⟩
abbrev S64x4x4x2048x1 : Shape := ⟨5, ![64, 4, 4, 2048, 1]⟩
abbrev S64x4x4x1x1 : Shape := ⟨5, ![64, 4, 4, 1, 1]⟩

abbrev nBuf : Space → Nat
  | .hbm => 65
  | .vmem => 17
  | .smem => 0
  | _ => 0

abbrev bufTy : (tb : Table) → Fin (tcTables nBuf tb) → BufTy
  | .hbm, ⟨0, _⟩ => ⟨S64x1x16x64, .bf16⟩
  | .hbm, ⟨1, _⟩ => ⟨S64x1x4x64, .bf16⟩
  | .hbm, ⟨2, _⟩ => ⟨S64x1x4x64, .bf16⟩
  | .hbm, ⟨3, _⟩ => ⟨S64x4x4x64, .fp8e4m3⟩
  | .hbm, ⟨4, _⟩ => ⟨S64x4x4, .f32⟩
  | .hbm, ⟨5, _⟩ => ⟨S64x4x4x64, .fp8e4m3⟩
  | .hbm, ⟨6, _⟩ => ⟨S64x4x4, .f32⟩
  | .hbm, ⟨7, _⟩ => ⟨S64x2048x4x64, .fp8e4m3⟩
  | .hbm, ⟨8, _⟩ => ⟨S64x2048x4, .f32⟩
  | .hbm, ⟨9, _⟩ => ⟨S64x2048x4x64, .fp8e4m3⟩
  | .hbm, ⟨10, _⟩ => ⟨S64x2048x4, .f32⟩
  | .hbm, ⟨11, _⟩ => ⟨S64, .i32⟩
  | .hbm, ⟨12, _⟩ => ⟨S64x4x4x64, .bf16⟩
  | .hbm, ⟨13, _⟩ => ⟨S_, .i32⟩
  | .hbm, ⟨14, _⟩ => ⟨S64, .i32⟩
  | .hbm, ⟨15, _⟩ => ⟨S64, .i32⟩
  | .hbm, ⟨16, _⟩ => ⟨S_, .i32⟩
  | .hbm, ⟨17, _⟩ => ⟨S64, .i32⟩
  | .hbm, ⟨18, _⟩ => ⟨S64, .i32⟩
  | .hbm, ⟨19, _⟩ => ⟨S64x1, .i32⟩
  | .hbm, ⟨20, _⟩ => ⟨S_, .i32⟩
  | .hbm, ⟨21, _⟩ => ⟨S64, .i32⟩
  | .hbm, ⟨22, _⟩ => ⟨S64, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S64, .i32⟩
  | .hbm, ⟨30, _⟩ => ⟨S64, .i32⟩
  | .hbm, ⟨31, _⟩ => ⟨S_, .i32⟩
  | .hbm, ⟨32, _⟩ => ⟨S64, .i32⟩
  | .hbm, ⟨33, _⟩ => ⟨S64, .i1⟩
  | .hbm, ⟨34, _⟩ => ⟨S_, .i32⟩
  | .hbm, ⟨35, _⟩ => ⟨S64, .i32⟩
  | .hbm, ⟨36, _⟩ => ⟨S64, .i1⟩
  | .hbm, ⟨37, _⟩ => ⟨S_, .i32⟩
  | .hbm, ⟨38, _⟩ => ⟨S_, .i1⟩
  | .hbm, ⟨39, _⟩ => ⟨S64, .i1⟩
  | .hbm, ⟨40, _⟩ => ⟨S64, .i1⟩
  | .hbm, ⟨41, _⟩ => ⟨S64, .i1⟩
  | .hbm, ⟨42, _⟩ => ⟨S64, .i32⟩
  | .hbm, ⟨43, _⟩ => ⟨S64, .i32⟩
  | .hbm, ⟨44, _⟩ => ⟨S64, .i32⟩
  | .hbm, ⟨45, _⟩ => ⟨S1x64, .i32⟩
  | .hbm, ⟨46, _⟩ => ⟨S_, .i32⟩
  | .hbm, ⟨47, _⟩ => ⟨S64, .i32⟩
  | .hbm, ⟨48, _⟩ => ⟨S64, .i32⟩
  | .hbm, ⟨49, _⟩ => ⟨S1x64, .i32⟩
  | .hbm, ⟨50, _⟩ => ⟨S64x4x64, .bf16⟩
  | .hbm, ⟨51, _⟩ => ⟨S64x4x64, .bf16⟩
  | .hbm, ⟨52, _⟩ => ⟨S64x4x4x64, .fp8e4m3⟩
  | .hbm, ⟨53, _⟩ => ⟨S64x4x4, .f32⟩
  | .hbm, ⟨54, _⟩ => ⟨S64x4x4x64, .fp8e4m3⟩
  | .hbm, ⟨55, _⟩ => ⟨S64x4x4, .f32⟩
  | .hbm, ⟨56, _⟩ => ⟨S64x4x2048x64, .fp8e4m3⟩
  | .hbm, ⟨57, _⟩ => ⟨S64x4x2048, .f32⟩
  | .hbm, ⟨58, _⟩ => ⟨S64x4x2048x64, .fp8e4m3⟩
  | .hbm, ⟨59, _⟩ => ⟨S64x4x2048, .f32⟩
  | .hbm, ⟨60, _⟩ => ⟨S64x1024, .bf16⟩
  | .hbm, ⟨61, _⟩ => ⟨S256x64, .fp8e4m3⟩
  | .hbm, ⟨62, _⟩ => ⟨S4x64, .f32⟩
  | .hbm, ⟨63, _⟩ => ⟨S256x64, .fp8e4m3⟩
  | .hbm, ⟨64, _⟩ => ⟨S4x64, .f32⟩
  | .local _ .vmem, ⟨0, _⟩ => ⟨S64x4x4x64, .bf16⟩
  | .local _ .vmem, ⟨1, _⟩ => ⟨S64x4x64, .bf16⟩
  | .local _ .vmem, ⟨2, _⟩ => ⟨S64x4x64, .bf16⟩
  | .local _ .vmem, ⟨3, _⟩ => ⟨S64x4x4x64, .fp8e4m3⟩
  | .local _ .vmem, ⟨4, _⟩ => ⟨S64x4x4, .f32⟩
  | .local _ .vmem, ⟨5, _⟩ => ⟨S64x4x4x64, .fp8e4m3⟩
  | .local _ .vmem, ⟨6, _⟩ => ⟨S64x4x4, .f32⟩
  | .local _ .vmem, ⟨7, _⟩ => ⟨S64x4x2048x64, .fp8e4m3⟩
  | .local _ .vmem, ⟨8, _⟩ => ⟨S64x4x2048, .f32⟩
  | .local _ .vmem, ⟨9, _⟩ => ⟨S64x4x2048x64, .fp8e4m3⟩
  | .local _ .vmem, ⟨10, _⟩ => ⟨S64x4x2048, .f32⟩
  | .local _ .vmem, ⟨11, _⟩ => ⟨S64x1, .i32⟩
  | .local _ .vmem, ⟨12, _⟩ => ⟨S64x1024, .bf16⟩
  | .local _ .vmem, ⟨13, _⟩ => ⟨S256x64, .fp8e4m3⟩
  | .local _ .vmem, ⟨14, _⟩ => ⟨S4x64, .f32⟩
  | .local _ .vmem, ⟨15, _⟩ => ⟨S256x64, .fp8e4m3⟩
  | .local _ .vmem, ⟨16, _⟩ => ⟨S4x64, .f32⟩
  | _, _ => ⟨S64x1x16x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_c_1 : Ref sig .tc := ⟨.hbm, 20, rfl⟩
abbrev main_v6 : Ref sig .tc := ⟨.hbm, 21, rfl⟩
abbrev main_v7 : Ref sig .tc := ⟨.hbm, 22, rfl⟩
abbrev main_c_2 : Ref sig .tc := ⟨.hbm, 23, rfl⟩
abbrev main_call0_v0 : Ref sig .tc := ⟨.hbm, 24, rfl⟩
abbrev main_call0_c : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_c_1 : Ref sig .tc := ⟨.hbm, 31, rfl⟩
abbrev main_call0_v5 : Ref sig .tc := ⟨.hbm, 32, rfl⟩
abbrev main_call0_v6 : Ref sig .tc := ⟨.hbm, 33, rfl⟩
abbrev main_call0_c_2 : Ref sig .tc := ⟨.hbm, 34, rfl⟩
abbrev main_call0_v7 : Ref sig .tc := ⟨.hbm, 35, rfl⟩
abbrev main_call0_v8 : Ref sig .tc := ⟨.hbm, 36, rfl⟩
abbrev main_call0_c_3 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_v12 : Ref sig .tc := ⟨.hbm, 41, rfl⟩
abbrev main_call0_v13 : Ref sig .tc := ⟨.hbm, 42, rfl⟩
abbrev main_call0_v14 : Ref sig .tc := ⟨.hbm, 43, rfl⟩
abbrev main_v8 : Ref sig .tc := ⟨.hbm, 44, rfl⟩
abbrev main_v9 : Ref sig .tc := ⟨.hbm, 45, rfl⟩
abbrev main_c_3 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23_0 : Ref sig .tc := ⟨.hbm, 60, rfl⟩
abbrev main_v23_1 : Ref sig .tc := ⟨.hbm, 61, rfl⟩
abbrev main_v23_2 : Ref sig .tc := ⟨.hbm, 62, rfl⟩
abbrev main_v23_3 : Ref sig .tc := ⟨.hbm, 63, rfl⟩
abbrev main_v23_4 : Ref sig .tc := ⟨.hbm, 64, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16

abbrev nD : Nat := 1
abbrev τ : Topo := Topo.v7x

variable {F : FTy → Type} [FloatOps F]

abbrev grid0 : Pipeline.Grid := .none

abbrev stage0_0 : Fin 1 → Memref sig .tc .vmem S64x4x4x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x4x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x4x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x4x4x64 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x4x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x4x4x64 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x4x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x4x2048x64 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x4x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S64x4x2048x64 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S64x4x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S64x1 .i32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S64x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S256x64 .fp8e4m3 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S4x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S256x64 .fp8e4m3 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S4x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
-- ==== Proof.SameProgram.lean ====
module

public import proofs.«01_k».proof.Defs

@[expose] public section

set_option maxRecDepth 100000
set_option maxHeartbeats 4000000

/-! # The kernel as printed and the kernel as printed for the exact reading are the same program

The two printed programs differ in nothing, so a run of the one is a run of the other. -/

noncomputable section

namespace Cert.Proof.Same

open Idealize.ShloMosaic Idealize.SL.Sem

variable {F : FTy → Type} [FloatOps F] [hK : Cert.Kernel.Facts] [hI : Cert.KernelIdeal.Facts]

theorem part1_eq : @Cert.Kernel.k0_part1 F _ hK = @Cert.KernelIdeal.k0_part1 F _ hI := rfl
theorem part2_eq : @Cert.Kernel.k0_part2 F _ hK = @Cert.KernelIdeal.k0_part2 F _ hI := rfl
theorem part3_eq : @Cert.Kernel.k0_part3 F _ hK = @Cert.KernelIdeal.k0_part3 F _ hI := rfl
theorem part4_eq : @Cert.Kernel.k0_part4 F _ hK = @Cert.KernelIdeal.k0_part4 F _ hI := rfl
theorem part5_eq : @Cert.Kernel.k0_part5 F _ hK = @Cert.KernelIdeal.k0_part5 F _ hI := rfl
theorem part6_eq : @Cert.Kernel.k0_part6 F _ hK = @Cert.KernelIdeal.k0_part6 F _ hI := rfl
theorem part7_eq : @Cert.Kernel.k0_part7 F _ hK = @Cert.KernelIdeal.k0_part7 F _ hI := rfl
theorem part8_eq : @Cert.Kernel.k0_part8 F _ hK = @Cert.KernelIdeal.k0_part8 F _ hI := rfl
theorem part9_eq : @Cert.Kernel.k0_part9 F _ hK = @Cert.KernelIdeal.k0_part9 F _ hI := rfl
theorem part10_eq : @Cert.Kernel.k0_part10 F _ hK = @Cert.KernelIdeal.k0_part10 F _ hI := rfl
/-- The bodies agree, -/
theorem body_eq : @Cert.Kernel.cc0_sink_ring_decode F _ hK = @Cert.KernelIdeal.cc0_sink_ring_decode F _ hI := rfl
/-- the pipelines, -/
theorem pcfg_eq : @Cert.Kernel.pcfg0 F _ hK = @Cert.KernelIdeal.pcfg0 F _ hI := rfl
theorem lam_eq : @Cert.Kernel.Λ₀ hK = @Cert.KernelIdeal.Λ₀ hI := rfl
theorem defs0_eq : @Cert.Kernel.defs₀ F _ hK = @Cert.KernelIdeal.defs₀ F _ hI := by
  unfold Cert.Kernel.defs₀ Cert.KernelIdeal.defs₀
  refine congrArg (Defs.onTc (nD := Cert.Kernel.nD) (τ := Cert.Kernel.τ) (sig := Cert.Kernel.sig) (Val := Elt F) (Λ := Cert.Kernel.Λ₀)) ?_
  funext l x
  match l, x with
  | 0, (t, s) => dsimp only; rw [body_eq]; rfl
  | ⟨_ + 1, h⟩, _ => exact absurd h (Nat.not_lt.2 (Nat.le_add_left _ _))
theorem defs_eq : @Cert.Kernel.defs F _ hK = @Cert.KernelIdeal.defs F _ hI := by
  unfold Cert.Kernel.defs Cert.KernelIdeal.defs
  rw [defs0_eq]; rfl
theorem main_eq : @Cert.Kernel.main F _ hK = @Cert.KernelIdeal.main F _ hI := rfl
/-- and so the runs. -/
theorem run_eq (s) (Q) : θ_run (Cert.Kernel.defs (F := F)) (onTc (τ := Cert.Kernel.τ) (Cert.Kernel.main (F := F))) s Q =
    θ_run (Cert.KernelIdeal.defs (F := F)) (onTc (τ := Cert.KernelIdeal.τ) (Cert.KernelIdeal.main (F := F))) s Q := by
  rw [defs_eq, main_eq]; rfl

end Cert.Proof.Same

end

end
-- ==== Proof.Kit.lean ====
module

public import proofs.«01_k».proof.Proof.Gen.KernelIdeal.Launch
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp

/-! # What the runs of the kernel body share

The host operations before the pallas_call, the blocks of the windows, the branch conditions of the body in closed form, the
memrefs the body is handed, and the frame claim from a run. All of it holds at any reading `F` of the floats. -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- The region finds `main_arg0` as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The region finds `main_arg1` as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The region finds `main_arg2` as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The region finds `main_arg3` as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The region finds `main_arg4` as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The region finds `main_arg5` as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The region finds `main_arg6` as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The region finds `main_arg7` as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The region finds `main_arg8` as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The region finds `main_arg9` as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The region finds `main_arg10` as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The region finds `main_arg11` as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S64 .i32 := Memref.whole main_arg11
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_sink_ring_decode (grid0.coords t) (Memref.whole main_arg11) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (spec0_12.stage ((cfg0 a).slots t 12)) (hstage0_12 (((cfg0 a).slots t 12).cast nbuf0_12)) (spec0_13.stage ((cfg0 a).slots t 13)) (hstage0_13 (((cfg0 a).slots t 13).cast nbuf0_13)) (spec0_14.stage ((cfg0 a).slots t 14)) (hstage0_14 (((cfg0 a).slots t 14).cast nbuf0_14)) (spec0_15.stage ((cfg0 a).slots t 15)) (hstage0_15 (((cfg0 a).slots t 15).cast nbuf0_15)) (spec0_16.stage ((cfg0 a).slots t 16)) (hstage0_16 (((cfg0 a).slots t 16).cast nbuf0_16)) (spec0_17.stage ((cfg0 a).slots t 17)) (hstage0_17 (((cfg0 a).slots t 17).cast nbuf0_17)) (spec0_18.stage ((cfg0 a).slots t 18)) (hstage0_18 (((cfg0 a).slots t 18).cast nbuf0_18)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _)

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0 holds its block at every point, if the body leaves it in place. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1 holds its block at every point, if the body leaves it in place. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2 holds its block at every point, if the body leaves it in place. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3 holds its block at every point, if the body leaves it in place. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4 holds its block at every point, if the body leaves it in place. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5 holds its block at every point, if the body leaves it in place. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6 holds its block at every point, if the body leaves it in place. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7 holds its block at every point, if the body leaves it in place. -/
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8 holds its block at every point, if the body leaves it in place. -/
theorem before0_8_of (hO : Ok m) {c : Dev nD} (dat : Dat τ (Elt F) Unit ℕ (UR sig nD τ) ℕ (cfgM m hO) c) (hA : dat.A 8 = V m c (Pipeline.arrRef spec0 8))
    (hafter : ∀ t, dat.after 8 t = iblk m hO c 8 t) (t : Fin (cfgM m hO).N) (d) : dat.before 8 t d = iblk m hO c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9 holds its block at every point, if the body leaves it in place. -/
theorem before0_9_of (hO : Ok m) {c : Dev nD} (dat : Dat τ (Elt F) Unit ℕ (UR sig nD τ) ℕ (cfgM m hO) c) (hA : dat.A 9 = V m c (Pipeline.arrRef spec0 9))
    (hafter : ∀ t, dat.after 9 t = iblk m hO c 9 t) (t : Fin (cfgM m hO).N) (d) : dat.before 9 t d = iblk m hO c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10 holds its block at every point, if the body leaves it in place. -/
theorem before0_10_of (hO : Ok m) {c : Dev nD} (dat : Dat τ (Elt F) Unit ℕ (UR sig nD τ) ℕ (cfgM m hO) c) (hA : dat.A 10 = V m c (Pipeline.arrRef spec0 10))
    (hafter : ∀ t, dat.after 10 t = iblk m hO c 10 t) (t : Fin (cfgM m hO).N) (d) : dat.before 10 t d = iblk m hO c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11 holds its block at every point, if the body leaves it in place. -/
theorem before0_11_of (hO : Ok m) {c : Dev nD} (dat : Dat τ (Elt F) Unit ℕ (UR sig nD τ) ℕ (cfgM m hO) c) (hA : dat.A 11 = V m c (Pipeline.arrRef spec0 11))
    (hafter : ∀ t, dat.after 11 t = iblk m hO c 11 t) (t : Fin (cfgM m hO).N) (d) : dat.before 11 t d = iblk m hO c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1140000 in
/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelIdeal`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c),
      ((h c).2 main_arg7 (by decide : main_arg7 ∈ Pipeline.restRefs sig spec0)).trans (V_main_arg7 m c),
      ((h c).2 main_arg8 (by decide : main_arg8 ∈ Pipeline.restRefs sig spec0)).trans (V_main_arg8 m c),
      ((h c).2 main_arg9 (by decide : main_arg9 ∈ Pipeline.restRefs sig spec0)).trans (V_main_arg9 m c),
      ((h c).2 main_arg10 (by decide : main_arg10 ∈ Pipeline.restRefs sig spec0)).trans (V_main_arg10 m c),
      ((h c).2 main_arg11 (by decide : main_arg11 ∈ Pipeline.restRefs sig spec0)).trans (V_main_arg11 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin grid0.N, cond0_0 (grid0.coords t) ↔ t.val % 64 = 0 :=
  (fun t => by
    have ht : t.val < 64 := Nat.lt_of_lt_of_eq t.isLt N_0
    have e0 : (grid0.coords t 0).val = t.val / 1 % 64 := Pipeline.Grid.coords_val t 0 (by decide) rfl
    simp only [cond0_0, e0]
    word_cmp
   : ∀ t : Fin grid0.N, cond0_0 (grid0.coords t) ↔ t.val % 64 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin grid0.N, cond0_1 (grid0.coords t) ↔ t.val % 64 = 63 :=
  (fun t => by
    have ht : t.val < 64 := Nat.lt_of_lt_of_eq t.isLt N_0
    have e0 : (grid0.coords t 0).val = t.val / 1 % 64 := Pipeline.Grid.coords_val t 0 (by decide) rfl
    simp only [cond0_1, k0_cond2, e0]
    word_cmp
   : ∀ t : Fin grid0.N, cond0_1 (grid0.coords t) ↔ t.val % 64 = 63)

/-! ## Where the windows are idle (the printed configuration's table `Cfg.idle`) -/

/-- Window 0 is never idle (an input). -/
theorem liveAt0_0 (hO : Ok m) : ∀ t : Fin (cfgM m hO).N, (cfgM m hO).idle 0 (grid0.coords t) = false :=
  (fun _ => rfl : ∀ t : Fin grid0.N, idle0 0 (grid0.coords t) = false)
/-- Window 1 is never idle (an input). -/
theorem liveAt0_1 (hO : Ok m) : ∀ t : Fin (cfgM m hO).N, (cfgM m hO).idle 1 (grid0.coords t) = false :=
  (fun _ => rfl : ∀ t : Fin grid0.N, idle0 1 (grid0.coords t) = false)
/-- Window 2 is never idle (an input). -/
theorem liveAt0_2 (hO : Ok m) : ∀ t : Fin (cfgM m hO).N, (cfgM m hO).idle 2 (grid0.coords t) = false :=
  (fun _ => rfl : ∀ t : Fin grid0.N, idle0 2 (grid0.coords t) = false)
/-- Window 3 is never idle (an input). -/
theorem liveAt0_3 (hO : Ok m) : ∀ t : Fin (cfgM m hO).N, (cfgM m hO).idle 3 (grid0.coords t) = false :=
  (fun _ => rfl : ∀ t : Fin grid0.N, idle0 3 (grid0.coords t) = false)
/-- Window 4 is never idle (an input). -/
theorem liveAt0_4 (hO : Ok m) : ∀ t : Fin (cfgM m hO).N, (cfgM m hO).idle 4 (grid0.coords t) = false :=
  (fun _ => rfl : ∀ t : Fin grid0.N, idle0 4 (grid0.coords t) = false)
/-- Window 5 is never idle (an input). -/
theorem liveAt0_5 (hO : Ok m) : ∀ t : Fin (cfgM m hO).N, (cfgM m hO).idle 5 (grid0.coords t) = false :=
  (fun _ => rfl : ∀ t : Fin grid0.N, idle0 5 (grid0.coords t) = false)
/-- Window 6 is never idle (an input). -/
theorem liveAt0_6 (hO : Ok m) : ∀ t : Fin (cfgM m hO).N, (cfgM m hO).idle 6 (grid0.coords t) = false :=
  (fun _ => rfl : ∀ t : Fin grid0.N, idle0 6 (grid0.coords t) = false)
/-- Window 7 is never idle (an input). -/
theorem liveAt0_7 (hO : Ok m) : ∀ t : Fin (cfgM m hO).N, (cfgM m hO).idle 7 (grid0.coords t) = false :=
  (fun _ => rfl : ∀ t : Fin grid0.N, idle0 7 (grid0.coords t) = false)
/-- Window 8 is never idle (an input). -/
theorem liveAt0_8 (hO : Ok m) : ∀ t : Fin (cfgM m hO).N, (cfgM m hO).idle 8 (grid0.coords t) = false :=
  (fun _ => rfl : ∀ t : Fin grid0.N, idle0 8 (grid0.coords t) = false)
/-- Window 9 is never idle (an input). -/
theorem liveAt0_9 (hO : Ok m) : ∀ t : Fin (cfgM m hO).N, (cfgM m hO).idle 9 (grid0.coords t) = false :=
  (fun _ => rfl : ∀ t : Fin grid0.N, idle0 9 (grid0.coords t) = false)
/-- Window 10 is never idle (an input). -/
theorem liveAt0_10 (hO : Ok m) : ∀ t : Fin (cfgM m hO).N, (cfgM m hO).idle 10 (grid0.coords t) = false :=
  (fun _ => rfl : ∀ t : Fin grid0.N, idle0 10 (grid0.coords t) = false)
/-- Window 11 is never idle (an input). -/
theorem liveAt0_11 (hO : Ok m) : ∀ t : Fin (cfgM m hO).N, (cfgM m hO).idle 11 (grid0.coords t) = false :=
  (fun _ => rfl : ∀ t : Fin grid0.N, idle0 11 (grid0.coords t) = false)
/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S1024x64 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S256x64 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S256x64 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1024x64 .fp8e4m3 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S4x4x64 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1024x64 .fp8e4m3 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S4x4x64 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x64 .i32 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1x256x2048 .fp8e4m3 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S1x4x2048 .f32 := spec0_9.stage ((cfgM m hO).slots t 9)
abbrev hs0_9 (hO : Ok m) (t : Fin (cfgM m hO).N) : (ms0_9 m hO t).IsWhole := hstage0_9 (((cfgM m hO).slots t 9).cast nbuf0_9)
abbrev ms0_10 (hO : Ok m) (t : Fin (cfgM m hO).N) : Memref sig .tc .vmem S1x256x2048 .fp8e4m3 := spec0_10.stage ((cfgM m hO).slots t 10)
abbrev hs0_10 (hO : Ok m) (t : Fin (cfgM m hO).N) : (ms0_10 m hO t).IsWhole := hstage0_10 (((cfgM m hO).slots t 10).cast nbuf0_10)
abbrev ms0_11 (hO : Ok m) (t : Fin (cfgM m hO).N) : Memref sig .tc .vmem S1x4x2048 .f32 := spec0_11.stage ((cfgM m hO).slots t 11)
abbrev hs0_11 (hO : Ok m) (t : Fin (cfgM m hO).N) : (ms0_11 m hO t).IsWhole := hstage0_11 (((cfgM m hO).slots t 11).cast nbuf0_11)
abbrev ms0_12 (hO : Ok m) (t : Fin (cfgM m hO).N) : Memref sig .tc .vmem S64x1024 .bf16 := spec0_12.stage ((cfgM m hO).slots t 12)
abbrev hs0_12 (hO : Ok m) (t : Fin (cfgM m hO).N) : (ms0_12 m hO t).IsWhole := hstage0_12 (((cfgM m hO).slots t 12).cast nbuf0_12)
abbrev ms0_13 (hO : Ok m) (t : Fin (cfgM m hO).N) : Memref sig .tc .vmem S256x64 .fp8e4m3 := spec0_13.stage ((cfgM m hO).slots t 13)
abbrev hs0_13 (hO : Ok m) (t : Fin (cfgM m hO).N) : (ms0_13 m hO t).IsWhole := hstage0_13 (((cfgM m hO).slots t 13).cast nbuf0_13)
abbrev ms0_14 (hO : Ok m) (t : Fin (cfgM m hO).N) : Memref sig .tc .vmem S4x64 .f32 := spec0_14.stage ((cfgM m hO).slots t 14)
abbrev hs0_14 (hO : Ok m) (t : Fin (cfgM m hO).N) : (ms0_14 m hO t).IsWhole := hstage0_14 (((cfgM m hO).slots t 14).cast nbuf0_14)
abbrev ms0_15 (hO : Ok m) (t : Fin (cfgM m hO).N) : Memref sig .tc .vmem S256x64 .fp8e4m3 := spec0_15.stage ((cfgM m hO).slots t 15)
abbrev hs0_15 (hO : Ok m) (t : Fin (cfgM m hO).N) : (ms0_15 m hO t).IsWhole := hstage0_15 (((cfgM m hO).slots t 15).cast nbuf0_15)
abbrev ms0_16 (hO : Ok m) (t : Fin (cfgM m hO).N) : Memref sig .tc .vmem S4x64 .f32 := spec0_16.stage ((cfgM m hO).slots t 16)
abbrev hs0_16 (hO : Ok m) (t : Fin (cfgM m hO).N) : (ms0_16 m hO t).IsWhole := hstage0_16 (((cfgM m hO).slots t 16).cast nbuf0_16)
abbrev ms0_17 (hO : Ok m) (t : Fin (cfgM m hO).N) : Memref sig .tc .vmem S1x64 .i32 := spec0_17.stage ((cfgM m hO).slots t 17)
abbrev hs0_17 (hO : Ok m) (t : Fin (cfgM m hO).N) : (ms0_17 m hO t).IsWhole := hstage0_17 (((cfgM m hO).slots t 17).cast nbuf0_17)
abbrev ms0_18 (hO : Ok m) (t : Fin (cfgM m hO).N) : Memref sig .tc .vmem S1x64 .i32 := spec0_18.stage ((cfgM m hO).slots t 18)
abbrev hs0_18 (hO : Ok m) (t : Fin (cfgM m hO).N) : (ms0_18 m hO t).IsWhole := hstage0_18 (((cfgM m hO).slots t 18).cast nbuf0_18)
/-- The scratch operands: whole scoped buffers of the kernel's own, passed beside the windows. -/
abbrev scM0_0 : Memref sig .tc .vmem S1024x64 .bf16 := Memref.whole cc0_scratch0
abbrev scM0_1 : Memref sig .tc .vmem S1024x128 .bf16 := Memref.whole cc0_scratch1
abbrev scM0_2 : Memref sig .tc .vmem S256x64 .bf16 := Memref.whole cc0_scratch2
abbrev scM0_3 : Memref sig .tc .vmem S256x128 .bf16 := Memref.whole cc0_scratch3
abbrev scM0_4 : Memref sig .tc .vmem S64x128 .f32 := Memref.whole cc0_scratch4
abbrev scM0_5 : Memref sig .tc .vmem S64x128 .f32 := Memref.whole cc0_scratch5
abbrev scM0_6 : Memref sig .tc .vmem S256x128 .f32 := Memref.whole cc0_scratch6
abbrev scM0_7 : Memref sig .tc .vmem S128x128 .f32 := Memref.whole cc0_scratch7
abbrev scM0_8 : Memref sig .tc .vmem S1024x128 .f32 := Memref.whole cc0_scratch8
/-- The scratch `arg21` the kernel carries between points, as a view: what it holds is stated through it. -/
abbrev VS0_0 : View sig .tc .vmem S1024x64 .bf16 := scM0_0.view
/-- The scratch `arg22` the kernel carries between points, as a view: what it holds is stated through it. -/
abbrev VS0_1 : View sig .tc .vmem S1024x128 .bf16 := scM0_1.view
/-- The scratch `arg23` the kernel carries between points, as a view: what it holds is stated through it. -/
abbrev VS0_2 : View sig .tc .vmem S256x64 .bf16 := scM0_2.view
/-- The scratch `arg24` the kernel carries between points, as a view: what it holds is stated through it. -/
abbrev VS0_3 : View sig .tc .vmem S256x128 .bf16 := scM0_3.view
/-- The scratch `arg25` the kernel carries between points, as a view: what it holds is stated through it. -/
abbrev VS0_4 : View sig .tc .vmem S64x128 .f32 := scM0_4.view
/-- The scratch `arg26` the kernel carries between points, as a view: what it holds is stated through it. -/
abbrev VS0_5 : View sig .tc .vmem S64x128 .f32 := scM0_5.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d)) ∗ (∃ r, prngReg c r)) := by
  unfold Pipeline.ΦA; rw [scopedRest0_eq]; simp only [scM0_0, scM0_1, scM0_2, scM0_3, scM0_4, scM0_5, scM0_6, scM0_7, scM0_8, owns_whole]; try rfl

end Cert.KernelIdeal.Gen

end
-- ==== Proof.Named.lean ====
module

public import proofs.«01_k».proof.Proof.Kit
public import Idealize.ShloMosaic.Lib.Pointwise

@[expose] public section

set_option maxRecDepth 16384

/-! # The values the kernel leaves in its buffers, by name -/

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The rows of the new tokens' group of four sequences start at row `16 * (b / 4)`. -/
theorem k0_off2_eq : ∀ i : grid0.Coords, k0_off2 i = ![16 * ((i 0).val / 4), 0] := by decide +kernel
instance closedOff_k0_off2 (i : grid0.Coords) : ClosedOff (k0_off2 i) := ⟨![16 * ((i 0).val / 4), 0], k0_off2_eq i⟩
/-- The same for the values. -/
theorem k0_off6_eq : ∀ i : grid0.Coords, k0_off6 i = ![16 * ((i 0).val / 4), 0] := by decide +kernel
instance closedOff_k0_off6 (i : grid0.Coords) : ClosedOff (k0_off6 i) := ⟨![16 * ((i 0).val / 4), 0], k0_off6_eq i⟩

/-! ### What the first grid point leaves -/

/-- Every fourth row of the scales of the new tokens, from row `h`: head `h` of every sequence. -/
def headRows (h : ℕ) (inb : ∀ a, S64x128.size a = 0 ∨ (![h, 0] : Fin 2 → ℕ) a + (![4, 1] : Fin 2 → ℕ) a * (S64x128.size a - 1) < S256x128.size a)
    (X : Vec F S256x128 .f32) : Vec F S64x128 .f32 :=
  fun x => X (LoadRect.idx { off := ![h, 0], size := S64x128.size, stride := ![4, 1], inb := inb } x)

/-- The quantised new keys. -/
def kncV (kn : Vec F S256x64 .bf16) : Vec F S256x64 .fp8e4m3 := k0_pay15 (k0_pay9 kn) (k0_pay11 kn) (k0_pay12 kn) k0_pay13
/-- The quantised new keys, held as bf16. -/
def nkbV (kn : Vec F S256x64 .bf16) : Vec F S256x64 .bf16 := k0_pay17 (k0_pay9 kn) (k0_pay11 kn) (k0_pay12 kn) k0_pay13
/-- The scales of the new keys, repeated along the lanes. -/
def sckV (kn : Vec F S256x64 .bf16) : Vec F S256x128 .f32 := k0_pay16 (k0_pay11 kn) (k0_pay12 kn) k0_pay13
/-- The quantised new values. -/
def vncV (vn : Vec F S256x64 .bf16) : Vec F S256x64 .fp8e4m3 := k0_pay32 vn
/-- The quantised new values, held as bf16, twice side by side. -/
def nvbV (vn : Vec F S256x64 .bf16) : Vec F S256x128 .bf16 := k0_pay34 (k0_pay32 vn)
/-- The scales of the new values, repeated along the lanes. -/
def scvV (vn : Vec F S256x64 .bf16) : Vec F S256x128 .f32 := k0_pay33 (k0_pay31 vn)
/-- The sink keys as bf16. -/
def skbV (sk : Vec F S1024x64 .fp8e4m3) : Vec F S1024x64 .bf16 := k0_pay48 sk
/-- The sink values as bf16, twice side by side. -/
def svbV (sv : Vec F S1024x64 .fp8e4m3) : Vec F S1024x128 .bf16 := k0_pay56 (k0_pay49 sv)

/-- The stores that gather the scales of the sink keys, the last first. -/
def trkL (sks : Vec F S4x4x64 .f32) : List (View.Piece (Elt F) S128x128 .f32) :=
  [⟨Rect.unit ![12, 0] S4x64.size inb_S128x128_S4x64_12_0, k0_pay23 (View.ld sks (Rect.unit ![3, 0, 0] S1x4x64.size inb_S4x4x64_S1x4x64_3_0_0))⟩,
   ⟨Rect.unit ![8, 0] S4x64.size inb_S128x128_S4x64_8_0, k0_pay22 (View.ld sks (Rect.unit ![2, 0, 0] S1x4x64.size inb_S4x4x64_S1x4x64_2_0_0))⟩,
   ⟨Rect.unit ![4, 0] S4x64.size inb_S128x128_S4x64_4_0, k0_pay21 (View.ld sks (Rect.unit ![1, 0, 0] S1x4x64.size inb_S4x4x64_S1x4x64_1_0_0))⟩,
   ⟨Rect.unit ![0, 0] S4x64.size inb_S128x128_S4x64_0_0, k0_pay20 (k0_pay19 (View.ld sks (Rect.unit ![0, 0, 0] S1x4x64.size inb_S4x4x64_S1x4x64_0_0_0)))⟩,
   ⟨Rect.unit ![0, 0] S128x128.size inb_S128x128_S128x128_0_0, k0_pay18⟩]
/-- The scales of the sink keys (lanes 0 to 15) and of the new keys (lanes 16 to 31), a row for every sequence. -/
def kscV (kn : Vec F S256x64 .bf16) (sks : Vec F S4x4x64 .f32) : Vec F S64x128 .f32 :=
  k0_pay27 (k0_pay24 (View.canon (trkL sks))) (iota .tc S64x128 32 [1] iota_S64x128_d1_w32) (k0_pay25 (headRows 0 (by decide) (sckV kn)))
    (headRows 1 (by decide) (sckV kn)) 3#32 (headRows 2 (by decide) (sckV kn)) (headRows 3 (by decide) (sckV kn))
/-- The same stores and the store of the finished rows over them. -/
def trkL' (kn : Vec F S256x64 .bf16) (sks : Vec F S4x4x64 .f32) : List (View.Piece (Elt F) S128x128 .f32) :=
  ⟨Rect.unit ![0, 0] S64x128.size inb_S128x128_S64x128_0_0, k0_pay28 (k0_pay24 (View.canon (trkL sks))) (iota .tc S64x128 32 [1] iota_S64x128_d1_w32) (k0_pay25 (headRows 0 (by decide) (sckV kn)))
    (headRows 1 (by decide) (sckV kn)) 3#32 (headRows 2 (by decide) (sckV kn)) (headRows 3 (by decide) (sckV kn))⟩ :: trkL sks
/-- The scales of the new keys, transposed. -/
def knsV (kn : Vec F S256x64 .bf16) (sks : Vec F S4x4x64 .f32) : Vec F S4x64 .f32 := k0_pay29 (View.canon (trkL' kn sks))

/-- The stores that gather the scales of the sink values, over what the keys left. -/
def trvL (kn : Vec F S256x64 .bf16) (sks svs : Vec F S4x4x64 .f32) : List (View.Piece (Elt F) S128x128 .f32) :=
  ⟨Rect.unit ![12, 0] S4x64.size inb_S128x128_S4x64_12_0, k0_pay40 (View.ld svs (Rect.unit ![3, 0, 0] S1x4x64.size inb_S4x4x64_S1x4x64_3_0_0))⟩ ::
   ⟨Rect.unit ![8, 0] S4x64.size inb_S128x128_S4x64_8_0, k0_pay39 (k0_pay38 (View.ld svs (Rect.unit ![2, 0, 0] S1x4x64.size inb_S4x4x64_S1x4x64_2_0_0)))⟩ ::
   ⟨Rect.unit ![4, 0] S4x64.size inb_S128x128_S4x64_4_0, k0_pay37 (View.ld svs (Rect.unit ![1, 0, 0] S1x4x64.size inb_S4x4x64_S1x4x64_1_0_0))⟩ ::
   ⟨Rect.unit ![0, 0] S4x64.size inb_S128x128_S4x64_0_0, k0_pay36 (View.ld svs (Rect.unit ![0, 0, 0] S1x4x64.size inb_S4x4x64_S1x4x64_0_0_0))⟩ ::
   ⟨Rect.unit ![0, 0] S128x128.size inb_S128x128_S128x128_0_0, k0_pay35⟩ :: trkL' kn sks
/-- The scales of the sink values (lanes 0 to 15) and of the new values (lanes 16 to 31), a row for every sequence. -/
def vscV (kn vn : Vec F S256x64 .bf16) (sks svs : Vec F S4x4x64 .f32) : Vec F S64x128 .f32 :=
  k0_pay45 (k0_pay41 (View.canon (trvL kn sks svs))) (iota .tc S64x128 32 [1] iota_S64x128_d1_w32)
    (k0_pay42 (headRows 0 (by decide) (scvV vn)) (headRows 1 (by decide) (scvV vn)) (headRows 2 (by decide) (scvV vn)))
    (headRows 3 (by decide) (scvV vn)) k0_pay43 3#32
/-- The same stores and the store of the finished rows over them. -/
def trvL' (kn vn : Vec F S256x64 .bf16) (sks svs : Vec F S4x4x64 .f32) : List (View.Piece (Elt F) S128x128 .f32) :=
  ⟨Rect.unit ![0, 0] S64x128.size inb_S128x128_S64x128_0_0, k0_pay46 (k0_pay41 (View.canon (trvL kn sks svs))) (iota .tc S64x128 32 [1] iota_S64x128_d1_w32)
    (k0_pay42 (headRows 0 (by decide) (scvV vn)) (headRows 1 (by decide) (scvV vn)) (headRows 2 (by decide) (scvV vn)))
    (headRows 3 (by decide) (scvV vn)) k0_pay43 3#32⟩ :: trvL kn sks svs
/-- The scales of the new values, transposed. -/
def vnsV (kn vn : Vec F S256x64 .bf16) (sks svs : Vec F S4x4x64 .f32) : Vec F S4x64 .f32 := k0_pay47 (View.canon (trvL' kn vn sks svs))

/-! ### What every grid point computes -/

section Tile

variable (i : grid0.Coords) (x2 : Vec F S1024x64 .bf16) (x10 : Vec F S1x256x2048 .fp8e4m3) (x11 : Vec F S1x4x2048 .f32)
  (x12 : Vec F S1x256x2048 .fp8e4m3) (x13 : Vec F S1x4x2048 .f32) (x21 : Vec F S1024x64 .bf16) (x22 : Vec F S1024x128 .bf16)
  (x23 : Vec F S256x64 .bf16) (x24 : Vec F S256x128 .bf16) (x25 x26 : Vec F S64x128 .f32) (wd : Elt F .i32)

/-- The sixteen query rows of the sequence. -/
def tQ : Vec F S16x64 .bf16 := View.ld x2 (Rect.unit (s := S1024x64) (k0_off1 i) S16x64.size (k0_off1_inb i))
/-- The scores of the queries with the sixteen sink keys of the sequence and the sixteen new keys of its group. -/
def tS0 : FVec F S16x32 .f32 :=
  k0_pay59 (tQ i x2) (View.ld x21 (Rect.unit (s := S1024x64) (k0_off1 i) S16x64.size (k0_off1_inb i)))
    (View.ld x23 (Rect.unit (s := S256x64) (k0_off2 i) S16x64.size (k0_off2_inb i)))
    (View.ld x25 (Rect.unit (s := S64x128) (k0_off3 i) S1x128.size (k0_off3_inb i)))
/-- The first of these scores scaled, -/
def tR3 : FVec F S16x32 .f32 := k0_pay60 (k0_pay58 i) (tS0 i x2 x21 x23 x25) (FloatOps.ofBits .f32 1040187392#32)
def tR6 := k0_pay63 (F := F) (k0_pay58 i) (tS0 i x2 x21 x23 x25) (FloatOps.ofBits .f32 1040187392#32)
def tR5 := k0_pay62 (k0_pay57 (tQ i x2)) x10 x11 wd
/-- The rows 0 to 7 of the point's result. -/
def tileLo : Vec F S8x128 .f32 :=
  k0_pay1 (iota .tc S8x128 32 [0] iota_S8x128_d0_w32)
    (k0_pay70 (tR3 i x2 x21 x23 x25) (k0_pay61 x13) (tR5 i x2 x10 x11 wd) (tR6 i x2 x21 x23 x25)
      (View.ld x26 (Rect.unit (s := S64x128) (k0_off3 i) S1x128.size (k0_off3_inb i)))
      (View.ld x22 (Rect.unit (s := S1024x128) (k0_off5 i) S16x128.size (k0_off5_inb i)))
      (View.ld x24 (Rect.unit (s := S256x128) (k0_off6 i) S16x128.size (k0_off6_inb i))) x12)
    (k0_pay71 (tR3 i x2 x21 x23 x25) (k0_pay61 x13) (tR5 i x2 x10 x11 wd) (tR6 i x2 x21 x23 x25)
      (View.ld x26 (Rect.unit (s := S64x128) (k0_off3 i) S1x128.size (k0_off3_inb i)))
      (View.ld x22 (Rect.unit (s := S1024x128) (k0_off5 i) S16x128.size (k0_off5_inb i)))
      (View.ld x24 (Rect.unit (s := S256x128) (k0_off6 i) S16x128.size (k0_off6_inb i))) x12) k0_pay72
/-- The rows 8 to 15 of the point's result. -/
def tileHi : Vec F S8x128 .f32 :=
  k0_pay2
    (k0_pay68 (tR3 i x2 x21 x23 x25) (tR5 i x2 x10 x11 wd) (tR6 i x2 x21 x23 x25)
      (View.ld x26 (Rect.unit (s := S64x128) (k0_off3 i) S1x128.size (k0_off3_inb i)))
      (View.ld x22 (Rect.unit (s := S1024x128) (k0_off5 i) S16x128.size (k0_off5_inb i)))
      (View.ld x24 (Rect.unit (s := S256x128) (k0_off6 i) S16x128.size (k0_off6_inb i))))
    (k0_pay69 (tR3 i x2 x21 x23 x25) (k0_pay61 x13) (tR5 i x2 x10 x11 wd) (tR6 i x2 x21 x23 x25) x12)
    (iota .tc S8x128 32 [0] iota_S8x128_d0_w32)

end Tile

/-- The collected result with the rows of the point `i` put in. -/
def finPut (i : grid0.Coords) (lo hi : Vec F S8x128 .f32) (x : Vec F S1024x128 .f32) : Vec F S1024x128 .f32 := fun j =>
  if (j 0).val / 16 = (i 0).val then
    (if h : (j 0).val % 16 < 8 then lo (ix2 (⟨(j 0).val % 16, h⟩ : Fin 8) (j 1 : Fin 128)) else hi (ix2 (⟨(j 0).val % 16 - 8, by omega⟩ : Fin 8) (j 1 : Fin 128)))
  else x j

/-- Every sixteenth row of the collected result, from row `r`: head `r` of every sequence. -/
def qRows (r : ℕ) (inb : ∀ a, S64x128.size a = 0 ∨ (![r, 0] : Fin 2 → ℕ) a + (![16, 1] : Fin 2 → ℕ) a * (S64x128.size a - 1) < S1024x128.size a)
    (X : Vec F S1024x128 .f32) : Vec F S64x128 .f32 :=
  fun x => X (LoadRect.idx { off := ![r, 0], size := S64x128.size, stride := ![16, 1], inb := inb } x)

/-- The stores of the result from the collected rows, the last first. -/
def outL (X : Vec F S1024x128 .f32) : List (View.Piece (Elt F) S64x1024 .bf16) :=
  [⟨Rect.unit ![0, 896] ![64, 128] inb_S64x1024_S64x128_0_896, k0_pay5 k0_pay50 (qRows 14 (by decide) X) (qRows 15 (by decide) X)⟩,
   ⟨Rect.unit ![0, 768] ![64, 128] inb_S64x1024_S64x128_0_768, k0_pay4 k0_pay50 (qRows 12 (by decide) X) (qRows 13 (by decide) X)⟩,
   ⟨Rect.unit ![0, 640] ![64, 128] inb_S64x1024_S64x128_0_640, k0_pay3 k0_pay50 (qRows 10 (by decide) X) (qRows 11 (by decide) X)⟩,
   ⟨Rect.unit ![0, 512] S64x128.size inb_S64x1024_S64x128_0_512, k0_pay55 (qRows 8 (by decide) X) (qRows 9 (by decide) X)⟩,
   ⟨Rect.unit ![0, 384] S64x128.size inb_S64x1024_S64x128_0_384, k0_pay54 (qRows 6 (by decide) X) (qRows 7 (by decide) X)⟩,
   ⟨Rect.unit ![0, 256] S64x128.size inb_S64x1024_S64x128_0_256, k0_pay53 (qRows 4 (by decide) X) (qRows 5 (by decide) X)⟩,
   ⟨Rect.unit ![0, 128] S64x128.size inb_S64x1024_S64x128_0_128, k0_pay52 (qRows 2 (by decide) X) (qRows 3 (by decide) X)⟩,
   ⟨Rect.unit ![0, 0] S64x128.size inb_S64x1024_S64x128_0_0, k0_pay51 (qRows 0 (by decide) X) (qRows 1 (by decide) X)⟩]

end Cert.KernelIdeal.Gen

end
-- ==== Proof.RunB.lean ====
module

public import proofs.«01_k».proof.Proof.Named

@[expose] public section

set_option maxRecDepth 16384

/-! # The run of a grid point that is neither the first nor the last -/

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 2000000 in
/-- What the point leaves: the pieces stored into each buffer it writes (the last first), with the triple of the body. -/
noncomputable def kernelRun0_B (c : Dev nD) (i : grid0.Coords) (arg2 : Memref sig .tc .vmem S1024x64 .bf16) (harg2 : arg2.IsWhole) (arg3 : Memref sig .tc .vmem S256x64 .bf16) (harg3 : arg3.IsWhole) (arg4 : Memref sig .tc .vmem S256x64 .bf16) (harg4 : arg4.IsWhole) (arg5 : Memref sig .tc .vmem S1024x64 .fp8e4m3) (harg5 : arg5.IsWhole) (arg6 : Memref sig .tc .vmem S4x4x64 .f32) (harg6 : arg6.IsWhole) (arg7 : Memref sig .tc .vmem S1024x64 .fp8e4m3) (harg7 : arg7.IsWhole) (arg8 : Memref sig .tc .vmem S4x4x64 .f32) (harg8 : arg8.IsWhole) (arg9 : Memref sig .tc .vmem S1x64 .i32) (harg9 : arg9.IsWhole) (arg10 : Memref sig .tc .vmem S1x256x2048 .fp8e4m3) (harg10 : arg10.IsWhole) (arg11 : Memref sig .tc .vmem S1x4x2048 .f32) (harg11 : arg11.IsWhole) (arg12 : Memref sig .tc .vmem S1x256x2048 .fp8e4m3) (harg12 : arg12.IsWhole) (arg13 : Memref sig .tc .vmem S1x4x2048 .f32) (harg13 : arg13.IsWhole) (arg14 : Memref sig .tc .vmem S64x1024 .bf16) (harg14 : arg14.IsWhole) (arg15 : Memref sig .tc .vmem S256x64 .fp8e4m3) (harg15 : arg15.IsWhole) (arg16 : Memref sig .tc .vmem S4x64 .f32) (harg16 : arg16.IsWhole) (arg17 : Memref sig .tc .vmem S256x64 .fp8e4m3) (harg17 : arg17.IsWhole) (arg18 : Memref sig .tc .vmem S4x64 .f32) (harg18 : arg18.IsWhole) (arg19 : Memref sig .tc .vmem S1x64 .i32) (harg19 : arg19.IsWhole) (arg20 : Memref sig .tc .vmem S1x64 .i32) (harg20 : arg20.IsWhole) (arg21 : Memref sig .tc .vmem S1024x64 .bf16) (harg21 : arg21.IsWhole) (arg22 : Memref sig .tc .vmem S1024x128 .bf16) (harg22 : arg22.IsWhole) (arg23 : Memref sig .tc .vmem S256x64 .bf16) (harg23 : arg23.IsWhole) (arg24 : Memref sig .tc .vmem S256x128 .bf16) (harg24 : arg24.IsWhole) (arg25 : Memref sig .tc .vmem S64x128 .f32) (harg25 : arg25.IsWhole) (arg26 : Memref sig .tc .vmem S64x128 .f32) (harg26 : arg26.IsWhole) (arg27 : Memref sig .tc .vmem S256x128 .f32) (harg27 : arg27.IsWhole) (arg28 : Memref sig .tc .vmem S128x128 .f32) (harg28 : arg28.IsWhole) (arg29 : Memref sig .tc .vmem S1024x128 .f32) (harg29 : arg29.IsWhole) (hc0 : ¬cond0_0 i) (hc1 : ¬cond0_1 i)
    (x2 : Vec F S1024x64 .bf16) (x10 : Vec F S1x256x2048 .fp8e4m3) (x11 : Vec F S1x4x2048 .f32) (x12 : Vec F S1x256x2048 .fp8e4m3) (x13 : Vec F S1x4x2048 .f32) (x21 : Vec F S1024x64 .bf16) (x22 : Vec F S1024x128 .bf16) (x23 : Vec F S256x64 .bf16) (x24 : Vec F S256x128 .bf16) (x25 : Vec F S64x128 .f32) (x26 : Vec F S64x128 .f32) (x29 : Vec F S1024x128 .f32) (xt0 : TbBuf0 (F := F) c tbM0_0) :
    { L29 : List (View.Piece (Elt F) S1024x128 .f32) //
      ∀ (E : Set ℕ) (K : PUnit → sProp 𝕄),
        iprop(owns (c : Thread nD τ) arg2 fullShare x2 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg29 fullShare x29 ∗ tbPt0 c tbM0_0 xt0
            ∗ (iprop(owns (c : Thread nD τ) arg2 fullShare x2 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ (arg29.view.loc (c : Thread nD τ) ↦[arg29.view.set]{fullShare} arg29.view.writes (Elt F) (harg29.unread x29) L29) ∗ tbPt0 c tbM0_0 xt0) -∗ K ⟨⟩))
          ⊢ wp frame (wpE (defs₀ (F := F)) Variants.none c none) E (cc0_sink_ring_decode i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K } := by
  refine ⟨?_, fun E K => ?run⟩
  case run =>
    simp only [cc0_sink_ring_decode_eq_skeleton]; unfold cc0_sink_ring_decode_skel
    simp only [k0_part10_eq_skeleton, k0_part11_eq_skeleton, k0_part12_eq_skeleton, k0_part9_eq_skeleton]
    unfold owns
    iintro ⟨⟨%f2, %hf2, H2⟩, ⟨%f10, %hf10, H10⟩, ⟨%f11, %hf11, H11⟩, ⟨%f12, %hf12, H12⟩, ⟨%f13, %hf13, H13⟩, ⟨%f21, %hf21, H21⟩, ⟨%f22, %hf22, H22⟩, ⟨%f23, %hf23, H23⟩, ⟨%f24, %hf24, H24⟩, ⟨%f25, %hf25, H25⟩, ⟨%f26, %hf26, H26⟩, ⟨%f29, %hf29, H29⟩, HT0, Hk⟩
    obtain rfl := harg2.eq_unread hf2; obtain rfl := harg10.eq_unread hf10; obtain rfl := harg11.eq_unread hf11; obtain rfl := harg12.eq_unread hf12; obtain rfl := harg13.eq_unread hf13; obtain rfl := harg21.eq_unread hf21; obtain rfl := harg22.eq_unread hf22; obtain rfl := harg23.eq_unread hf23; obtain rfl := harg24.eq_unread hf24; obtain rfl := harg25.eq_unread hf25; obtain rfl := harg26.eq_unread hf26; obtain rfl := harg29.eq_unread hf29
    sl_exec (disch := first | sl_exact hc0 | sl_exact hc1)
    sl_step
    iapply Hk
    isplitl [H2]
    · iexists _; isplitr; · ipureintro; exact harg2.read_unread _
      iexact H2
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H21]
    · iexists _; isplitr; · ipureintro; exact harg21.read_unread _
      iexact H21
    isplitl [H22]
    · iexists _; isplitr; · ipureintro; exact harg22.read_unread _
      iexact H22
    isplitl [H23]
    · iexists _; isplitr; · ipureintro; exact harg23.read_unread _
      iexact H23
    isplitl [H24]
    · iexists _; isplitr; · ipureintro; exact harg24.read_unread _
      iexact H24
    isplitl [H25]
    · iexists _; isplitr; · ipureintro; exact harg25.read_unread _
      iexact H25
    isplitl [H26]
    · iexists _; isplitr; · ipureintro; exact harg26.read_unread _
      iexact H26
    isplitl [H29]; · iexact H29
    iexact HT0

end Cert.KernelIdeal.Gen

end
-- ==== Proof.RunC.lean ====
module

public import proofs.«01_k».proof.Proof.RunB

@[expose] public section

set_option maxRecDepth 16384

/-! # The run of the last grid point -/

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
/-- What the point leaves: the pieces stored into each buffer it writes (the last first), with the triple of the body. -/
noncomputable def kernelRun0_C (c : Dev nD) (i : grid0.Coords) (arg2 : Memref sig .tc .vmem S1024x64 .bf16) (harg2 : arg2.IsWhole) (arg3 : Memref sig .tc .vmem S256x64 .bf16) (harg3 : arg3.IsWhole) (arg4 : Memref sig .tc .vmem S256x64 .bf16) (harg4 : arg4.IsWhole) (arg5 : Memref sig .tc .vmem S1024x64 .fp8e4m3) (harg5 : arg5.IsWhole) (arg6 : Memref sig .tc .vmem S4x4x64 .f32) (harg6 : arg6.IsWhole) (arg7 : Memref sig .tc .vmem S1024x64 .fp8e4m3) (harg7 : arg7.IsWhole) (arg8 : Memref sig .tc .vmem S4x4x64 .f32) (harg8 : arg8.IsWhole) (arg9 : Memref sig .tc .vmem S1x64 .i32) (harg9 : arg9.IsWhole) (arg10 : Memref sig .tc .vmem S1x256x2048 .fp8e4m3) (harg10 : arg10.IsWhole) (arg11 : Memref sig .tc .vmem S1x4x2048 .f32) (harg11 : arg11.IsWhole) (arg12 : Memref sig .tc .vmem S1x256x2048 .fp8e4m3) (harg12 : arg12.IsWhole) (arg13 : Memref sig .tc .vmem S1x4x2048 .f32) (harg13 : arg13.IsWhole) (arg14 : Memref sig .tc .vmem S64x1024 .bf16) (harg14 : arg14.IsWhole) (arg15 : Memref sig .tc .vmem S256x64 .fp8e4m3) (harg15 : arg15.IsWhole) (arg16 : Memref sig .tc .vmem S4x64 .f32) (harg16 : arg16.IsWhole) (arg17 : Memref sig .tc .vmem S256x64 .fp8e4m3) (harg17 : arg17.IsWhole) (arg18 : Memref sig .tc .vmem S4x64 .f32) (harg18 : arg18.IsWhole) (arg19 : Memref sig .tc .vmem S1x64 .i32) (harg19 : arg19.IsWhole) (arg20 : Memref sig .tc .vmem S1x64 .i32) (harg20 : arg20.IsWhole) (arg21 : Memref sig .tc .vmem S1024x64 .bf16) (harg21 : arg21.IsWhole) (arg22 : Memref sig .tc .vmem S1024x128 .bf16) (harg22 : arg22.IsWhole) (arg23 : Memref sig .tc .vmem S256x64 .bf16) (harg23 : arg23.IsWhole) (arg24 : Memref sig .tc .vmem S256x128 .bf16) (harg24 : arg24.IsWhole) (arg25 : Memref sig .tc .vmem S64x128 .f32) (harg25 : arg25.IsWhole) (arg26 : Memref sig .tc .vmem S64x128 .f32) (harg26 : arg26.IsWhole) (arg27 : Memref sig .tc .vmem S256x128 .f32) (harg27 : arg27.IsWhole) (arg28 : Memref sig .tc .vmem S128x128 .f32) (harg28 : arg28.IsWhole) (arg29 : Memref sig .tc .vmem S1024x128 .f32) (harg29 : arg29.IsWhole) (hc0 : ¬cond0_0 i) (hc1 : cond0_1 i)
    (x2 : Vec F S1024x64 .bf16) (x10 : Vec F S1x256x2048 .fp8e4m3) (x11 : Vec F S1x4x2048 .f32) (x12 : Vec F S1x256x2048 .fp8e4m3) (x13 : Vec F S1x4x2048 .f32) (x21 : Vec F S1024x64 .bf16) (x22 : Vec F S1024x128 .bf16) (x23 : Vec F S256x64 .bf16) (x24 : Vec F S256x128 .bf16) (x25 : Vec F S64x128 .f32) (x26 : Vec F S64x128 .f32) (x29 : Vec F S1024x128 .f32) (xt0 : TbBuf0 (F := F) c tbM0_0) :
    Σ' (L14 : List (View.Piece (Elt F) S64x1024 .bf16)), { L29 : List (View.Piece (Elt F) S1024x128 .f32) //
      ∀ (E : Set ℕ) (K : PUnit → sProp 𝕄),
        iprop(owns (c : Thread nD τ) arg2 fullShare x2 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg29 fullShare x29 ∗ (∃ d, owns (c : Thread nD τ) arg14 fullShare d) ∗ tbPt0 c tbM0_0 xt0
            ∗ (iprop(owns (c : Thread nD τ) arg2 fullShare x2 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ (∃ f, arg14.view.loc (c : Thread nD τ) ↦[arg14.view.set]{fullShare} arg14.view.writes (Elt F) f L14) ∗ (arg29.view.loc (c : Thread nD τ) ↦[arg29.view.set]{fullShare} arg29.view.writes (Elt F) (harg29.unread x29) L29) ∗ tbPt0 c tbM0_0 xt0) -∗ K ⟨⟩))
          ⊢ wp frame (wpE (defs₀ (F := F)) Variants.none c none) E (cc0_sink_ring_decode i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K } := by
  refine ⟨?_, ?_, fun E K => ?run⟩
  case run =>
    simp only [cc0_sink_ring_decode_eq_skeleton]; unfold cc0_sink_ring_decode_skel
    simp only [k0_part10_eq_skeleton, k0_part11_eq_skeleton, k0_part12_eq_skeleton, k0_part9_eq_skeleton]
    unfold owns
    iintro ⟨⟨%f2, %hf2, H2⟩, ⟨%f10, %hf10, H10⟩, ⟨%f11, %hf11, H11⟩, ⟨%f12, %hf12, H12⟩, ⟨%f13, %hf13, H13⟩, ⟨%f21, %hf21, H21⟩, ⟨%f22, %hf22, H22⟩, ⟨%f23, %hf23, H23⟩, ⟨%f24, %hf24, H24⟩, ⟨%f25, %hf25, H25⟩, ⟨%f26, %hf26, H26⟩, ⟨%f29, %hf29, H29⟩, ⟨%d14, %f14, -, H14⟩, HT0, Hk⟩
    obtain rfl := harg2.eq_unread hf2; obtain rfl := harg10.eq_unread hf10; obtain rfl := harg11.eq_unread hf11; obtain rfl := harg12.eq_unread hf12; obtain rfl := harg13.eq_unread hf13; obtain rfl := harg21.eq_unread hf21; obtain rfl := harg22.eq_unread hf22; obtain rfl := harg23.eq_unread hf23; obtain rfl := harg24.eq_unread hf24; obtain rfl := harg25.eq_unread hf25; obtain rfl := harg26.eq_unread hf26; obtain rfl := harg29.eq_unread hf29
    sl_exec (disch := first | sl_exact hc0 | sl_exact hc1)
    sl_step
    iapply Hk
    isplitl [H2]
    · iexists _; isplitr; · ipureintro; exact harg2.read_unread _
      iexact H2
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H21]
    · iexists _; isplitr; · ipureintro; exact harg21.read_unread _
      iexact H21
    isplitl [H22]
    · iexists _; isplitr; · ipureintro; exact harg22.read_unread _
      iexact H22
    isplitl [H23]
    · iexists _; isplitr; · ipureintro; exact harg23.read_unread _
      iexact H23
    isplitl [H24]
    · iexists _; isplitr; · ipureintro; exact harg24.read_unread _
      iexact H24
    isplitl [H25]
    · iexists _; isplitr; · ipureintro; exact harg25.read_unread _
      iexact H25
    isplitl [H26]
    · iexists _; isplitr; · ipureintro; exact harg26.read_unread _
      iexact H26
    isplitl [H14]; · iexists _; iexact H14
    isplitl [H29]; · iexact H29
    iexact HT0

end Cert.KernelIdeal.Gen

end
-- ==== Proof.Triples.lean ====
module

public import proofs.«01_k».proof.Proof.RunC
public import Idealize.ShloMosaic.Lib.VecWindow
public import Idealize.ShloMosaic.Lib.WholeRead
public import Idealize.ShloMosaic.Lib.WritesUnit

@[expose] public section

set_option maxRecDepth 16384

/-! # The body at a middle and at the last grid point, with the values it leaves by name -/

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The word of the table of sequence lengths that the point reads. -/
def tWord (c : Dev nD) (i : grid0.Coords) (xt0 : TbBuf0 (F := F) c tbM0_0) : Elt F .i32 :=
  View.readAt (Elt F) tbM0_0.view (Rect.unit (s := S64) (k0_off4 i) S1.size (k0_off4_inb i)).toLoadRect xt0 (Shape.Idx.first (Nat.succ_pos 0))

section Reads
variable {sp : Space} {s : Shape} {e : EltTy} {m : Memref sig .tc sp s e}

/-- A load of a whole buffer reads its contents. -/
theorem readAt_whole (h : m.IsWhole) (X : s.Idx → Elt F e) {off : Fin s.rank → ℕ} (inb : ∀ a, off a + s.size a ≤ s.size a) :
    View.readAt (Elt F) m.view (Rect.unit off s.size inb).toLoadRect (h.unread X) = X := by
  rw [View.readAt_full, h.read_unread]

/-- A load of a part of a buffer reads that part of its contents. -/
theorem readAt_part (h : m.IsWhole) (X : s.Idx → Elt F e) (B : LoadRect s) :
    View.readAt (Elt F) m.view B (h.unread X) = fun x => X (B.idx x) := funext fun x => h.readAt_unread X B x

end Reads

/-- The rows `16 b + 8` to `16 b + 15`, -/
theorem k0_off7_hi : ∀ i : grid0.Coords, k0_off7 i 8#32 = ![16 * (i 0).val + 8, 0] := by decide +kernel
/-- and the rows `16 b` to `16 b + 7`. -/
theorem k0_off7_lo : ∀ i : grid0.Coords, k0_off7 i 0#32 = ![16 * (i 0).val, 0] := by decide +kernel

/-- The two stores of a point put its rows in. -/
theorem read_finPut (v : View sig .tc .vmem S1024x128 .f32) (f : v.ty.Contents (Elt F)) (i : grid0.Coords) (lo hi : Vec F S8x128 .f32) :
    v.read (Elt F) (v.writes (Elt F) f [⟨Rect.unit (s := S1024x128) (k0_off7 i 8#32) S8x128.size (k0_off7_inb i 1), hi⟩,
      ⟨Rect.unit (s := S1024x128) (k0_off7 i 0#32) S8x128.size (k0_off7_inb i 0), lo⟩]) = finPut i lo hi (v.read (Elt F) f) := by
  funext j
  have hb : (i 0).val < 64 := (i 0).isLt
  have hj : (j 0).val < 1024 := (j 0).isLt
  unfold finPut
  by_cases h : (j 0).val / 16 = (i 0).val
  · rw [if_pos h]
    by_cases h8 : (j 0).val % 16 < 8
    · rw [dif_pos h8]
      refine (View.read_writes_cons_rows_of_not_mem v f _ hi _ j (W := 8) (k0_off7_hi i) rfl (Or.inl (by omega))).trans ?_
      exact View.read_writes_cons_rows_of_mem v f _ lo _ j (ix2 (⟨(j 0).val % 16, h8⟩ : Fin 8) (j 1 : Fin 128)) (k0_off7_lo i) (by show (j 0).val = 16 * (i 0).val + (j 0).val % 16; omega) rfl
    · rw [dif_neg h8]
      exact View.read_writes_cons_rows_of_mem v f _ hi _ j (ix2 (⟨(j 0).val % 16 - 8, by omega⟩ : Fin 8) (j 1 : Fin 128)) (k0_off7_hi i) (by show (j 0).val = 16 * (i 0).val + 8 + ((j 0).val % 16 - 8); omega) rfl
  · rw [if_neg h]
    refine (View.read_writes_cons_rows_of_not_mem v f _ hi _ j (W := 8) (k0_off7_hi i) rfl (by omega)).trans ?_
    exact View.read_writes_cons_rows_of_not_mem v f _ lo _ j (W := 8) (k0_off7_lo i) rfl (by omega)

section Middle

variable (c : Dev nD) (i : grid0.Coords) (arg2 : Memref sig .tc .vmem S1024x64 .bf16) (harg2 : arg2.IsWhole) (arg3 : Memref sig .tc .vmem S256x64 .bf16) (harg3 : arg3.IsWhole) (arg4 : Memref sig .tc .vmem S256x64 .bf16) (harg4 : arg4.IsWhole) (arg5 : Memref sig .tc .vmem S1024x64 .fp8e4m3) (harg5 : arg5.IsWhole) (arg6 : Memref sig .tc .vmem S4x4x64 .f32) (harg6 : arg6.IsWhole) (arg7 : Memref sig .tc .vmem S1024x64 .fp8e4m3) (harg7 : arg7.IsWhole) (arg8 : Memref sig .tc .vmem S4x4x64 .f32) (harg8 : arg8.IsWhole) (arg9 : Memref sig .tc .vmem S1x64 .i32) (harg9 : arg9.IsWhole) (arg10 : Memref sig .tc .vmem S1x256x2048 .fp8e4m3) (harg10 : arg10.IsWhole) (arg11 : Memref sig .tc .vmem S1x4x2048 .f32) (harg11 : arg11.IsWhole) (arg12 : Memref sig .tc .vmem S1x256x2048 .fp8e4m3) (harg12 : arg12.IsWhole) (arg13 : Memref sig .tc .vmem S1x4x2048 .f32) (harg13 : arg13.IsWhole) (arg14 : Memref sig .tc .vmem S64x1024 .bf16) (harg14 : arg14.IsWhole) (arg15 : Memref sig .tc .vmem S256x64 .fp8e4m3) (harg15 : arg15.IsWhole) (arg16 : Memref sig .tc .vmem S4x64 .f32) (harg16 : arg16.IsWhole) (arg17 : Memref sig .tc .vmem S256x64 .fp8e4m3) (harg17 : arg17.IsWhole) (arg18 : Memref sig .tc .vmem S4x64 .f32) (harg18 : arg18.IsWhole) (arg19 : Memref sig .tc .vmem S1x64 .i32) (harg19 : arg19.IsWhole) (arg20 : Memref sig .tc .vmem S1x64 .i32) (harg20 : arg20.IsWhole) (arg21 : Memref sig .tc .vmem S1024x64 .bf16) (harg21 : arg21.IsWhole) (arg22 : Memref sig .tc .vmem S1024x128 .bf16) (harg22 : arg22.IsWhole) (arg23 : Memref sig .tc .vmem S256x64 .bf16) (harg23 : arg23.IsWhole) (arg24 : Memref sig .tc .vmem S256x128 .bf16) (harg24 : arg24.IsWhole) (arg25 : Memref sig .tc .vmem S64x128 .f32) (harg25 : arg25.IsWhole) (arg26 : Memref sig .tc .vmem S64x128 .f32) (harg26 : arg26.IsWhole) (arg27 : Memref sig .tc .vmem S256x128 .f32) (harg27 : arg27.IsWhole) (arg28 : Memref sig .tc .vmem S128x128 .f32) (harg28 : arg28.IsWhole) (arg29 : Memref sig .tc .vmem S1024x128 .f32) (harg29 : arg29.IsWhole)
  (x2 : Vec F S1024x64 .bf16) (x10 : Vec F S1x256x2048 .fp8e4m3) (x11 : Vec F S1x4x2048 .f32) (x12 : Vec F S1x256x2048 .fp8e4m3) (x13 : Vec F S1x4x2048 .f32) (x21 : Vec F S1024x64 .bf16) (x22 : Vec F S1024x128 .bf16) (x23 : Vec F S256x64 .bf16) (x24 : Vec F S256x128 .bf16) (x25 : Vec F S64x128 .f32) (x26 : Vec F S64x128 .f32) (x29 : Vec F S1024x128 .f32) (xt0 : TbBuf0 (F := F) c tbM0_0)

include c i
/-- A middle point stores the two halves of its rows. -/
theorem pieces_B (hc0 : ¬cond0_0 i) (hc1 : ¬cond0_1 i) : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x2 x10 x11 x12 x13 x21 x22 x23 x24 x25 x26 x29 xt0).1 = [⟨Rect.unit (s := S1024x128) (k0_off7 i 8#32) S8x128.size (k0_off7_inb i 1), (tileHi i x2 x10 x11 x12 x13 x21 x22 x23 x24 x25 x26 (tWord c i xt0))⟩, ⟨Rect.unit (s := S1024x128) (k0_off7 i 0#32) S8x128.size (k0_off7_inb i 0), (tileLo i x2 x10 x11 x12 x13 x21 x22 x23 x24 x25 x26 (tWord c i xt0))⟩] := by
  have e10 : View.readAt (Elt F) arg10.view (Rect.unit (s := S1x256x2048) ![0, 0, 0] ![1, 256, 2048] inb_S1x256x2048_S1x256x2048_0_0_0).toLoadRect (harg10.unread x10) = x10 := readAt_whole harg10 x10 _
  have e11 : View.readAt (Elt F) arg11.view (Rect.unit (s := S1x4x2048) ![0, 0, 0] ![1, 4, 2048] inb_S1x4x2048_S1x4x2048_0_0_0).toLoadRect (harg11.unread x11) = x11 := readAt_whole harg11 x11 _
  have e12 : View.readAt (Elt F) arg12.view (Rect.unit (s := S1x256x2048) ![0, 0, 0] ![1, 256, 2048] inb_S1x256x2048_S1x256x2048_0_0_0).toLoadRect (harg12.unread x12) = x12 := readAt_whole harg12 x12 _
  have e13 : View.readAt (Elt F) arg13.view (Rect.unit (s := S1x4x2048) ![0, 0, 0] ![1, 4, 2048] inb_S1x4x2048_S1x4x2048_0_0_0).toLoadRect (harg13.unread x13) = x13 := readAt_whole harg13 x13 _
  unfold tileLo tileHi tR3 tR5 tR6 tS0 tQ tWord View.ld
  simp only [kernelRun0_B, kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10]
  rw [e10, e11, e12, e13]
  rw [readAt_part harg2, readAt_part harg21, readAt_part harg23, readAt_part harg25, readAt_part harg26, readAt_part harg22, readAt_part harg24]
  unfold kernelRun0_B.sl.cst_11 kernelRun0_B.sl.v120
  rfl

/-- So does the last point, -/
theorem pieces_C29 : kernelRun0_C.sl.H29_2 c i arg2 harg2 arg10 harg10 arg11 harg11 arg12 harg12 arg13 harg13 arg21 harg21 arg22 harg22 arg23 harg23 arg24 harg24 arg25 harg25 arg26 harg26 x2 x10 x11 x12 x13 x21 x22 x23 x24 x25 x26 xt0 = [⟨Rect.unit (s := S1024x128) (k0_off7 i 8#32) S8x128.size (k0_off7_inb i 1), (tileHi i x2 x10 x11 x12 x13 x21 x22 x23 x24 x25 x26 (tWord c i xt0))⟩, ⟨Rect.unit (s := S1024x128) (k0_off7 i 0#32) S8x128.size (k0_off7_inb i 0), (tileLo i x2 x10 x11 x12 x13 x21 x22 x23 x24 x25 x26 (tWord c i xt0))⟩] := by
  have e10 : View.readAt (Elt F) arg10.view (Rect.unit (s := S1x256x2048) ![0, 0, 0] ![1, 256, 2048] inb_S1x256x2048_S1x256x2048_0_0_0).toLoadRect (harg10.unread x10) = x10 := readAt_whole harg10 x10 _
  have e11 : View.readAt (Elt F) arg11.view (Rect.unit (s := S1x4x2048) ![0, 0, 0] ![1, 4, 2048] inb_S1x4x2048_S1x4x2048_0_0_0).toLoadRect (harg11.unread x11) = x11 := readAt_whole harg11 x11 _
  have e12 : View.readAt (Elt F) arg12.view (Rect.unit (s := S1x256x2048) ![0, 0, 0] ![1, 256, 2048] inb_S1x256x2048_S1x256x2048_0_0_0).toLoadRect (harg12.unread x12) = x12 := readAt_whole harg12 x12 _
  have e13 : View.readAt (Elt F) arg13.view (Rect.unit (s := S1x4x2048) ![0, 0, 0] ![1, 4, 2048] inb_S1x4x2048_S1x4x2048_0_0_0).toLoadRect (harg13.unread x13) = x13 := readAt_whole harg13 x13 _
  unfold tileLo tileHi tR3 tR5 tR6 tS0 tQ tWord View.ld
  simp only [kernelRun0_C.sl.H29_2, kernelRun0_C.sl.r, kernelRun0_C.sl.r_1, kernelRun0_C.sl.r_2, kernelRun0_C.sl.r_3, kernelRun0_C.sl.r_4, kernelRun0_C.sl.r_5, kernelRun0_C.sl.r_6, kernelRun0_C.sl.r_7, kernelRun0_C.sl.r_8, kernelRun0_C.sl.r_9, kernelRun0_C.sl.r_10]
  rw [e10, e11, e12, e13]
  rw [readAt_part harg2, readAt_part harg21, readAt_part harg23, readAt_part harg25, readAt_part harg26, readAt_part harg22, readAt_part harg24]
  unfold kernelRun0_C.sl.cst_11 kernelRun0_C.sl.v120
  rfl

/-- and it then stores the result from the collected rows. -/
theorem pieces_C14 (hc0 : ¬cond0_0 i) (hc1 : cond0_1 i) :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x2 x10 x11 x12 x13 x21 x22 x23 x24 x25 x26 x29 xt0).1 = outL (finPut i (tileLo i x2 x10 x11 x12 x13 x21 x22 x23 x24 x25 x26 (tWord c i xt0)) (tileHi i x2 x10 x11 x12 x13 x21 x22 x23 x24 x25 x26 (tWord c i xt0)) x29) := by
  have hv : ∀ B : LoadRect S1024x128, View.readAt (Elt F) arg29.view B (arg29.view.writes (Elt F) (harg29.unread x29) [⟨Rect.unit (s := S1024x128) (k0_off7 i 8#32) S8x128.size (k0_off7_inb i 1), (tileHi i x2 x10 x11 x12 x13 x21 x22 x23 x24 x25 x26 (tWord c i xt0))⟩, ⟨Rect.unit (s := S1024x128) (k0_off7 i 0#32) S8x128.size (k0_off7_inb i 0), (tileLo i x2 x10 x11 x12 x13 x21 x22 x23 x24 x25 x26 (tWord c i xt0))⟩])
      = fun x => finPut i (tileLo i x2 x10 x11 x12 x13 x21 x22 x23 x24 x25 x26 (tWord c i xt0)) (tileHi i x2 x10 x11 x12 x13 x21 x22 x23 x24 x25 x26 (tWord c i xt0)) x29 (B.idx x) := fun B => by
    have h := read_finPut arg29.view (harg29.unread x29) i (tileLo i x2 x10 x11 x12 x13 x21 x22 x23 x24 x25 x26 (tWord c i xt0)) (tileHi i x2 x10 x11 x12 x13 x21 x22 x23 x24 x25 x26 (tWord c i xt0))
    rw [harg29.read_unread] at h
    funext x
    exact congrFun h (B.idx x)
  unfold kernelRun0_C outL qRows
  simp only [kernelRun0_C.sl.v159, kernelRun0_C.sl.v160, kernelRun0_C.sl.v164, kernelRun0_C.sl.v165, kernelRun0_C.sl.v169, kernelRun0_C.sl.v170, kernelRun0_C.sl.v174, kernelRun0_C.sl.v175, kernelRun0_C.sl.v179, kernelRun0_C.sl.v180, kernelRun0_C.sl.v184, kernelRun0_C.sl.v185, kernelRun0_C.sl.v189, kernelRun0_C.sl.v190, kernelRun0_C.sl.v194, kernelRun0_C.sl.v195, kernelRun0_C.sl.r_11]
  rw [pieces_C29 c i]
  simp only [hv]

/-- The stores of the result cover it. -/
theorem outL_cover (X : Vec F S1024x128 .f32) : ∀ y : S64x1024.Idx, ∃ p ∈ outL X, y ∈ p.1.set :=
  View.cover_of_tiled (outL X) ![64, 128] (by rfl)

/-- A middle point puts its rows into the collected result. -/
theorem triple_B (hc0 : ¬cond0_0 i) (hc1 : ¬cond0_1 i) (E : Set ℕ) (K : PUnit → sProp 𝕄) :
    iprop(owns (c : Thread nD τ) arg2 fullShare x2 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg29 fullShare x29 ∗ tbPt0 c tbM0_0 xt0
      ∗ (iprop(owns (c : Thread nD τ) arg2 fullShare x2 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg29 fullShare (finPut i (tileLo i x2 x10 x11 x12 x13 x21 x22 x23 x24 x25 x26 (tWord c i xt0)) (tileHi i x2 x10 x11 x12 x13 x21 x22 x23 x24 x25 x26 (tWord c i xt0)) x29) ∗ tbPt0 c tbM0_0 xt0) -∗ K ⟨⟩))
    ⊢ wp frame (wpE (defs₀ (F := F)) Variants.none c none) E (cc0_sink_ring_decode i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K := by
  have hp := read_finPut arg29.view (harg29.unread x29) i (tileLo i x2 x10 x11 x12 x13 x21 x22 x23 x24 x25 x26 (tWord c i xt0)) (tileHi i x2 x10 x11 x12 x13 x21 x22 x23 x24 x25 x26 (tWord c i xt0))
  rw [harg29.read_unread, ← pieces_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x2 x10 x11 x12 x13 x21 x22 x23 x24 x25 x26 x29 xt0 hc0 hc1] at hp
  iintro ⟨H2, H10, H11, H12, H13, H21, H22, H23, H24, H25, H26, H29, HT0, Hk⟩
  iapply ((kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x2 x10 x11 x12 x13 x21 x22 x23 x24 x25 x26 x29 xt0).2 E K)
  isplitl [H2]; · iexact H2
  isplitl [H10]; · iexact H10
  isplitl [H11]; · iexact H11
  isplitl [H12]; · iexact H12
  isplitl [H13]; · iexact H13
  isplitl [H21]; · iexact H21
  isplitl [H22]; · iexact H22
  isplitl [H23]; · iexact H23
  isplitl [H24]; · iexact H24
  isplitl [H25]; · iexact H25
  isplitl [H26]; · iexact H26
  isplitl [H29]; · iexact H29
  isplitl [HT0]; · iexact HT0
  iintro ⟨H2, H10, H11, H12, H13, H21, H22, H23, H24, H25, H26, H29, HT0⟩
  iapply Hk
  isplitl [H2]; · iexact H2
  isplitl [H10]; · iexact H10
  isplitl [H11]; · iexact H11
  isplitl [H12]; · iexact H12
  isplitl [H13]; · iexact H13
  isplitl [H21]; · iexact H21
  isplitl [H22]; · iexact H22
  isplitl [H23]; · iexact H23
  isplitl [H24]; · iexact H24
  isplitl [H25]; · iexact H25
  isplitl [H26]; · iexact H26
  isplitl [H29]
  · unfold owns; iexists _; isplitr; · ipureintro; exact hp
    iexact H29
  iexact HT0

/-- The last point puts its rows in and stores the result. -/
theorem triple_C (hc0 : ¬cond0_0 i) (hc1 : cond0_1 i) (E : Set ℕ) (K : PUnit → sProp 𝕄) :
    iprop(owns (c : Thread nD τ) arg2 fullShare x2 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg29 fullShare x29 ∗ (∃ d, owns (c : Thread nD τ) arg14 fullShare d) ∗ tbPt0 c tbM0_0 xt0
      ∗ (iprop(owns (c : Thread nD τ) arg2 fullShare x2 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg29 fullShare (finPut i (tileLo i x2 x10 x11 x12 x13 x21 x22 x23 x24 x25 x26 (tWord c i xt0)) (tileHi i x2 x10 x11 x12 x13 x21 x22 x23 x24 x25 x26 (tWord c i xt0)) x29) ∗ owns (c : Thread nD τ) arg14 fullShare (View.canon (outL (finPut i (tileLo i x2 x10 x11 x12 x13 x21 x22 x23 x24 x25 x26 (tWord c i xt0)) (tileHi i x2 x10 x11 x12 x13 x21 x22 x23 x24 x25 x26 (tWord c i xt0)) x29))) ∗ tbPt0 c tbM0_0 xt0) -∗ K ⟨⟩))
    ⊢ wp frame (wpE (defs₀ (F := F)) Variants.none c none) E (cc0_sink_ring_decode i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K := by
  have hp := read_finPut arg29.view (harg29.unread x29) i (tileLo i x2 x10 x11 x12 x13 x21 x22 x23 x24 x25 x26 (tWord c i xt0)) (tileHi i x2 x10 x11 x12 x13 x21 x22 x23 x24 x25 x26 (tWord c i xt0))
  have h29 : (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x2 x10 x11 x12 x13 x21 x22 x23 x24 x25 x26 x29 xt0).2.1 = [⟨Rect.unit (s := S1024x128) (k0_off7 i 8#32) S8x128.size (k0_off7_inb i 1), (tileHi i x2 x10 x11 x12 x13 x21 x22 x23 x24 x25 x26 (tWord c i xt0))⟩, ⟨Rect.unit (s := S1024x128) (k0_off7 i 0#32) S8x128.size (k0_off7_inb i 0), (tileLo i x2 x10 x11 x12 x13 x21 x22 x23 x24 x25 x26 (tWord c i xt0))⟩] := by
    unfold kernelRun0_C; exact pieces_C29 c i arg2 harg2 arg10 harg10 arg11 harg11 arg12 harg12 arg13 harg13 arg21 harg21 arg22 harg22 arg23 harg23 arg24 harg24 arg25 harg25 arg26 harg26 x2 x10 x11 x12 x13 x21 x22 x23 x24 x25 x26 xt0
  rw [harg29.read_unread, ← h29] at hp
  have ho : ∀ f, arg14.view.read (Elt F) (arg14.view.writes (Elt F) f (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x2 x10 x11 x12 x13 x21 x22 x23 x24 x25 x26 x29 xt0).1)
      = View.canon (outL (finPut i (tileLo i x2 x10 x11 x12 x13 x21 x22 x23 x24 x25 x26 (tWord c i xt0)) (tileHi i x2 x10 x11 x12 x13 x21 x22 x23 x24 x25 x26 (tWord c i xt0)) x29)) := fun f => by
    rw [pieces_C14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x2 x10 x11 x12 x13 x21 x22 x23 x24 x25 x26 x29 xt0 hc0 hc1]
    exact View.read_writes_eq_canon arg14.view f _ (outL_cover c i _)
  iintro ⟨H2, H10, H11, H12, H13, H21, H22, H23, H24, H25, H26, H29, H14, HT0, Hk⟩
  iapply ((kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x2 x10 x11 x12 x13 x21 x22 x23 x24 x25 x26 x29 xt0).2.2 E K)
  isplitl [H2]; · iexact H2
  isplitl [H10]; · iexact H10
  isplitl [H11]; · iexact H11
  isplitl [H12]; · iexact H12
  isplitl [H13]; · iexact H13
  isplitl [H21]; · iexact H21
  isplitl [H22]; · iexact H22
  isplitl [H23]; · iexact H23
  isplitl [H24]; · iexact H24
  isplitl [H25]; · iexact H25
  isplitl [H26]; · iexact H26
  isplitl [H29]; · iexact H29
  isplitl [H14]; · iexact H14
  isplitl [HT0]; · iexact HT0
  iintro ⟨H2, H10, H11, H12, H13, H21, H22, H23, H24, H25, H26, ⟨%f14, H14⟩, H29, HT0⟩
  iapply Hk
  isplitl [H2]; · iexact H2
  isplitl [H10]; · iexact H10
  isplitl [H11]; · iexact H11
  isplitl [H12]; · iexact H12
  isplitl [H13]; · iexact H13
  isplitl [H21]; · iexact H21
  isplitl [H22]; · iexact H22
  isplitl [H23]; · iexact H23
  isplitl [H24]; · iexact H24
  isplitl [H25]; · iexact H25
  isplitl [H26]; · iexact H26
  isplitl [H29]
  · unfold owns; iexists _; isplitr; · ipureintro; exact hp
    iexact H29
  isplitl [H14]
  · unfold owns; iexists _; isplitr; · ipureintro; exact ho f14
    iexact H14
  iexact HT0

end Middle

end Cert.KernelIdeal.Gen

end
-- ==== Proof.RunA.lean ====
module

public import proofs.«01_k».proof.Proof.RunB

@[expose] public section

set_option maxRecDepth 16384

/-! # The run of the first grid point -/

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
/-- What the point leaves: the pieces stored into each buffer it writes (the last first), with the triple of the body. -/
noncomputable def kernelRun0_A (c : Dev nD) (i : grid0.Coords) (arg2 : Memref sig .tc .vmem S1024x64 .bf16) (harg2 : arg2.IsWhole) (arg3 : Memref sig .tc .vmem S256x64 .bf16) (harg3 : arg3.IsWhole) (arg4 : Memref sig .tc .vmem S256x64 .bf16) (harg4 : arg4.IsWhole) (arg5 : Memref sig .tc .vmem S1024x64 .fp8e4m3) (harg5 : arg5.IsWhole) (arg6 : Memref sig .tc .vmem S4x4x64 .f32) (harg6 : arg6.IsWhole) (arg7 : Memref sig .tc .vmem S1024x64 .fp8e4m3) (harg7 : arg7.IsWhole) (arg8 : Memref sig .tc .vmem S4x4x64 .f32) (harg8 : arg8.IsWhole) (arg9 : Memref sig .tc .vmem S1x64 .i32) (harg9 : arg9.IsWhole) (arg10 : Memref sig .tc .vmem S1x256x2048 .fp8e4m3) (harg10 : arg10.IsWhole) (arg11 : Memref sig .tc .vmem S1x4x2048 .f32) (harg11 : arg11.IsWhole) (arg12 : Memref sig .tc .vmem S1x256x2048 .fp8e4m3) (harg12 : arg12.IsWhole) (arg13 : Memref sig .tc .vmem S1x4x2048 .f32) (harg13 : arg13.IsWhole) (arg14 : Memref sig .tc .vmem S64x1024 .bf16) (harg14 : arg14.IsWhole) (arg15 : Memref sig .tc .vmem S256x64 .fp8e4m3) (harg15 : arg15.IsWhole) (arg16 : Memref sig .tc .vmem S4x64 .f32) (harg16 : arg16.IsWhole) (arg17 : Memref sig .tc .vmem S256x64 .fp8e4m3) (harg17 : arg17.IsWhole) (arg18 : Memref sig .tc .vmem S4x64 .f32) (harg18 : arg18.IsWhole) (arg19 : Memref sig .tc .vmem S1x64 .i32) (harg19 : arg19.IsWhole) (arg20 : Memref sig .tc .vmem S1x64 .i32) (harg20 : arg20.IsWhole) (arg21 : Memref sig .tc .vmem S1024x64 .bf16) (harg21 : arg21.IsWhole) (arg22 : Memref sig .tc .vmem S1024x128 .bf16) (harg22 : arg22.IsWhole) (arg23 : Memref sig .tc .vmem S256x64 .bf16) (harg23 : arg23.IsWhole) (arg24 : Memref sig .tc .vmem S256x128 .bf16) (harg24 : arg24.IsWhole) (arg25 : Memref sig .tc .vmem S64x128 .f32) (harg25 : arg25.IsWhole) (arg26 : Memref sig .tc .vmem S64x128 .f32) (harg26 : arg26.IsWhole) (arg27 : Memref sig .tc .vmem S256x128 .f32) (harg27 : arg27.IsWhole) (arg28 : Memref sig .tc .vmem S128x128 .f32) (harg28 : arg28.IsWhole) (arg29 : Memref sig .tc .vmem S1024x128 .f32) (harg29 : arg29.IsWhole) (hc0 : cond0_0 i) (hc1 : ¬cond0_1 i)
    (x2 : Vec F S1024x64 .bf16) (x3 : Vec F S256x64 .bf16) (x4 : Vec F S256x64 .bf16) (x5 : Vec F S1024x64 .fp8e4m3) (x6 : Vec F S4x4x64 .f32) (x7 : Vec F S1024x64 .fp8e4m3) (x8 : Vec F S4x4x64 .f32) (x9 : Vec F S1x64 .i32) (x10 : Vec F S1x256x2048 .fp8e4m3) (x11 : Vec F S1x4x2048 .f32) (x12 : Vec F S1x256x2048 .fp8e4m3) (x13 : Vec F S1x4x2048 .f32) (xt0 : TbBuf0 (F := F) c tbM0_0) :
    Σ' (L15 : List (View.Piece (Elt F) S256x64 .fp8e4m3)), Σ' (L16 : List (View.Piece (Elt F) S4x64 .f32)), Σ' (L17 : List (View.Piece (Elt F) S256x64 .fp8e4m3)), Σ' (L18 : List (View.Piece (Elt F) S4x64 .f32)), Σ' (L19 : List (View.Piece (Elt F) S1x64 .i32)), Σ' (L20 : List (View.Piece (Elt F) S1x64 .i32)), Σ' (L21 : List (View.Piece (Elt F) S1024x64 .bf16)), Σ' (L22 : List (View.Piece (Elt F) S1024x128 .bf16)), Σ' (L23 : List (View.Piece (Elt F) S256x64 .bf16)), Σ' (L24 : List (View.Piece (Elt F) S256x128 .bf16)), Σ' (L25 : List (View.Piece (Elt F) S64x128 .f32)), Σ' (L26 : List (View.Piece (Elt F) S64x128 .f32)), Σ' (L27 : List (View.Piece (Elt F) S256x128 .f32)), Σ' (L28 : List (View.Piece (Elt F) S128x128 .f32)), { L29 : List (View.Piece (Elt F) S1024x128 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ tbPt0 c tbM0_0 xt0
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ f, arg15.view.loc (c : Thread nD τ) ↦[arg15.view.set]{fullShare} arg15.view.writes (Elt F) f L15) ∗ (∃ f, arg16.view.loc (c : Thread nD τ) ↦[arg16.view.set]{fullShare} arg16.view.writes (Elt F) f L16) ∗ (∃ f, arg17.view.loc (c : Thread nD τ) ↦[arg17.view.set]{fullShare} arg17.view.writes (Elt F) f L17) ∗ (∃ f, arg18.view.loc (c : Thread nD τ) ↦[arg18.view.set]{fullShare} arg18.view.writes (Elt F) f L18) ∗ (∃ f, arg19.view.loc (c : Thread nD τ) ↦[arg19.view.set]{fullShare} arg19.view.writes (Elt F) f L19) ∗ (∃ f, arg20.view.loc (c : Thread nD τ) ↦[arg20.view.set]{fullShare} arg20.view.writes (Elt F) f L20) ∗ (∃ f, arg21.view.loc (c : Thread nD τ) ↦[arg21.view.set]{fullShare} arg21.view.writes (Elt F) f L21) ∗ (∃ f, arg22.view.loc (c : Thread nD τ) ↦[arg22.view.set]{fullShare} arg22.view.writes (Elt F) f L22) ∗ (∃ f, arg23.view.loc (c : Thread nD τ) ↦[arg23.view.set]{fullShare} arg23.view.writes (Elt F) f L23) ∗ (∃ f, arg24.view.loc (c : Thread nD τ) ↦[arg24.view.set]{fullShare} arg24.view.writes (Elt F) f L24) ∗ (∃ f, arg25.view.loc (c : Thread nD τ) ↦[arg25.view.set]{fullShare} arg25.view.writes (Elt F) f L25) ∗ (∃ f, arg26.view.loc (c : Thread nD τ) ↦[arg26.view.set]{fullShare} arg26.view.writes (Elt F) f L26) ∗ (∃ f, arg27.view.loc (c : Thread nD τ) ↦[arg27.view.set]{fullShare} arg27.view.writes (Elt F) f L27) ∗ (∃ f, arg28.view.loc (c : Thread nD τ) ↦[arg28.view.set]{fullShare} arg28.view.writes (Elt F) f L28) ∗ (∃ f, arg29.view.loc (c : Thread nD τ) ↦[arg29.view.set]{fullShare} arg29.view.writes (Elt F) f L29) ∗ tbPt0 c tbM0_0 xt0) -∗ K ⟨⟩))
          ⊢ wp frame (wpE (defs₀ (F := F)) Variants.none c none) E (cc0_sink_ring_decode i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K } := by
  refine ⟨?_, ?_, ?_, ?_, ?_, ?_, ?_, ?_, ?_, ?_, ?_, ?_, ?_, ?_, ?_, fun E K => ?run⟩
  case run =>
    simp only [cc0_sink_ring_decode_eq_skeleton]; unfold cc0_sink_ring_decode_skel
    simp only [k0_part10_eq_skeleton, k0_part11_eq_skeleton, k0_part12_eq_skeleton, k0_part9_eq_skeleton, k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, HT0, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13
    sl_exec (disch := first | sl_exact hc0 | sl_exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    isplitl [H28]; · iexists _; iexact H28
    isplitl [H29]; · iexists _; iexact H29
    iexact HT0

end Cert.KernelIdeal.Gen

end
-- ==== Proof.TriplesA.lean ====
module

public import proofs.«01_k».proof.Proof.RunA
public import proofs.«01_k».proof.Proof.Triples
public import Idealize.ShloMosaic.Lib.VecWindow
public import Idealize.ShloMosaic.Lib.WholeRead
public import Idealize.ShloMosaic.Lib.WritesUnit
public import Idealize.ShloMosaic.Lib.Pipeline.ValueKit.Basic

@[expose] public section

set_option maxRecDepth 16384

/-! # The body at the first grid point, with the values it leaves by name -/

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A load after a store of the whole buffer reads the payload. -/
theorem readAt_writes_whole {S : Shape} {e : EltTy} (v : View sig .tc .vmem S e) (f : v.ty.Contents (Elt F)) {off : Fin S.rank → ℕ} (inb : ∀ a, off a + S.size a ≤ S.size a)
    (w : (Rect.unit off S.size inb).shape.Idx → Elt F e) (B : LoadRect S) :
    View.readAt (Elt F) v B (v.writes (Elt F) f [⟨Rect.unit off S.size inb, w⟩]) = fun x => w (B.idx x) := by
  funext x
  exact congrFun (View.read_writes_full v f inb w []) (B.idx x)

section First

variable (c : Dev nD) (i : grid0.Coords) (arg2 : Memref sig .tc .vmem S1024x64 .bf16) (harg2 : arg2.IsWhole) (arg3 : Memref sig .tc .vmem S256x64 .bf16) (harg3 : arg3.IsWhole) (arg4 : Memref sig .tc .vmem S256x64 .bf16) (harg4 : arg4.IsWhole) (arg5 : Memref sig .tc .vmem S1024x64 .fp8e4m3) (harg5 : arg5.IsWhole) (arg6 : Memref sig .tc .vmem S4x4x64 .f32) (harg6 : arg6.IsWhole) (arg7 : Memref sig .tc .vmem S1024x64 .fp8e4m3) (harg7 : arg7.IsWhole) (arg8 : Memref sig .tc .vmem S4x4x64 .f32) (harg8 : arg8.IsWhole) (arg9 : Memref sig .tc .vmem S1x64 .i32) (harg9 : arg9.IsWhole) (arg10 : Memref sig .tc .vmem S1x256x2048 .fp8e4m3) (harg10 : arg10.IsWhole) (arg11 : Memref sig .tc .vmem S1x4x2048 .f32) (harg11 : arg11.IsWhole) (arg12 : Memref sig .tc .vmem S1x256x2048 .fp8e4m3) (harg12 : arg12.IsWhole) (arg13 : Memref sig .tc .vmem S1x4x2048 .f32) (harg13 : arg13.IsWhole) (arg14 : Memref sig .tc .vmem S64x1024 .bf16) (harg14 : arg14.IsWhole) (arg15 : Memref sig .tc .vmem S256x64 .fp8e4m3) (harg15 : arg15.IsWhole) (arg16 : Memref sig .tc .vmem S4x64 .f32) (harg16 : arg16.IsWhole) (arg17 : Memref sig .tc .vmem S256x64 .fp8e4m3) (harg17 : arg17.IsWhole) (arg18 : Memref sig .tc .vmem S4x64 .f32) (harg18 : arg18.IsWhole) (arg19 : Memref sig .tc .vmem S1x64 .i32) (harg19 : arg19.IsWhole) (arg20 : Memref sig .tc .vmem S1x64 .i32) (harg20 : arg20.IsWhole) (arg21 : Memref sig .tc .vmem S1024x64 .bf16) (harg21 : arg21.IsWhole) (arg22 : Memref sig .tc .vmem S1024x128 .bf16) (harg22 : arg22.IsWhole) (arg23 : Memref sig .tc .vmem S256x64 .bf16) (harg23 : arg23.IsWhole) (arg24 : Memref sig .tc .vmem S256x128 .bf16) (harg24 : arg24.IsWhole) (arg25 : Memref sig .tc .vmem S64x128 .f32) (harg25 : arg25.IsWhole) (arg26 : Memref sig .tc .vmem S64x128 .f32) (harg26 : arg26.IsWhole) (arg27 : Memref sig .tc .vmem S256x128 .f32) (harg27 : arg27.IsWhole) (arg28 : Memref sig .tc .vmem S128x128 .f32) (harg28 : arg28.IsWhole) (arg29 : Memref sig .tc .vmem S1024x128 .f32) (harg29 : arg29.IsWhole)
  (x2 : Vec F S1024x64 .bf16) (x3 : Vec F S256x64 .bf16) (x4 : Vec F S256x64 .bf16) (x5 : Vec F S1024x64 .fp8e4m3) (x6 : Vec F S4x4x64 .f32) (x7 : Vec F S1024x64 .fp8e4m3) (x8 : Vec F S4x4x64 .f32) (x9 : Vec F S1x64 .i32) (x10 : Vec F S1x256x2048 .fp8e4m3) (x11 : Vec F S1x4x2048 .f32) (x12 : Vec F S1x256x2048 .fp8e4m3) (x13 : Vec F S1x4x2048 .f32) (xt0 : TbBuf0 (F := F) c tbM0_0)
/-- The scratch buffers of the first point: the scales of the new keys, repeated, -/
theorem scr27 : kernelRun0_A.sl.H27_1 c arg3 harg3 x3 = [⟨Rect.unit (s := S256x128) ![0, 0] S256x128.size inb_S256x128_S256x128_0_0, sckV x3⟩] := by
  have e3 : View.readAt (Elt F) arg3.view (Rect.unit (s := S256x64) ![0, 0] ![256, 64] inb_S256x64_S256x64_0_0).toLoadRect (harg3.unread x3) = x3 := readAt_whole harg3 x3 _
  unfold sckV
  simp only [kernelRun0_A.sl.H27_1, kernelRun0_A.sl.r_1, kernelRun0_A.sl.r_2]
  simp only [e3]
/-- over which come those of the new values; -/
theorem scr27' : kernelRun0_A.sl.H27_2 c arg3 harg3 arg4 harg4 x3 x4 = ⟨Rect.unit (s := S256x128) ![0, 0] S256x128.size inb_S256x128_S256x128_0_0, scvV x4⟩ :: [⟨Rect.unit (s := S256x128) ![0, 0] S256x128.size inb_S256x128_S256x128_0_0, sckV x3⟩] := by
  have e4 : View.readAt (Elt F) arg4.view (Rect.unit (s := S256x64) ![0, 0] ![256, 64] inb_S256x64_S256x64_0_0).toLoadRect (harg4.unread x4) = x4 := readAt_whole harg4 x4 _
  unfold scvV
  simp only [kernelRun0_A.sl.H27_2, kernelRun0_A.sl.r_7, kernelRun0_A.sl.r_6]
  rw [scr27]
  simp only [e4]
/-- head 0 of every sequence, -/
theorem head_k0 : kernelRun0_A.sl.v253 c arg3 harg3 arg27 x3 = headRows 0 (by decide) (sckV x3) := by
  have c27 : ∀ (w : S256x128.Idx → Elt F .f32) (L : List (View.Piece (Elt F) S256x128 .f32)), View.canon ((⟨Rect.unit (s := S256x128) ![0, 0] ![256, 128] inb_S256x128_S256x128_0_0, w⟩ : View.Piece (Elt F) S256x128 .f32) :: L) = w := fun w L => View.canon_cons_unit_lit _ w L (by decide)
  simp only [kernelRun0_A.sl.v253]
  rw [scr27, View.readCov_eq_canon', c27]
  rfl
/-- for keys and values; -/
theorem head_v0 : kernelRun0_A.sl.v382 c arg3 harg3 arg4 harg4 arg27 x3 x4 = headRows 0 (by decide) (scvV x4) := by
  have c27 : ∀ (w : S256x128.Idx → Elt F .f32) (L : List (View.Piece (Elt F) S256x128 .f32)), View.canon ((⟨Rect.unit (s := S256x128) ![0, 0] ![256, 128] inb_S256x128_S256x128_0_0, w⟩ : View.Piece (Elt F) S256x128 .f32) :: L) = w := fun w L => View.canon_cons_unit_lit _ w L (by decide)
  simp only [kernelRun0_A.sl.v382]
  rw [scr27', View.readCov_eq_canon', c27]
  rfl
/-- head 1 of every sequence, -/
theorem head_k1 : kernelRun0_A.sl.v259 c arg3 harg3 arg27 x3 = headRows 1 (by decide) (sckV x3) := by
  have c27 : ∀ (w : S256x128.Idx → Elt F .f32) (L : List (View.Piece (Elt F) S256x128 .f32)), View.canon ((⟨Rect.unit (s := S256x128) ![0, 0] ![256, 128] inb_S256x128_S256x128_0_0, w⟩ : View.Piece (Elt F) S256x128 .f32) :: L) = w := fun w L => View.canon_cons_unit_lit _ w L (by decide)
  simp only [kernelRun0_A.sl.v259]
  rw [scr27, View.readCov_eq_canon', c27]
  rfl
/-- for keys and values; -/
theorem head_v1 : kernelRun0_A.sl.v388 c arg3 harg3 arg4 harg4 arg27 x3 x4 = headRows 1 (by decide) (scvV x4) := by
  have c27 : ∀ (w : S256x128.Idx → Elt F .f32) (L : List (View.Piece (Elt F) S256x128 .f32)), View.canon ((⟨Rect.unit (s := S256x128) ![0, 0] ![256, 128] inb_S256x128_S256x128_0_0, w⟩ : View.Piece (Elt F) S256x128 .f32) :: L) = w := fun w L => View.canon_cons_unit_lit _ w L (by decide)
  simp only [kernelRun0_A.sl.v388]
  rw [scr27', View.readCov_eq_canon', c27]
  rfl
/-- head 2 of every sequence, -/
theorem head_k2 : kernelRun0_A.sl.v265 c arg3 harg3 arg27 x3 = headRows 2 (by decide) (sckV x3) := by
  have c27 : ∀ (w : S256x128.Idx → Elt F .f32) (L : List (View.Piece (Elt F) S256x128 .f32)), View.canon ((⟨Rect.unit (s := S256x128) ![0, 0] ![256, 128] inb_S256x128_S256x128_0_0, w⟩ : View.Piece (Elt F) S256x128 .f32) :: L) = w := fun w L => View.canon_cons_unit_lit _ w L (by decide)
  simp only [kernelRun0_A.sl.v265]
  rw [scr27, View.readCov_eq_canon', c27]
  rfl
/-- for keys and values; -/
theorem head_v2 : kernelRun0_A.sl.v394 c arg3 harg3 arg4 harg4 arg27 x3 x4 = headRows 2 (by decide) (scvV x4) := by
  have c27 : ∀ (w : S256x128.Idx → Elt F .f32) (L : List (View.Piece (Elt F) S256x128 .f32)), View.canon ((⟨Rect.unit (s := S256x128) ![0, 0] ![256, 128] inb_S256x128_S256x128_0_0, w⟩ : View.Piece (Elt F) S256x128 .f32) :: L) = w := fun w L => View.canon_cons_unit_lit _ w L (by decide)
  simp only [kernelRun0_A.sl.v394]
  rw [scr27', View.readCov_eq_canon', c27]
  rfl
/-- head 3 of every sequence, -/
theorem head_k3 : kernelRun0_A.sl.v271 c arg3 harg3 arg27 x3 = headRows 3 (by decide) (sckV x3) := by
  have c27 : ∀ (w : S256x128.Idx → Elt F .f32) (L : List (View.Piece (Elt F) S256x128 .f32)), View.canon ((⟨Rect.unit (s := S256x128) ![0, 0] ![256, 128] inb_S256x128_S256x128_0_0, w⟩ : View.Piece (Elt F) S256x128 .f32) :: L) = w := fun w L => View.canon_cons_unit_lit _ w L (by decide)
  simp only [kernelRun0_A.sl.v271]
  rw [scr27, View.readCov_eq_canon', c27]
  rfl
/-- for keys and values; -/
theorem head_v3 : kernelRun0_A.sl.v400 c arg3 harg3 arg4 harg4 arg27 x3 x4 = headRows 3 (by decide) (scvV x4) := by
  have c27 : ∀ (w : S256x128.Idx → Elt F .f32) (L : List (View.Piece (Elt F) S256x128 .f32)), View.canon ((⟨Rect.unit (s := S256x128) ![0, 0] ![256, 128] inb_S256x128_S256x128_0_0, w⟩ : View.Piece (Elt F) S256x128 .f32) :: L) = w := fun w L => View.canon_cons_unit_lit _ w L (by decide)
  simp only [kernelRun0_A.sl.v400]
  rw [scr27', View.readCov_eq_canon', c27]
  rfl
/-- the scales of the sink keys, gathered, -/
theorem scr28a : kernelRun0_A.sl.H28_5 c arg6 harg6 x6 = trkL x6 := by
  unfold trkL View.ld
  simp only [kernelRun0_A.sl.H28_5, kernelRun0_A.sl.r_3]
  rw [readAt_part harg6, readAt_part harg6, readAt_part harg6, readAt_part harg6]
/-- as they are loaded; -/
theorem ld28a : kernelRun0_A.sl.v248 c arg6 harg6 arg28 x6 = View.canon (trkL x6) := by
  unfold kernelRun0_A.sl.v248
  rw [scr28a, View.readCov_eq_canon']
  exact View.ld_unit_lit _ _ (by decide)
/-- the scales of the sink and the new keys side by side, -/
theorem scr25 : kernelRun0_A.sl.H25_1 c arg3 harg3 arg6 harg6 arg27 arg28 x3 x6 = [⟨Rect.unit (s := S64x128) ![0, 0] S64x128.size inb_S64x128_S64x128_0_0, kscV x3 x6⟩] := by
  unfold kernelRun0_A.sl.H25_1 kernelRun0_A.sl.r_4 kernelRun0_A.sl.r_5 kscV kernelRun0_A.sl.v251
  rw [ld28a c, head_k0 c, head_k1 c, head_k2 c, head_k3 c]
/-- stored over what was gathered, -/
theorem scr28b : kernelRun0_A.sl.H28_6 c arg3 harg3 arg6 harg6 arg27 arg28 x3 x6 = trkL' x3 x6 := by
  unfold kernelRun0_A.sl.H28_6 kernelRun0_A.sl.r_4 kernelRun0_A.sl.r_5 trkL' kernelRun0_A.sl.v251
  rw [ld28a c, head_k0 c, head_k1 c, head_k2 c, head_k3 c, scr28a c]
/-- and loaded again; -/
theorem ld28b : kernelRun0_A.sl.v290 c arg3 harg3 arg6 harg6 arg27 arg28 x3 x6 = View.canon (trkL' x3 x6) := by
  unfold kernelRun0_A.sl.v290
  rw [scr28b c, View.readCov_eq_canon']
  exact View.ld_unit_lit _ _ (by decide)
/-- the scales of the sink values, gathered, -/
theorem scr28c : kernelRun0_A.sl.H28_11 c arg3 harg3 arg6 harg6 arg8 harg8 arg27 arg28 x3 x6 x8 = trvL x3 x6 x8 := by
  unfold trvL View.ld kernelRun0_A.sl.H28_11 kernelRun0_A.sl.r_9
  rw [readAt_part harg8, readAt_part harg8, readAt_part harg8, readAt_part harg8, scr28b c]
/-- as they are loaded; -/
theorem ld28c : kernelRun0_A.sl.v377 c arg3 harg3 arg6 harg6 arg8 harg8 arg27 arg28 x3 x6 x8 = View.canon (trvL x3 x6 x8) := by
  unfold kernelRun0_A.sl.v377
  rw [scr28c c, View.readCov_eq_canon']
  exact View.ld_unit_lit _ _ (by decide)
/-- the scales of the sink and the new values side by side, -/
theorem scr26 : kernelRun0_A.sl.H26_1 c arg3 harg3 arg4 harg4 arg6 harg6 arg8 harg8 arg27 arg28 x3 x4 x6 x8 = [⟨Rect.unit (s := S64x128) ![0, 0] S64x128.size inb_S64x128_S64x128_0_0, vscV x3 x4 x6 x8⟩] := by
  unfold kernelRun0_A.sl.H26_1 kernelRun0_A.sl.r_10 kernelRun0_A.sl.r_11 vscV kernelRun0_A.sl.v251
  rw [ld28c c, head_v0 c, head_v1 c, head_v2 c, head_v3 c]
/-- stored over what was gathered, -/
theorem scr28d : kernelRun0_A.sl.H28_12 c arg3 harg3 arg4 harg4 arg6 harg6 arg8 harg8 arg27 arg28 x3 x4 x6 x8 = trvL' x3 x4 x6 x8 := by
  unfold kernelRun0_A.sl.H28_12 kernelRun0_A.sl.r_10 kernelRun0_A.sl.r_11 trvL' kernelRun0_A.sl.v251
  rw [ld28c c, head_v0 c, head_v1 c, head_v2 c, head_v3 c, scr28c c]
/-- and loaded again; -/
theorem ld28d : kernelRun0_A.sl.v419 c arg3 harg3 arg4 harg4 arg6 harg6 arg8 harg8 arg27 arg28 x3 x4 x6 x8 = View.canon (trvL' x3 x4 x6 x8) := by
  unfold kernelRun0_A.sl.v419
  rw [scr28d c, View.readCov_eq_canon']
  exact View.ld_unit_lit _ _ (by decide)
/-- the sink keys, -/
theorem scr21 : kernelRun0_A.sl.H21_1 c arg5 harg5 x5 = [⟨Rect.unit (s := S1024x64) ![0, 0] S1024x64.size inb_S1024x64_S1024x64_0_0, skbV x5⟩] := by
  have e5 : View.readAt (Elt F) arg5.view (Rect.unit (s := S1024x64) ![0, 0] ![1024, 64] inb_S1024x64_S1024x64_0_0).toLoadRect (harg5.unread x5) = x5 := readAt_whole harg5 x5 _
  unfold skbV kernelRun0_A.sl.H21_1
  rw [e5]
/-- the sink values, -/
theorem scr22 : kernelRun0_A.sl.H22_1 c arg7 harg7 x7 = [⟨Rect.unit (s := S1024x128) ![0, 0] S1024x128.size inb_S1024x128_S1024x128_0_0, svbV x7⟩] := by
  have e7 : View.readAt (Elt F) arg7.view (Rect.unit (s := S1024x64) ![0, 0] ![1024, 64] inb_S1024x64_S1024x64_0_0).toLoadRect (harg7.unread x7) = x7 := readAt_whole harg7 x7 _
  unfold svbV kernelRun0_A.sl.H22_1 kernelRun0_A.sl.r_12
  rw [e7]
/-- the new keys, -/
theorem scr23 : kernelRun0_A.sl.H23_1 c arg3 harg3 x3 = [⟨Rect.unit (s := S256x64) ![0, 0] S256x64.size inb_S256x64_S256x64_0_0, nkbV x3⟩] := by
  have e3 : View.readAt (Elt F) arg3.view (Rect.unit (s := S256x64) ![0, 0] ![256, 64] inb_S256x64_S256x64_0_0).toLoadRect (harg3.unread x3) = x3 := readAt_whole harg3 x3 _
  unfold nkbV
  simp only [kernelRun0_A.sl.H23_1, kernelRun0_A.sl.r, kernelRun0_A.sl.r_1, kernelRun0_A.sl.r_2]
  rw [e3]
/-- the new values. -/
theorem scr24 : kernelRun0_A.sl.H24_1 c arg4 harg4 x4 = [⟨Rect.unit (s := S256x128) ![0, 0] S256x128.size inb_S256x128_S256x128_0_0, nvbV x4⟩] := by
  have e4 : View.readAt (Elt F) arg4.view (Rect.unit (s := S256x64) ![0, 0] ![256, 64] inb_S256x64_S256x64_0_0).toLoadRect (harg4.unread x4) = x4 := readAt_whole harg4 x4 _
  unfold nvbV
  simp only [kernelRun0_A.sl.H24_1, kernelRun0_A.sl.r_8, kernelRun0_A.sl.r_6]
  rw [e4]
/-- What the first point stores into its buffer 15. -/
theorem pieces_A15 (hc0 : cond0_0 i) (hc1 : ¬cond0_1 i) : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x2 x3 x4 x5 x6 x7 x8 x9 x10 x11 x12 x13 xt0).1
    = [⟨Rect.unit (s := S256x64) ![0, 0] S256x64.size inb_S256x64_S256x64_0_0, kncV x3⟩] := by
  have e3 : View.readAt (Elt F) arg3.view (Rect.unit (s := S256x64) ![0, 0] ![256, 64] inb_S256x64_S256x64_0_0).toLoadRect (harg3.unread x3) = x3 := readAt_whole harg3 x3 _
  unfold kncV kernelRun0_A
  simp only [kernelRun0_A.sl.r, kernelRun0_A.sl.r_1, kernelRun0_A.sl.r_2]
  rw [e3]

/-- What the first point stores into its buffer 16. -/
theorem pieces_A16 (hc0 : cond0_0 i) (hc1 : ¬cond0_1 i) : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x2 x3 x4 x5 x6 x7 x8 x9 x10 x11 x12 x13 xt0).2.1
    = [⟨Rect.unit (s := S4x64) ![0, 0] S4x64.size inb_S4x64_S4x64_0_0, knsV x3 x6⟩] := by
  unfold kernelRun0_A knsV
  simp only []
  rw [ld28b c]

/-- What the first point stores into its buffer 17. -/
theorem pieces_A17 (hc0 : cond0_0 i) (hc1 : ¬cond0_1 i) : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x2 x3 x4 x5 x6 x7 x8 x9 x10 x11 x12 x13 xt0).2.2.1
    = [⟨Rect.unit (s := S256x64) ![0, 0] S256x64.size inb_S256x64_S256x64_0_0, vncV x4⟩] := by
  have e4 : View.readAt (Elt F) arg4.view (Rect.unit (s := S256x64) ![0, 0] ![256, 64] inb_S256x64_S256x64_0_0).toLoadRect (harg4.unread x4) = x4 := readAt_whole harg4 x4 _
  unfold vncV kernelRun0_A
  simp only [kernelRun0_A.sl.r_6]
  rw [e4]

/-- What the first point stores into its buffer 18. -/
theorem pieces_A18 (hc0 : cond0_0 i) (hc1 : ¬cond0_1 i) : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x2 x3 x4 x5 x6 x7 x8 x9 x10 x11 x12 x13 xt0).2.2.2.1
    = [⟨Rect.unit (s := S4x64) ![0, 0] S4x64.size inb_S4x64_S4x64_0_0, vnsV x3 x4 x6 x8⟩] := by
  unfold kernelRun0_A vnsV
  simp only []
  rw [ld28d c]

/-- What the first point stores into its buffer 19. -/
theorem pieces_A19 (hc0 : cond0_0 i) (hc1 : ¬cond0_1 i) : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x2 x3 x4 x5 x6 x7 x8 x9 x10 x11 x12 x13 xt0).2.2.2.2.1
    = [⟨Rect.unit (s := S1x64) ![0, 0] S1x64.size inb_S1x64_S1x64_0_0, k0_pay7 x9⟩] := by
  have e9 : View.readAt (Elt F) arg9.view (Rect.unit (s := S1x64) ![0, 0] ![1, 64] inb_S1x64_S1x64_0_0).toLoadRect (harg9.unread x9) = x9 := readAt_whole harg9 x9 _
  unfold kernelRun0_A
  simp only []
  rw [e9]

/-- What the first point stores into its buffer 20. -/
theorem pieces_A20 (hc0 : cond0_0 i) (hc1 : ¬cond0_1 i) : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x2 x3 x4 x5 x6 x7 x8 x9 x10 x11 x12 x13 xt0).2.2.2.2.2.1
    = [⟨Rect.unit (s := S1x64) ![0, 0] S1x64.size inb_S1x64_S1x64_0_0, k0_pay8 x9⟩] := by
  have e9 : View.readAt (Elt F) arg9.view (Rect.unit (s := S1x64) ![0, 0] ![1, 64] inb_S1x64_S1x64_0_0).toLoadRect (harg9.unread x9) = x9 := readAt_whole harg9 x9 _
  unfold kernelRun0_A
  simp only []
  rw [e9]

/-- What the first point stores into its buffer 21. -/
theorem pieces_A21 (hc0 : cond0_0 i) (hc1 : ¬cond0_1 i) : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x2 x3 x4 x5 x6 x7 x8 x9 x10 x11 x12 x13 xt0).2.2.2.2.2.2.1
    = [⟨Rect.unit (s := S1024x64) ![0, 0] S1024x64.size inb_S1024x64_S1024x64_0_0, skbV x5⟩] := by
  unfold kernelRun0_A; exact scr21 c _ _ _

/-- What the first point stores into its buffer 22. -/
theorem pieces_A22 (hc0 : cond0_0 i) (hc1 : ¬cond0_1 i) : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x2 x3 x4 x5 x6 x7 x8 x9 x10 x11 x12 x13 xt0).2.2.2.2.2.2.2.1
    = [⟨Rect.unit (s := S1024x128) ![0, 0] S1024x128.size inb_S1024x128_S1024x128_0_0, svbV x7⟩] := by
  unfold kernelRun0_A; exact scr22 c _ _ _

/-- What the first point stores into its buffer 23. -/
theorem pieces_A23 (hc0 : cond0_0 i) (hc1 : ¬cond0_1 i) : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x2 x3 x4 x5 x6 x7 x8 x9 x10 x11 x12 x13 xt0).2.2.2.2.2.2.2.2.1
    = [⟨Rect.unit (s := S256x64) ![0, 0] S256x64.size inb_S256x64_S256x64_0_0, nkbV x3⟩] := by
  unfold kernelRun0_A; exact scr23 c _ _ _

/-- What the first point stores into its buffer 24. -/
theorem pieces_A24 (hc0 : cond0_0 i) (hc1 : ¬cond0_1 i) : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x2 x3 x4 x5 x6 x7 x8 x9 x10 x11 x12 x13 xt0).2.2.2.2.2.2.2.2.2.1
    = [⟨Rect.unit (s := S256x128) ![0, 0] S256x128.size inb_S256x128_S256x128_0_0, nvbV x4⟩] := by
  unfold kernelRun0_A; exact scr24 c _ _ _

/-- What the first point stores into its buffer 25. -/
theorem pieces_A25 (hc0 : cond0_0 i) (hc1 : ¬cond0_1 i) : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x2 x3 x4 x5 x6 x7 x8 x9 x10 x11 x12 x13 xt0).2.2.2.2.2.2.2.2.2.2.1
    = [⟨Rect.unit (s := S64x128) ![0, 0] S64x128.size inb_S64x128_S64x128_0_0, kscV x3 x6⟩] := by
  unfold kernelRun0_A; exact scr25 c _ _ _ _ _ _ _ _

/-- What the first point stores into its buffer 26. -/
theorem pieces_A26 (hc0 : cond0_0 i) (hc1 : ¬cond0_1 i) : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x2 x3 x4 x5 x6 x7 x8 x9 x10 x11 x12 x13 xt0).2.2.2.2.2.2.2.2.2.2.2.1
    = [⟨Rect.unit (s := S64x128) ![0, 0] S64x128.size inb_S64x128_S64x128_0_0, vscV x3 x4 x6 x8⟩] := by
  unfold kernelRun0_A; exact scr26 c _ _ _ _ _ _ _ _ _ _ _ _ _ _

/-- Like every point, the first stores its two pieces of the collected result. -/
theorem pieces_A29 (hc0 : cond0_0 i) (hc1 : ¬cond0_1 i) : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x2 x3 x4 x5 x6 x7 x8 x9 x10 x11 x12 x13 xt0).2.2.2.2.2.2.2.2.2.2.2.2.2.2.1
    = [⟨Rect.unit (s := S1024x128) (k0_off7 i 8#32) S8x128.size (k0_off7_inb i 1), (tileHi i x2 x10 x11 x12 x13 (skbV x5) (svbV x7) (nkbV x3) (nvbV x4) (kscV x3 x6) (vscV x3 x4 x6 x8) (tWord c i xt0))⟩, ⟨Rect.unit (s := S1024x128) (k0_off7 i 0#32) S8x128.size (k0_off7_inb i 0), (tileLo i x2 x10 x11 x12 x13 (skbV x5) (svbV x7) (nkbV x3) (nvbV x4) (kscV x3 x6) (vscV x3 x4 x6 x8) (tWord c i xt0))⟩] := by
  have e10 : View.readAt (Elt F) arg10.view (Rect.unit (s := S1x256x2048) ![0, 0, 0] ![1, 256, 2048] inb_S1x256x2048_S1x256x2048_0_0_0).toLoadRect (harg10.unread x10) = x10 := readAt_whole harg10 x10 _
  have e11 : View.readAt (Elt F) arg11.view (Rect.unit (s := S1x4x2048) ![0, 0, 0] ![1, 4, 2048] inb_S1x4x2048_S1x4x2048_0_0_0).toLoadRect (harg11.unread x11) = x11 := readAt_whole harg11 x11 _
  have e12 : View.readAt (Elt F) arg12.view (Rect.unit (s := S1x256x2048) ![0, 0, 0] ![1, 256, 2048] inb_S1x256x2048_S1x256x2048_0_0_0).toLoadRect (harg12.unread x12) = x12 := readAt_whole harg12 x12 _
  have e13 : View.readAt (Elt F) arg13.view (Rect.unit (s := S1x4x2048) ![0, 0, 0] ![1, 4, 2048] inb_S1x4x2048_S1x4x2048_0_0_0).toLoadRect (harg13.unread x13) = x13 := readAt_whole harg13 x13 _
  have j21 : ∀ (B : LoadRect S1024x64) (f : arg21.view.ty.Contents (Elt F)) (w : S1024x64.Idx → Elt F .bf16), View.readAt (Elt F) arg21.view B (arg21.view.writes (Elt F) f [(⟨Rect.unit (s := S1024x64) ![0, 0] ![1024, 64] inb_S1024x64_S1024x64_0_0, w⟩ : View.Piece (Elt F) S1024x64 .bf16)]) = fun x => w (B.idx x) := fun B f w => readAt_writes_whole arg21.view f _ w B
  have j22 : ∀ (B : LoadRect S1024x128) (f : arg22.view.ty.Contents (Elt F)) (w : S1024x128.Idx → Elt F .bf16), View.readAt (Elt F) arg22.view B (arg22.view.writes (Elt F) f [(⟨Rect.unit (s := S1024x128) ![0, 0] ![1024, 128] inb_S1024x128_S1024x128_0_0, w⟩ : View.Piece (Elt F) S1024x128 .bf16)]) = fun x => w (B.idx x) := fun B f w => readAt_writes_whole arg22.view f _ w B
  have j23 : ∀ (B : LoadRect S256x64) (f : arg23.view.ty.Contents (Elt F)) (w : S256x64.Idx → Elt F .bf16), View.readAt (Elt F) arg23.view B (arg23.view.writes (Elt F) f [(⟨Rect.unit (s := S256x64) ![0, 0] ![256, 64] inb_S256x64_S256x64_0_0, w⟩ : View.Piece (Elt F) S256x64 .bf16)]) = fun x => w (B.idx x) := fun B f w => readAt_writes_whole arg23.view f _ w B
  have j24 : ∀ (B : LoadRect S256x128) (f : arg24.view.ty.Contents (Elt F)) (w : S256x128.Idx → Elt F .bf16), View.readAt (Elt F) arg24.view B (arg24.view.writes (Elt F) f [(⟨Rect.unit (s := S256x128) ![0, 0] ![256, 128] inb_S256x128_S256x128_0_0, w⟩ : View.Piece (Elt F) S256x128 .bf16)]) = fun x => w (B.idx x) := fun B f w => readAt_writes_whole arg24.view f _ w B
  have j25 : ∀ (B : LoadRect S64x128) (f : arg25.view.ty.Contents (Elt F)) (w : S64x128.Idx → Elt F .f32), View.readAt (Elt F) arg25.view B (arg25.view.writes (Elt F) f [(⟨Rect.unit (s := S64x128) ![0, 0] ![64, 128] inb_S64x128_S64x128_0_0, w⟩ : View.Piece (Elt F) S64x128 .f32)]) = fun x => w (B.idx x) := fun B f w => readAt_writes_whole arg25.view f _ w B
  have j26 : ∀ (B : LoadRect S64x128) (f : arg26.view.ty.Contents (Elt F)) (w : S64x128.Idx → Elt F .f32), View.readAt (Elt F) arg26.view B (arg26.view.writes (Elt F) f [(⟨Rect.unit (s := S64x128) ![0, 0] ![64, 128] inb_S64x128_S64x128_0_0, w⟩ : View.Piece (Elt F) S64x128 .f32)]) = fun x => w (B.idx x) := fun B f w => readAt_writes_whole arg26.view f _ w B
  unfold tileLo tileHi tR3 tR5 tR6 tS0 tQ tWord View.ld kernelRun0_A
  simp only [kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.v36, kernelRun0_A.sl.v101]
  rw [scr21 c, scr22 c, scr23 c, scr24 c, scr25 c, scr26 c]
  rw [e10, e11, e12, e13]
  rw [readAt_part harg2]
  simp only [j21, j22, j23, j24, j25, j26]
  unfold kernelRun0_A.sl.cst_11 kernelRun0_A.sl.v120
  rfl

set_option maxHeartbeats 2000000 in
/-- The first point quantises the new keys and values, fills the buffers that every point reads, stores five of the
results and puts its rows into the collected result. -/
theorem triple_A (hc0 : cond0_0 i) (hc1 : ¬cond0_1 i) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ tbPt0 c tbM0_0 xt0
      ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg15 fullShare (kncV x3) ∗ owns (c : Thread nD τ) arg16 fullShare (knsV x3 x6) ∗ owns (c : Thread nD τ) arg17 fullShare (vncV x4) ∗ owns (c : Thread nD τ) arg18 fullShare (vnsV x3 x4 x6 x8) ∗ owns (c : Thread nD τ) arg19 fullShare (k0_pay7 x9) ∗ owns (c : Thread nD τ) arg20 fullShare (k0_pay8 x9) ∗ owns (c : Thread nD τ) arg21 fullShare (skbV x5) ∗ owns (c : Thread nD τ) arg22 fullShare (svbV x7) ∗ owns (c : Thread nD τ) arg23 fullShare (nkbV x3) ∗ owns (c : Thread nD τ) arg24 fullShare (nvbV x4) ∗ owns (c : Thread nD τ) arg25 fullShare (kscV x3 x6) ∗ owns (c : Thread nD τ) arg26 fullShare (vscV x3 x4 x6 x8) ∗ (∃ d, owns (c : Thread nD τ) arg27 fullShare d) ∗ (∃ d, owns (c : Thread nD τ) arg28 fullShare d) ∗ (∃ d, owns (c : Thread nD τ) arg29 fullShare (finPut i (tileLo i x2 x10 x11 x12 x13 (skbV x5) (svbV x7) (nkbV x3) (nvbV x4) (kscV x3 x6) (vscV x3 x4 x6 x8) (tWord c i xt0)) (tileHi i x2 x10 x11 x12 x13 (skbV x5) (svbV x7) (nkbV x3) (nvbV x4) (kscV x3 x6) (vscV x3 x4 x6 x8) (tWord c i xt0)) d)) ∗ tbPt0 c tbM0_0 xt0) -∗ K ⟨⟩))
    ⊢ wp frame (wpE (defs₀ (F := F)) Variants.none c none) E (cc0_sink_ring_decode i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K := by
  have h15 : ∀ f, arg15.view.read (Elt F) (arg15.view.writes (Elt F) f (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x2 x3 x4 x5 x6 x7 x8 x9 x10 x11 x12 x13 xt0).1) = kncV x3 := fun f => by
    rw [pieces_A15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x2 x3 x4 x5 x6 x7 x8 x9 x10 x11 x12 x13 xt0 hc0 hc1]; exact View.read_writes_full arg15.view f _ _ []
  have h16 : ∀ f, arg16.view.read (Elt F) (arg16.view.writes (Elt F) f (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x2 x3 x4 x5 x6 x7 x8 x9 x10 x11 x12 x13 xt0).2.1) = knsV x3 x6 := fun f => by
    rw [pieces_A16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x2 x3 x4 x5 x6 x7 x8 x9 x10 x11 x12 x13 xt0 hc0 hc1]; exact View.read_writes_full arg16.view f _ _ []
  have h17 : ∀ f, arg17.view.read (Elt F) (arg17.view.writes (Elt F) f (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x2 x3 x4 x5 x6 x7 x8 x9 x10 x11 x12 x13 xt0).2.2.1) = vncV x4 := fun f => by
    rw [pieces_A17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x2 x3 x4 x5 x6 x7 x8 x9 x10 x11 x12 x13 xt0 hc0 hc1]; exact View.read_writes_full arg17.view f _ _ []
  have h18 : ∀ f, arg18.view.read (Elt F) (arg18.view.writes (Elt F) f (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x2 x3 x4 x5 x6 x7 x8 x9 x10 x11 x12 x13 xt0).2.2.2.1) = vnsV x3 x4 x6 x8 := fun f => by
    rw [pieces_A18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x2 x3 x4 x5 x6 x7 x8 x9 x10 x11 x12 x13 xt0 hc0 hc1]; exact View.read_writes_full arg18.view f _ _ []
  have h19 : ∀ f, arg19.view.read (Elt F) (arg19.view.writes (Elt F) f (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x2 x3 x4 x5 x6 x7 x8 x9 x10 x11 x12 x13 xt0).2.2.2.2.1) = k0_pay7 x9 := fun f => by
    rw [pieces_A19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x2 x3 x4 x5 x6 x7 x8 x9 x10 x11 x12 x13 xt0 hc0 hc1]; exact View.read_writes_full arg19.view f _ _ []
  have h20 : ∀ f, arg20.view.read (Elt F) (arg20.view.writes (Elt F) f (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x2 x3 x4 x5 x6 x7 x8 x9 x10 x11 x12 x13 xt0).2.2.2.2.2.1) = k0_pay8 x9 := fun f => by
    rw [pieces_A20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x2 x3 x4 x5 x6 x7 x8 x9 x10 x11 x12 x13 xt0 hc0 hc1]; exact View.read_writes_full arg20.view f _ _ []
  have h21 : ∀ f, arg21.view.read (Elt F) (arg21.view.writes (Elt F) f (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x2 x3 x4 x5 x6 x7 x8 x9 x10 x11 x12 x13 xt0).2.2.2.2.2.2.1) = skbV x5 := fun f => by
    rw [pieces_A21 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x2 x3 x4 x5 x6 x7 x8 x9 x10 x11 x12 x13 xt0 hc0 hc1]; exact View.read_writes_full arg21.view f _ _ []
  have h22 : ∀ f, arg22.view.read (Elt F) (arg22.view.writes (Elt F) f (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x2 x3 x4 x5 x6 x7 x8 x9 x10 x11 x12 x13 xt0).2.2.2.2.2.2.2.1) = svbV x7 := fun f => by
    rw [pieces_A22 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x2 x3 x4 x5 x6 x7 x8 x9 x10 x11 x12 x13 xt0 hc0 hc1]; exact View.read_writes_full arg22.view f _ _ []
  have h23 : ∀ f, arg23.view.read (Elt F) (arg23.view.writes (Elt F) f (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x2 x3 x4 x5 x6 x7 x8 x9 x10 x11 x12 x13 xt0).2.2.2.2.2.2.2.2.1) = nkbV x3 := fun f => by
    rw [pieces_A23 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x2 x3 x4 x5 x6 x7 x8 x9 x10 x11 x12 x13 xt0 hc0 hc1]; exact View.read_writes_full arg23.view f _ _ []
  have h24 : ∀ f, arg24.view.read (Elt F) (arg24.view.writes (Elt F) f (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x2 x3 x4 x5 x6 x7 x8 x9 x10 x11 x12 x13 xt0).2.2.2.2.2.2.2.2.2.1) = nvbV x4 := fun f => by
    rw [pieces_A24 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x2 x3 x4 x5 x6 x7 x8 x9 x10 x11 x12 x13 xt0 hc0 hc1]; exact View.read_writes_full arg24.view f _ _ []
  have h25 : ∀ f, arg25.view.read (Elt F) (arg25.view.writes (Elt F) f (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x2 x3 x4 x5 x6 x7 x8 x9 x10 x11 x12 x13 xt0).2.2.2.2.2.2.2.2.2.2.1) = kscV x3 x6 := fun f => by
    rw [pieces_A25 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x2 x3 x4 x5 x6 x7 x8 x9 x10 x11 x12 x13 xt0 hc0 hc1]; exact View.read_writes_full arg25.view f _ _ []
  have h26 : ∀ f, arg26.view.read (Elt F) (arg26.view.writes (Elt F) f (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x2 x3 x4 x5 x6 x7 x8 x9 x10 x11 x12 x13 xt0).2.2.2.2.2.2.2.2.2.2.2.1) = vscV x3 x4 x6 x8 := fun f => by
    rw [pieces_A26 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x2 x3 x4 x5 x6 x7 x8 x9 x10 x11 x12 x13 xt0 hc0 hc1]; exact View.read_writes_full arg26.view f _ _ []
  have h29 : ∀ f, arg29.view.read (Elt F) (arg29.view.writes (Elt F) f (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x2 x3 x4 x5 x6 x7 x8 x9 x10 x11 x12 x13 xt0).2.2.2.2.2.2.2.2.2.2.2.2.2.2.1) = finPut i (tileLo i x2 x10 x11 x12 x13 (skbV x5) (svbV x7) (nkbV x3) (nvbV x4) (kscV x3 x6) (vscV x3 x4 x6 x8) (tWord c i xt0)) (tileHi i x2 x10 x11 x12 x13 (skbV x5) (svbV x7) (nkbV x3) (nvbV x4) (kscV x3 x6) (vscV x3 x4 x6 x8) (tWord c i xt0)) (arg29.view.read (Elt F) f) := fun f => by
    rw [pieces_A29 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x2 x3 x4 x5 x6 x7 x8 x9 x10 x11 x12 x13 xt0 hc0 hc1]; exact read_finPut arg29.view f i _ _
  iintro ⟨H2, H3, H4, H5, H6, H7, H8, H9, H10, H11, H12, H13, H15, H16, H17, H18, H19, H20, H21, H22, H23, H24, H25, H26, H27, H28, H29, HT0, Hk⟩
  iapply ((kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x2 x3 x4 x5 x6 x7 x8 x9 x10 x11 x12 x13 xt0).2.2.2.2.2.2.2.2.2.2.2.2.2.2.2 E K)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [HT0]; · iexact HT0
  iintro ⟨H2, H3, H4, H5, H6, H7, H8, H9, H10, H11, H12, H13, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, ⟨%f24, H24⟩, ⟨%f25, H25⟩, ⟨%f26, H26⟩, ⟨%f27, H27⟩, ⟨%f28, H28⟩, ⟨%f29, H29⟩, HT0⟩
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H15]
  · unfold owns; iexists _; isplitr; · ipureintro; exact h15 f15
    iexact H15
  isplitl [H16]
  · unfold owns; iexists _; isplitr; · ipureintro; exact h16 f16
    iexact H16
  isplitl [H17]
  · unfold owns; iexists _; isplitr; · ipureintro; exact h17 f17
    iexact H17
  isplitl [H18]
  · unfold owns; iexists _; isplitr; · ipureintro; exact h18 f18
    iexact H18
  isplitl [H19]
  · unfold owns; iexists _; isplitr; · ipureintro; exact h19 f19
    iexact H19
  isplitl [H20]
  · unfold owns; iexists _; isplitr; · ipureintro; exact h20 f20
    iexact H20
  isplitl [H21]
  · unfold owns; iexists _; isplitr; · ipureintro; exact h21 f21
    iexact H21
  isplitl [H22]
  · unfold owns; iexists _; isplitr; · ipureintro; exact h22 f22
    iexact H22
  isplitl [H23]
  · unfold owns; iexists _; isplitr; · ipureintro; exact h23 f23
    iexact H23
  isplitl [H24]
  · unfold owns; iexists _; isplitr; · ipureintro; exact h24 f24
    iexact H24
  isplitl [H25]
  · unfold owns; iexists _; isplitr; · ipureintro; exact h25 f25
    iexact H25
  isplitl [H26]
  · unfold owns; iexists _; isplitr; · ipureintro; exact h26 f26
    iexact H26
  isplitl [H27]
  · iexists (arg27.view.read (Elt F) (arg27.view.writes (Elt F) f27 (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x2 x3 x4 x5 x6 x7 x8 x9 x10 x11 x12 x13 xt0).2.2.2.2.2.2.2.2.2.2.2.2.1)); unfold owns; iexists (arg27.view.writes (Elt F) f27 (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x2 x3 x4 x5 x6 x7 x8 x9 x10 x11 x12 x13 xt0).2.2.2.2.2.2.2.2.2.2.2.2.1); isplitr; · ipureintro; rfl
    iexact H27
  isplitl [H28]
  · iexists (arg28.view.read (Elt F) (arg28.view.writes (Elt F) f28 (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x2 x3 x4 x5 x6 x7 x8 x9 x10 x11 x12 x13 xt0).2.2.2.2.2.2.2.2.2.2.2.2.2.1)); unfold owns; iexists (arg28.view.writes (Elt F) f28 (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x2 x3 x4 x5 x6 x7 x8 x9 x10 x11 x12 x13 xt0).2.2.2.2.2.2.2.2.2.2.2.2.2.1); isplitr; · ipureintro; rfl
    iexact H28
  isplitl [H29]
  · iexists (arg29.view.read (Elt F) f29); unfold owns; iexists _; isplitr; · ipureintro; exact h29 f29
    iexact H29
  iexact HT0

end First

end Cert.KernelIdeal.Gen

end
-- ==== Proof.Frame.lean ====
module

public import proofs.«01_k».proof.Proof.Triples
public import proofs.«01_k».proof.Proof.TriplesA
public import Idealize.ShloMosaic.Lib.Pipeline.TableIdle

@[expose] public section

set_option maxRecDepth 16384

/-! # The run of the kernel: every point, and what the arrays end at -/

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

open Idealize.ShloMosaic.Pipeline (Dat Cfg Window BodyObligation cellOf)

variable (m : (ℓ : Loc nD τ sig) → Buf (Elt F) ℓ) (ρ : Dev nD → PrngReg)

/-! ### What the run holds, by name -/

/-- The first grid point. -/
def p0 (hO : Ok m) : Fin (cfgM m hO).N := ⟨0, by rw [show (cfgM m hO).N = 64 from N_0]; decide⟩
/-- The buffer of the sink keys after the first point. -/
def skbA (hO : Ok m) (c : Dev nD) : Vec F S1024x64 .bf16 := skbV (iblk m hO c 3 (p0 m hO))
/-- The buffer of the sink values after the first point. -/
def svbA (hO : Ok m) (c : Dev nD) : Vec F S1024x128 .bf16 := svbV (iblk m hO c 5 (p0 m hO))
/-- The buffer of the new keys after the first point. -/
def nkbA (hO : Ok m) (c : Dev nD) : Vec F S256x64 .bf16 := nkbV (iblk m hO c 1 (p0 m hO))
/-- The buffer of the new values after the first point. -/
def nvbA (hO : Ok m) (c : Dev nD) : Vec F S256x128 .bf16 := nvbV (iblk m hO c 2 (p0 m hO))
/-- The buffer of the scales of the keys after the first point. -/
def kscA (hO : Ok m) (c : Dev nD) : Vec F S64x128 .f32 := kscV (iblk m hO c 1 (p0 m hO)) (iblk m hO c 4 (p0 m hO))
/-- The buffer of the scales of the values after the first point. -/
def vscA (hO : Ok m) (c : Dev nD) : Vec F S64x128 .f32 := vscV (iblk m hO c 1 (p0 m hO)) (iblk m hO c 2 (p0 m hO)) (iblk m hO c 4 (p0 m hO)) (iblk m hO c 6 (p0 m hO))
/-- The rows 0 to 7 and 8 to 15 that point `t` computes. -/
def loA (hO : Ok m) (c : Dev nD) (t : Fin (cfgM m hO).N) : Vec F S8x128 .f32 := tileLo (grid0.coords t) (iblk m hO c 0 t) (iblk m hO c 8 t) (iblk m hO c 9 t) (iblk m hO c 10 t) (iblk m hO c 11 t) (skbA m hO c) (svbA m hO c) (nkbA m hO c) (nvbA m hO c) (kscA m hO c) (vscA m hO c) (tWord c (grid0.coords t) (tbl m 0))
def hiA (hO : Ok m) (c : Dev nD) (t : Fin (cfgM m hO).N) : Vec F S8x128 .f32 := tileHi (grid0.coords t) (iblk m hO c 0 t) (iblk m hO c 8 t) (iblk m hO c 9 t) (iblk m hO c 10 t) (iblk m hO c 11 t) (skbA m hO c) (svbA m hO c) (nkbA m hO c) (nvbA m hO c) (kscA m hO c) (vscA m hO c) (tWord c (grid0.coords t) (tbl m 0))
/-- The collected result after the last point: rows `16 t` to `16 t + 15` are those of point `t`. -/
def finA (hO : Ok m) (c : Dev nD) : Vec F S1024x128 .f32 := fun j =>
  let t : Fin (cfgM m hO).N := ⟨(j 0).val / 16, by have : (j 0).val < 1024 := (j 0).isLt; rw [show (cfgM m hO).N = 64 from N_0]; omega⟩
  if h : (j 0).val % 16 < 8 then loA m hO c t (ix2 (⟨(j 0).val % 16, h⟩ : Fin 8) (j 1 : Fin 128)) else hiA m hO c t (ix2 (⟨(j 0).val % 16 - 8, by omega⟩ : Fin 8) (j 1 : Fin 128))
/-- The attention result. -/
def outA (hO : Ok m) (c : Dev nD) : Vec F S64x1024 .bf16 := View.canon (outL (finA m hO c))

theorem coords_t (hO : Ok m) (t : Fin (cfgM m hO).N) : (grid0.coords t 0).val = t.val := by
  have ht : t.val < 64 := Nat.lt_of_lt_of_eq t.isLt N_0
  have e0 : ∀ t : Fin grid0.N, (grid0.coords t 0).val = t.val / 1 % 64 := fun t => Pipeline.Grid.coords_val t 0 (by decide) rfl
  have := e0 t
  omega

/-- The rows below `16 n` of the collected result are final. -/
def Agree (hO : Ok m) (c : Dev nD) (n : ℕ) (d : Vec F S1024x128 .f32) : Prop := ∀ j, (j 0).val < 16 * n → d j = finA m hO c j

theorem agree_put (hO : Ok m) (c : Dev nD) (t : Fin (cfgM m hO).N) (d : Vec F S1024x128 .f32) (h : Agree m hO c t.val d) :
    Agree m hO c (t.val + 1) (finPut (grid0.coords t) (loA m hO c t) (hiA m hO c t) d) := by
  intro j hj
  unfold finPut
  rw [coords_t m hO t]
  by_cases e : (j 0).val / 16 = t.val
  · rw [if_pos e]
    unfold finA
    have : (⟨(j 0).val / 16, by rw [e]; exact t.isLt⟩ : Fin (cfgM m hO).N) = t := Fin.ext e
    simp only [this]
  · rw [if_neg e]
    exact h j (by omega)

theorem agree_zero (hO : Ok m) (c : Dev nD) (d : Vec F S1024x128 .f32) : Agree m hO c 0 d := fun j hj => absurd hj (by omega)

theorem agree_all (hO : Ok m) (c : Dev nD) (d : Vec F S1024x128 .f32) (h : Agree m hO c 64 d) : d = finA m hO c :=
  funext fun j => h j (by have : (j 0).val < 1024 := (j 0).isLt; omega)

/-! ### The invariant and the proof data -/

/-- Before the first point the scratch holds anything; after point `n` the six buffers that the first point fills hold
what it left, and the collected result is final below row `16 (n + 1)`. -/
def PhiS (hO : Ok m) (c : Dev nD) : ℕ → sProp 𝕄
  | 0 => iprop(Pipeline.ΦA spec0 c ∗ Pipeline.ΦT pre0 (tbl m) c)
  | n + 1 => iprop(iprop(iprop(owns (c : Thread nD τ) scM0_0 fullShare (skbA m hO c) ∗ owns (c : Thread nD τ) scM0_1 fullShare (svbA m hO c) ∗ owns (c : Thread nD τ) scM0_2 fullShare (nkbA m hO c) ∗ owns (c : Thread nD τ) scM0_3 fullShare (nvbA m hO c) ∗ owns (c : Thread nD τ) scM0_4 fullShare (kscA m hO c) ∗ owns (c : Thread nD τ) scM0_5 fullShare (vscA m hO c) ∗ (∃ d, owns (c : Thread nD τ) scM0_6 fullShare d) ∗ (∃ d, owns (c : Thread nD τ) scM0_7 fullShare d) ∗ (∃ d, ⌜Agree m hO c (n + 1) d⌝ ∗ owns (c : Thread nD τ) scM0_8 fullShare d)) ∗ (∃ r, prngReg c r)) ∗ tbPt0 c tbM0_0 (tbl m 0))

theorem PhiS_zero (hO : Ok m) (c : Dev nD) (n : ℕ) (hz : n = 0) : PhiS m hO c n = iprop(Pipeline.ΦA spec0 c ∗ Pipeline.ΦT pre0 (tbl m) c) := by
  subst hz; rfl
theorem PhiS_succ (hO : Ok m) (c : Dev nD) (n : ℕ) : PhiS m hO c (n + 1) = iprop(iprop(iprop(owns (c : Thread nD τ) scM0_0 fullShare (skbA m hO c) ∗ owns (c : Thread nD τ) scM0_1 fullShare (svbA m hO c) ∗ owns (c : Thread nD τ) scM0_2 fullShare (nkbA m hO c) ∗ owns (c : Thread nD τ) scM0_3 fullShare (nvbA m hO c) ∗ owns (c : Thread nD τ) scM0_4 fullShare (kscA m hO c) ∗ owns (c : Thread nD τ) scM0_5 fullShare (vscA m hO c) ∗ (∃ d, owns (c : Thread nD τ) scM0_6 fullShare d) ∗ (∃ d, owns (c : Thread nD τ) scM0_7 fullShare d) ∗ (∃ d, ⌜Agree m hO c (n + 1) d⌝ ∗ owns (c : Thread nD τ) scM0_8 fullShare d)) ∗ (∃ r, prngReg c r)) ∗ tbPt0 c tbM0_0 (tbl m 0)) := rfl
theorem PhiS_pos (hO : Ok m) (c : Dev nD) (n : ℕ) (hz : n ≠ 0) : PhiS m hO c n = iprop(iprop(iprop(owns (c : Thread nD τ) scM0_0 fullShare (skbA m hO c) ∗ owns (c : Thread nD τ) scM0_1 fullShare (svbA m hO c) ∗ owns (c : Thread nD τ) scM0_2 fullShare (nkbA m hO c) ∗ owns (c : Thread nD τ) scM0_3 fullShare (nvbA m hO c) ∗ owns (c : Thread nD τ) scM0_4 fullShare (kscA m hO c) ∗ owns (c : Thread nD τ) scM0_5 fullShare (vscA m hO c) ∗ (∃ d, owns (c : Thread nD τ) scM0_6 fullShare d) ∗ (∃ d, owns (c : Thread nD τ) scM0_7 fullShare d) ∗ (∃ d, ⌜Agree m hO c n d⌝ ∗ owns (c : Thread nD τ) scM0_8 fullShare d)) ∗ (∃ r, prngReg c r)) ∗ tbPt0 c tbM0_0 (tbl m 0)) := by
  cases n with
  | zero => exact absurd rfl hz
  | succ n => rfl

/-- The proof data: the inputs' buffers keep their blocks; the first point leaves five results, which stay; the last
leaves the attention result. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => iblk m hO c 10 t
    | ⟨11, _⟩ => iblk m hO c 11 t
    | ⟨12, _⟩ => outA m hO c
    | ⟨13, _⟩ => kncV (iblk m hO c 1 (p0 m hO))
    | ⟨14, _⟩ => knsV (iblk m hO c 1 (p0 m hO)) (iblk m hO c 4 (p0 m hO))
    | ⟨15, _⟩ => vncV (iblk m hO c 2 (p0 m hO))
    | ⟨16, _⟩ => vnsV (iblk m hO c 1 (p0 m hO)) (iblk m hO c 2 (p0 m hO)) (iblk m hO c 4 (p0 m hO)) (iblk m hO c 6 (p0 m hO))
    | ⟨17, _⟩ => k0_pay7 (iblk m hO c 7 (p0 m hO))
    | ⟨18, _⟩ => k0_pay8 (iblk m hO c 7 (p0 m hO))
    | ⟨_ + 19, h⟩ => absurd h (Nat.not_lt.2 (Nat.le_add_left _ _))
  Φ t := PhiS m hO c t.val
  q _ := fullShare
  owed _ := 0

theorem A_eq (hO : Ok m) (c : Dev nD) (w : Fin (cfgM m hO).W) : (dats m hO 0 c).A w = V m c (Pipeline.arrRef spec0 w) := by
  dsimp only [dats]

theorem PhiS_castSucc (hO : Ok m) (c : Dev nD) (t : Fin (cfgM m hO).N) : (dats m hO 0 c).Φ t.castSucc = PhiS m hO c t.val := by
  dsimp only [dats]; rfl

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl
theorem after0_8 (hO : Ok m) (c : Dev nD) (t : Fin (cfgM m hO).N) : (dats m hO 0 c).after 8 t = iblk m hO c 8 t := by dsimp only [dats]; try rfl
theorem after0_9 (hO : Ok m) (c : Dev nD) (t : Fin (cfgM m hO).N) : (dats m hO 0 c).after 9 t = iblk m hO c 9 t := by dsimp only [dats]; try rfl
theorem after0_10 (hO : Ok m) (c : Dev nD) (t : Fin (cfgM m hO).N) : (dats m hO 0 c).after 10 t = iblk m hO c 10 t := by dsimp only [dats]; try rfl
theorem after0_11 (hO : Ok m) (c : Dev nD) (t : Fin (cfgM m hO).N) : (dats m hO 0 c).after 11 t = iblk m hO c 11 t := by dsimp only [dats]; try rfl
theorem after0_12 (hO : Ok m) (c : Dev nD) (t : Fin (cfgM m hO).N) : (dats m hO 0 c).after 12 t = outA m hO c := by dsimp only [dats]; try rfl
theorem after0_13 (hO : Ok m) (c : Dev nD) (t : Fin (cfgM m hO).N) : (dats m hO 0 c).after 13 t = kncV (iblk m hO c 1 (p0 m hO)) := by dsimp only [dats]; try rfl
theorem after0_14 (hO : Ok m) (c : Dev nD) (t : Fin (cfgM m hO).N) : (dats m hO 0 c).after 14 t = knsV (iblk m hO c 1 (p0 m hO)) (iblk m hO c 4 (p0 m hO)) := by dsimp only [dats]; try rfl
theorem after0_15 (hO : Ok m) (c : Dev nD) (t : Fin (cfgM m hO).N) : (dats m hO 0 c).after 15 t = vncV (iblk m hO c 2 (p0 m hO)) := by dsimp only [dats]; try rfl
theorem after0_16 (hO : Ok m) (c : Dev nD) (t : Fin (cfgM m hO).N) : (dats m hO 0 c).after 16 t = vnsV (iblk m hO c 1 (p0 m hO)) (iblk m hO c 2 (p0 m hO)) (iblk m hO c 4 (p0 m hO)) (iblk m hO c 6 (p0 m hO)) := by dsimp only [dats]; try rfl
theorem after0_17 (hO : Ok m) (c : Dev nD) (t : Fin (cfgM m hO).N) : (dats m hO 0 c).after 17 t = k0_pay7 (iblk m hO c 7 (p0 m hO)) := by dsimp only [dats]; try rfl
theorem after0_18 (hO : Ok m) (c : Dev nD) (t : Fin (cfgM m hO).N) : (dats m hO 0 c).after 18 t = k0_pay8 (iblk m hO c 7 (p0 m hO)) := by dsimp only [dats]; try rfl
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
theorem before0_8 (hO : Ok m) (c : Dev nD) (t : Fin (cfgM m hO).N) (d) : (dats m hO 0 c).before 8 t d = iblk m hO c 8 t :=
  before0_8_of m hO (dats m hO 0 c) (A_eq m hO c 8) (after0_8 m hO c) t d
theorem before0_9 (hO : Ok m) (c : Dev nD) (t : Fin (cfgM m hO).N) (d) : (dats m hO 0 c).before 9 t d = iblk m hO c 9 t :=
  before0_9_of m hO (dats m hO 0 c) (A_eq m hO c 9) (after0_9 m hO c) t d
theorem before0_10 (hO : Ok m) (c : Dev nD) (t : Fin (cfgM m hO).N) (d) : (dats m hO 0 c).before 10 t d = iblk m hO c 10 t :=
  before0_10_of m hO (dats m hO 0 c) (A_eq m hO c 10) (after0_10 m hO c) t d
theorem before0_11 (hO : Ok m) (c : Dev nD) (t : Fin (cfgM m hO).N) (d) : (dats m hO 0 c).before 11 t d = iblk m hO c 11 t :=
  before0_11_of m hO (dats m hO 0 c) (A_eq m hO c 11) (after0_11 m hO c) t d

/-! ### The results' buffers between the points -/

theorem idle_first (i : grid0.Coords) (h : ¬cond0_0 i) : (!(k0_cond1 i == 1#1)) = true := by
  have : ¬(k0_cond1 i = 1#1) := h
  simpa using this
theorem live_first (i : grid0.Coords) (h : cond0_0 i) : (!(k0_cond1 i == 1#1)) = false := by
  have : k0_cond1 i = 1#1 := h
  simpa using this
theorem idle_last (i : grid0.Coords) (h : ¬cond0_1 i) : (!(k0_cond2 i == 1#1)) = true := by
  have : ¬(k0_cond2 i = 1#1) := h
  simpa using this
theorem live_last (i : grid0.Coords) (h : cond0_1 i) : (!(k0_cond2 i == 1#1)) = false := by
  have : k0_cond2 i = 1#1 := h
  simpa using this

theorem flush_at_12 (hO : Ok m) (t : Fin (cfgM m hO).N) : ((cfgM m hO).win 12).flush t = true ↔ t.val % 64 = 63 :=
  Pipeline.Window.flushOf_const cc0_transform_12 (fun _ _ => rfl) (n := 64) N_0 rfl t
theorem no_flush_12 (hO : Ok m) (t : Fin (cfgM m hO).N) (h : ¬t.val % 64 = 63) : ((cfgM m hO).win 12).flush t = false :=
  Bool.eq_false_iff.mpr fun e => h ((flush_at_12 m hO t).mp e)
theorem flush_at_13 (hO : Ok m) (t : Fin (cfgM m hO).N) : ((cfgM m hO).win 13).flush t = true ↔ t.val % 64 = 63 :=
  Pipeline.Window.flushOf_const cc0_transform_13 (fun _ _ => rfl) (n := 64) N_0 rfl t
theorem no_flush_13 (hO : Ok m) (t : Fin (cfgM m hO).N) (h : ¬t.val % 64 = 63) : ((cfgM m hO).win 13).flush t = false :=
  Bool.eq_false_iff.mpr fun e => h ((flush_at_13 m hO t).mp e)
theorem flush_at_14 (hO : Ok m) (t : Fin (cfgM m hO).N) : ((cfgM m hO).win 14).flush t = true ↔ t.val % 64 = 63 :=
  Pipeline.Window.flushOf_const cc0_transform_14 (fun _ _ => rfl) (n := 64) N_0 rfl t
theorem no_flush_14 (hO : Ok m) (t : Fin (cfgM m hO).N) (h : ¬t.val % 64 = 63) : ((cfgM m hO).win 14).flush t = false :=
  Bool.eq_false_iff.mpr fun e => h ((flush_at_14 m hO t).mp e)
theorem flush_at_15 (hO : Ok m) (t : Fin (cfgM m hO).N) : ((cfgM m hO).win 15).flush t = true ↔ t.val % 64 = 63 :=
  Pipeline.Window.flushOf_const cc0_transform_15 (fun _ _ => rfl) (n := 64) N_0 rfl t
theorem no_flush_15 (hO : Ok m) (t : Fin (cfgM m hO).N) (h : ¬t.val % 64 = 63) : ((cfgM m hO).win 15).flush t = false :=
  Bool.eq_false_iff.mpr fun e => h ((flush_at_15 m hO t).mp e)
theorem flush_at_16 (hO : Ok m) (t : Fin (cfgM m hO).N) : ((cfgM m hO).win 16).flush t = true ↔ t.val % 64 = 63 :=
  Pipeline.Window.flushOf_const cc0_transform_16 (fun _ _ => rfl) (n := 64) N_0 rfl t
theorem no_flush_16 (hO : Ok m) (t : Fin (cfgM m hO).N) (h : ¬t.val % 64 = 63) : ((cfgM m hO).win 16).flush t = false :=
  Bool.eq_false_iff.mpr fun e => h ((flush_at_16 m hO t).mp e)
theorem flush_at_17 (hO : Ok m) (t : Fin (cfgM m hO).N) : ((cfgM m hO).win 17).flush t = true ↔ t.val % 64 = 63 :=
  Pipeline.Window.flushOf_const cc0_transform_17 (fun _ _ => rfl) (n := 64) N_0 rfl t
theorem no_flush_17 (hO : Ok m) (t : Fin (cfgM m hO).N) (h : ¬t.val % 64 = 63) : ((cfgM m hO).win 17).flush t = false :=
  Bool.eq_false_iff.mpr fun e => h ((flush_at_17 m hO t).mp e)
theorem flush_at_18 (hO : Ok m) (t : Fin (cfgM m hO).N) : ((cfgM m hO).win 18).flush t = true ↔ t.val % 64 = 63 :=
  Pipeline.Window.flushOf_const cc0_transform_18 (fun _ _ => rfl) (n := 64) N_0 rfl t
theorem no_flush_18 (hO : Ok m) (t : Fin (cfgM m hO).N) (h : ¬t.val % 64 = 63) : ((cfgM m hO).win 18).flush t = false :=
  Bool.eq_false_iff.mpr fun e => h ((flush_at_18 m hO t).mp e)
/-- At the last point the buffer of result 1 still holds what the first point left. -/
theorem before_last_13 (hO : Ok m) (c : Dev nD) (t : Fin (cfgM m hO).N) (h1 : t.val % 64 = 63) (d) : (dats m hO 0 c).before 13 t d = kncV (iblk m hO c 1 (p0 m hO)) := by
  have hN : t.val < 64 := lt_of_lt_of_eq t.isLt (show (cfgM m hO).N = 64 from N_0)
  have hf : ∀ t, ((cfgM m hO).win 13).fetch t = false := fun _ => rfl
  have hid : ∀ j : Fin (cfgM m hO).N, j.val ≠ 0 → (cfgM m hO).idle 13 (grid0.coords j) = true := fun j hj =>
    idle_first _ (fun e => hj (by have := (hcond0_0 j).mp e; have : j.val < 64 := lt_of_lt_of_eq j.isLt (show (cfgM m hO).N = 64 from N_0); omega))
  rw [(dats m hO 0 c).before_idle_run 13 hf d 62 t (by omega) (fun j hj hj' => ⟨hid j (by omega), no_flush_13 m hO j (by omega)⟩)]
  rw [(dats m hO 0 c).before_of_pos 13 _ (by show t.val - 62 ≠ 0; omega) (hf _)]
  rw [no_flush_13 m hO _ (by show ¬(t.val - 62 - 1) % 64 = 63; omega), if_neg Bool.false_ne_true]
  unfold Dat.left
  rw [show (cfgM m hO).idle 13 ((cfgM m hO).grid.coords ⟨t.val - 62 - 1, lt_of_le_of_lt (by omega : t.val - 62 - 1 ≤ t.val) t.isLt⟩) = false from
    live_first _ ((hcond0_0 _).mpr (by show (t.val - 62 - 1) % 64 = 0; omega))]
  rfl
/-- At the last point the buffer of result 2 still holds what the first point left. -/
theorem before_last_14 (hO : Ok m) (c : Dev nD) (t : Fin (cfgM m hO).N) (h1 : t.val % 64 = 63) (d) : (dats m hO 0 c).before 14 t d = knsV (iblk m hO c 1 (p0 m hO)) (iblk m hO c 4 (p0 m hO)) := by
  have hN : t.val < 64 := lt_of_lt_of_eq t.isLt (show (cfgM m hO).N = 64 from N_0)
  have hf : ∀ t, ((cfgM m hO).win 14).fetch t = false := fun _ => rfl
  have hid : ∀ j : Fin (cfgM m hO).N, j.val ≠ 0 → (cfgM m hO).idle 14 (grid0.coords j) = true := fun j hj =>
    idle_first _ (fun e => hj (by have := (hcond0_0 j).mp e; have : j.val < 64 := lt_of_lt_of_eq j.isLt (show (cfgM m hO).N = 64 from N_0); omega))
  rw [(dats m hO 0 c).before_idle_run 14 hf d 62 t (by omega) (fun j hj hj' => ⟨hid j (by omega), no_flush_14 m hO j (by omega)⟩)]
  rw [(dats m hO 0 c).before_of_pos 14 _ (by show t.val - 62 ≠ 0; omega) (hf _)]
  rw [no_flush_14 m hO _ (by show ¬(t.val - 62 - 1) % 64 = 63; omega), if_neg Bool.false_ne_true]
  unfold Dat.left
  rw [show (cfgM m hO).idle 14 ((cfgM m hO).grid.coords ⟨t.val - 62 - 1, lt_of_le_of_lt (by omega : t.val - 62 - 1 ≤ t.val) t.isLt⟩) = false from
    live_first _ ((hcond0_0 _).mpr (by show (t.val - 62 - 1) % 64 = 0; omega))]
  rfl
/-- At the last point the buffer of result 3 still holds what the first point left. -/
theorem before_last_15 (hO : Ok m) (c : Dev nD) (t : Fin (cfgM m hO).N) (h1 : t.val % 64 = 63) (d) : (dats m hO 0 c).before 15 t d = vncV (iblk m hO c 2 (p0 m hO)) := by
  have hN : t.val < 64 := lt_of_lt_of_eq t.isLt (show (cfgM m hO).N = 64 from N_0)
  have hf : ∀ t, ((cfgM m hO).win 15).fetch t = false := fun _ => rfl
  have hid : ∀ j : Fin (cfgM m hO).N, j.val ≠ 0 → (cfgM m hO).idle 15 (grid0.coords j) = true := fun j hj =>
    idle_first _ (fun e => hj (by have := (hcond0_0 j).mp e; have : j.val < 64 := lt_of_lt_of_eq j.isLt (show (cfgM m hO).N = 64 from N_0); omega))
  rw [(dats m hO 0 c).before_idle_run 15 hf d 62 t (by omega) (fun j hj hj' => ⟨hid j (by omega), no_flush_15 m hO j (by omega)⟩)]
  rw [(dats m hO 0 c).before_of_pos 15 _ (by show t.val - 62 ≠ 0; omega) (hf _)]
  rw [no_flush_15 m hO _ (by show ¬(t.val - 62 - 1) % 64 = 63; omega), if_neg Bool.false_ne_true]
  unfold Dat.left
  rw [show (cfgM m hO).idle 15 ((cfgM m hO).grid.coords ⟨t.val - 62 - 1, lt_of_le_of_lt (by omega : t.val - 62 - 1 ≤ t.val) t.isLt⟩) = false from
    live_first _ ((hcond0_0 _).mpr (by show (t.val - 62 - 1) % 64 = 0; omega))]
  rfl
/-- At the last point the buffer of result 4 still holds what the first point left. -/
theorem before_last_16 (hO : Ok m) (c : Dev nD) (t : Fin (cfgM m hO).N) (h1 : t.val % 64 = 63) (d) : (dats m hO 0 c).before 16 t d = vnsV (iblk m hO c 1 (p0 m hO)) (iblk m hO c 2 (p0 m hO)) (iblk m hO c 4 (p0 m hO)) (iblk m hO c 6 (p0 m hO)) := by
  have hN : t.val < 64 := lt_of_lt_of_eq t.isLt (show (cfgM m hO).N = 64 from N_0)
  have hf : ∀ t, ((cfgM m hO).win 16).fetch t = false := fun _ => rfl
  have hid : ∀ j : Fin (cfgM m hO).N, j.val ≠ 0 → (cfgM m hO).idle 16 (grid0.coords j) = true := fun j hj =>
    idle_first _ (fun e => hj (by have := (hcond0_0 j).mp e; have : j.val < 64 := lt_of_lt_of_eq j.isLt (show (cfgM m hO).N = 64 from N_0); omega))
  rw [(dats m hO 0 c).before_idle_run 16 hf d 62 t (by omega) (fun j hj hj' => ⟨hid j (by omega), no_flush_16 m hO j (by omega)⟩)]
  rw [(dats m hO 0 c).before_of_pos 16 _ (by show t.val - 62 ≠ 0; omega) (hf _)]
  rw [no_flush_16 m hO _ (by show ¬(t.val - 62 - 1) % 64 = 63; omega), if_neg Bool.false_ne_true]
  unfold Dat.left
  rw [show (cfgM m hO).idle 16 ((cfgM m hO).grid.coords ⟨t.val - 62 - 1, lt_of_le_of_lt (by omega : t.val - 62 - 1 ≤ t.val) t.isLt⟩) = false from
    live_first _ ((hcond0_0 _).mpr (by show (t.val - 62 - 1) % 64 = 0; omega))]
  rfl
/-- At the last point the buffer of result 5 still holds what the first point left. -/
theorem before_last_17 (hO : Ok m) (c : Dev nD) (t : Fin (cfgM m hO).N) (h1 : t.val % 64 = 63) (d) : (dats m hO 0 c).before 17 t d = k0_pay7 (iblk m hO c 7 (p0 m hO)) := by
  have hN : t.val < 64 := lt_of_lt_of_eq t.isLt (show (cfgM m hO).N = 64 from N_0)
  have hf : ∀ t, ((cfgM m hO).win 17).fetch t = false := fun _ => rfl
  have hid : ∀ j : Fin (cfgM m hO).N, j.val ≠ 0 → (cfgM m hO).idle 17 (grid0.coords j) = true := fun j hj =>
    idle_first _ (fun e => hj (by have := (hcond0_0 j).mp e; have : j.val < 64 := lt_of_lt_of_eq j.isLt (show (cfgM m hO).N = 64 from N_0); omega))
  rw [(dats m hO 0 c).before_idle_run 17 hf d 62 t (by omega) (fun j hj hj' => ⟨hid j (by omega), no_flush_17 m hO j (by omega)⟩)]
  rw [(dats m hO 0 c).before_of_pos 17 _ (by show t.val - 62 ≠ 0; omega) (hf _)]
  rw [no_flush_17 m hO _ (by show ¬(t.val - 62 - 1) % 64 = 63; omega), if_neg Bool.false_ne_true]
  unfold Dat.left
  rw [show (cfgM m hO).idle 17 ((cfgM m hO).grid.coords ⟨t.val - 62 - 1, lt_of_le_of_lt (by omega : t.val - 62 - 1 ≤ t.val) t.isLt⟩) = false from
    live_first _ ((hcond0_0 _).mpr (by show (t.val - 62 - 1) % 64 = 0; omega))]
  rfl
/-- At the last point the buffer of result 6 still holds what the first point left. -/
theorem before_last_18 (hO : Ok m) (c : Dev nD) (t : Fin (cfgM m hO).N) (h1 : t.val % 64 = 63) (d) : (dats m hO 0 c).before 18 t d = k0_pay8 (iblk m hO c 7 (p0 m hO)) := by
  have hN : t.val < 64 := lt_of_lt_of_eq t.isLt (show (cfgM m hO).N = 64 from N_0)
  have hf : ∀ t, ((cfgM m hO).win 18).fetch t = false := fun _ => rfl
  have hid : ∀ j : Fin (cfgM m hO).N, j.val ≠ 0 → (cfgM m hO).idle 18 (grid0.coords j) = true := fun j hj =>
    idle_first _ (fun e => hj (by have := (hcond0_0 j).mp e; have : j.val < 64 := lt_of_lt_of_eq j.isLt (show (cfgM m hO).N = 64 from N_0); omega))
  rw [(dats m hO 0 c).before_idle_run 18 hf d 62 t (by omega) (fun j hj hj' => ⟨hid j (by omega), no_flush_18 m hO j (by omega)⟩)]
  rw [(dats m hO 0 c).before_of_pos 18 _ (by show t.val - 62 ≠ 0; omega) (hf _)]
  rw [no_flush_18 m hO _ (by show ¬(t.val - 62 - 1) % 64 = 63; omega), if_neg Bool.false_ne_true]
  unfold Dat.left
  rw [show (cfgM m hO).idle 18 ((cfgM m hO).grid.coords ⟨t.val - 62 - 1, lt_of_le_of_lt (by omega : t.val - 62 - 1 ≤ t.val) t.isLt⟩) = false from
    live_first _ ((hcond0_0 _).mpr (by show (t.val - 62 - 1) % 64 = 0; omega))]
  rfl

/-! ### The body at every point -/

/-- What the body is called with at point `t`, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d))
    ∗ (∃ d, owns (c : Thread nD τ) (ms0_11 m hO t) fullShare ((dats m hO 0 c).before 11 t d))
    ∗ (∃ d, owns (c : Thread nD τ) (ms0_12 m hO t) fullShare ((dats m hO 0 c).before 12 t d))
    ∗ (∃ d, owns (c : Thread nD τ) (ms0_13 m hO t) fullShare ((dats m hO 0 c).before 13 t d))
    ∗ (∃ d, owns (c : Thread nD τ) (ms0_14 m hO t) fullShare ((dats m hO 0 c).before 14 t d))
    ∗ (∃ d, owns (c : Thread nD τ) (ms0_15 m hO t) fullShare ((dats m hO 0 c).before 15 t d))
    ∗ (∃ d, owns (c : Thread nD τ) (ms0_16 m hO t) fullShare ((dats m hO 0 c).before 16 t d))
    ∗ (∃ d, owns (c : Thread nD τ) (ms0_17 m hO t) fullShare ((dats m hO 0 c).before 17 t d))
    ∗ (∃ d, owns (c : Thread nD τ) (ms0_18 m hO t) fullShare ((dats m hO 0 c).before 18 t d)))
/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (dats m hO 0 c).leavesExact 6 t
    ∗ (dats m hO 0 c).leavesExact 7 t
    ∗ (dats m hO 0 c).leavesExact 8 t
    ∗ (dats m hO 0 c).leavesExact 9 t
    ∗ (dats m hO 0 c).leavesExact 10 t
    ∗ (dats m hO 0 c).leavesExact 11 t
    ∗ (dats m hO 0 c).leavesExact 12 t
    ∗ (dats m hO 0 c).leavesExact 13 t
    ∗ (dats m hO 0 c).leavesExact 14 t
    ∗ (dats m hO 0 c).leavesExact 15 t
    ∗ (dats m hO 0 c).leavesExact 16 t
    ∗ (dats m hO 0 c).leavesExact 17 t
    ∗ (dats m hO 0 c).leavesExact 18 t)

theorem leaves_0 (hO : Ok m) (c : Dev nD) (t : Fin (cfgM m hO).N) : (dats m hO 0 c).leavesExact 0 t = owns (c : Thread nD τ) (ms0_0 m hO t) fullShare (iblk m hO c 0 t) := by
  rw [← after0_0 m hO c t]; unfold Dat.leavesExact; rw [liveAt0_0 m hO t]; try rfl
theorem leaves_1 (hO : Ok m) (c : Dev nD) (t : Fin (cfgM m hO).N) : (dats m hO 0 c).leavesExact 1 t = owns (c : Thread nD τ) (ms0_1 m hO t) fullShare (iblk m hO c 1 t) := by
  rw [← after0_1 m hO c t]; unfold Dat.leavesExact; rw [liveAt0_1 m hO t]; try rfl
theorem leaves_2 (hO : Ok m) (c : Dev nD) (t : Fin (cfgM m hO).N) : (dats m hO 0 c).leavesExact 2 t = owns (c : Thread nD τ) (ms0_2 m hO t) fullShare (iblk m hO c 2 t) := by
  rw [← after0_2 m hO c t]; unfold Dat.leavesExact; rw [liveAt0_2 m hO t]; try rfl
theorem leaves_3 (hO : Ok m) (c : Dev nD) (t : Fin (cfgM m hO).N) : (dats m hO 0 c).leavesExact 3 t = owns (c : Thread nD τ) (ms0_3 m hO t) fullShare (iblk m hO c 3 t) := by
  rw [← after0_3 m hO c t]; unfold Dat.leavesExact; rw [liveAt0_3 m hO t]; try rfl
theorem leaves_4 (hO : Ok m) (c : Dev nD) (t : Fin (cfgM m hO).N) : (dats m hO 0 c).leavesExact 4 t = owns (c : Thread nD τ) (ms0_4 m hO t) fullShare (iblk m hO c 4 t) := by
  rw [← after0_4 m hO c t]; unfold Dat.leavesExact; rw [liveAt0_4 m hO t]; try rfl
theorem leaves_5 (hO : Ok m) (c : Dev nD) (t : Fin (cfgM m hO).N) : (dats m hO 0 c).leavesExact 5 t = owns (c : Thread nD τ) (ms0_5 m hO t) fullShare (iblk m hO c 5 t) := by
  rw [← after0_5 m hO c t]; unfold Dat.leavesExact; rw [liveAt0_5 m hO t]; try rfl
theorem leaves_6 (hO : Ok m) (c : Dev nD) (t : Fin (cfgM m hO).N) : (dats m hO 0 c).leavesExact 6 t = owns (c : Thread nD τ) (ms0_6 m hO t) fullShare (iblk m hO c 6 t) := by
  rw [← after0_6 m hO c t]; unfold Dat.leavesExact; rw [liveAt0_6 m hO t]; try rfl
theorem leaves_7 (hO : Ok m) (c : Dev nD) (t : Fin (cfgM m hO).N) : (dats m hO 0 c).leavesExact 7 t = owns (c : Thread nD τ) (ms0_7 m hO t) fullShare (iblk m hO c 7 t) := by
  rw [← after0_7 m hO c t]; unfold Dat.leavesExact; rw [liveAt0_7 m hO t]; try rfl
theorem leaves_8 (hO : Ok m) (c : Dev nD) (t : Fin (cfgM m hO).N) : (dats m hO 0 c).leavesExact 8 t = owns (c : Thread nD τ) (ms0_8 m hO t) fullShare (iblk m hO c 8 t) := by
  rw [← after0_8 m hO c t]; unfold Dat.leavesExact; rw [liveAt0_8 m hO t]; try rfl
theorem leaves_9 (hO : Ok m) (c : Dev nD) (t : Fin (cfgM m hO).N) : (dats m hO 0 c).leavesExact 9 t = owns (c : Thread nD τ) (ms0_9 m hO t) fullShare (iblk m hO c 9 t) := by
  rw [← after0_9 m hO c t]; unfold Dat.leavesExact; rw [liveAt0_9 m hO t]; try rfl
theorem leaves_10 (hO : Ok m) (c : Dev nD) (t : Fin (cfgM m hO).N) : (dats m hO 0 c).leavesExact 10 t = owns (c : Thread nD τ) (ms0_10 m hO t) fullShare (iblk m hO c 10 t) := by
  rw [← after0_10 m hO c t]; unfold Dat.leavesExact; rw [liveAt0_10 m hO t]; try rfl
theorem leaves_11 (hO : Ok m) (c : Dev nD) (t : Fin (cfgM m hO).N) : (dats m hO 0 c).leavesExact 11 t = owns (c : Thread nD τ) (ms0_11 m hO t) fullShare (iblk m hO c 11 t) := by
  rw [← after0_11 m hO c t]; unfold Dat.leavesExact; rw [liveAt0_11 m hO t]; try rfl
theorem leaves_live_12 (hO : Ok m) (c : Dev nD) (t : Fin (cfgM m hO).N) (h : cond0_1 (grid0.coords t)) :
    (dats m hO 0 c).leavesExact 12 t = owns (c : Thread nD τ) (ms0_12 m hO t) fullShare (outA m hO c) := by
  rw [← after0_12 m hO c t]; unfold Dat.leavesExact
  rw [show (cfgM m hO).idle 12 ((cfgM m hO).grid.coords t) = false from live_last _ h]; try rfl
theorem leaves_idle_12 (hO : Ok m) (c : Dev nD) (t : Fin (cfgM m hO).N) (h : ¬cond0_1 (grid0.coords t)) (h1 : ¬t.val % 64 = 63) :
    (dats m hO 0 c).leavesExact 12 t = iprop(∃ d, owns (c : Thread nD τ) (ms0_12 m hO t) fullShare ((dats m hO 0 c).before 12 t d)) :=
  (dats m hO 0 c).leavesExact_idle 12 t (idle_last _ h) (no_flush_12 m hO t h1)
theorem leaves_live_13 (hO : Ok m) (c : Dev nD) (t : Fin (cfgM m hO).N) (h : cond0_0 (grid0.coords t)) :
    (dats m hO 0 c).leavesExact 13 t = owns (c : Thread nD τ) (ms0_13 m hO t) fullShare (kncV (iblk m hO c 1 (p0 m hO))) := by
  rw [← after0_13 m hO c t]; unfold Dat.leavesExact
  rw [show (cfgM m hO).idle 13 ((cfgM m hO).grid.coords t) = false from live_first _ h]; try rfl
theorem leaves_idle_13 (hO : Ok m) (c : Dev nD) (t : Fin (cfgM m hO).N) (h : ¬cond0_0 (grid0.coords t)) (h1 : ¬t.val % 64 = 63) :
    (dats m hO 0 c).leavesExact 13 t = iprop(∃ d, owns (c : Thread nD τ) (ms0_13 m hO t) fullShare ((dats m hO 0 c).before 13 t d)) :=
  (dats m hO 0 c).leavesExact_idle 13 t (idle_first _ h) (no_flush_13 m hO t h1)
theorem leaves_last_13 (hO : Ok m) (c : Dev nD) (t : Fin (cfgM m hO).N) (h : ¬cond0_0 (grid0.coords t)) (h1 : t.val % 64 = 63) :
    (dats m hO 0 c).leavesExact 13 t = owns (c : Thread nD τ) (ms0_13 m hO t) fullShare (kncV (iblk m hO c 1 (p0 m hO))) := by
  rw [← after0_13 m hO c t]; unfold Dat.leavesExact
  rw [show (cfgM m hO).idle 13 ((cfgM m hO).grid.coords t) = true from idle_first _ h, (flush_at_13 m hO t).mpr h1]; try rfl
theorem leaves_live_14 (hO : Ok m) (c : Dev nD) (t : Fin (cfgM m hO).N) (h : cond0_0 (grid0.coords t)) :
    (dats m hO 0 c).leavesExact 14 t = owns (c : Thread nD τ) (ms0_14 m hO t) fullShare (knsV (iblk m hO c 1 (p0 m hO)) (iblk m hO c 4 (p0 m hO))) := by
  rw [← after0_14 m hO c t]; unfold Dat.leavesExact
  rw [show (cfgM m hO).idle 14 ((cfgM m hO).grid.coords t) = false from live_first _ h]; try rfl
theorem leaves_idle_14 (hO : Ok m) (c : Dev nD) (t : Fin (cfgM m hO).N) (h : ¬cond0_0 (grid0.coords t)) (h1 : ¬t.val % 64 = 63) :
    (dats m hO 0 c).leavesExact 14 t = iprop(∃ d, owns (c : Thread nD τ) (ms0_14 m hO t) fullShare ((dats m hO 0 c).before 14 t d)) :=
  (dats m hO 0 c).leavesExact_idle 14 t (idle_first _ h) (no_flush_14 m hO t h1)
theorem leaves_last_14 (hO : Ok m) (c : Dev nD) (t : Fin (cfgM m hO).N) (h : ¬cond0_0 (grid0.coords t)) (h1 : t.val % 64 = 63) :
    (dats m hO 0 c).leavesExact 14 t = owns (c : Thread nD τ) (ms0_14 m hO t) fullShare (knsV (iblk m hO c 1 (p0 m hO)) (iblk m hO c 4 (p0 m hO))) := by
  rw [← after0_14 m hO c t]; unfold Dat.leavesExact
  rw [show (cfgM m hO).idle 14 ((cfgM m hO).grid.coords t) = true from idle_first _ h, (flush_at_14 m hO t).mpr h1]; try rfl
theorem leaves_live_15 (hO : Ok m) (c : Dev nD) (t : Fin (cfgM m hO).N) (h : cond0_0 (grid0.coords t)) :
    (dats m hO 0 c).leavesExact 15 t = owns (c : Thread nD τ) (ms0_15 m hO t) fullShare (vncV (iblk m hO c 2 (p0 m hO))) := by
  rw [← after0_15 m hO c t]; unfold Dat.leavesExact
  rw [show (cfgM m hO).idle 15 ((cfgM m hO).grid.coords t) = false from live_first _ h]; try rfl
theorem leaves_idle_15 (hO : Ok m) (c : Dev nD) (t : Fin (cfgM m hO).N) (h : ¬cond0_0 (grid0.coords t)) (h1 : ¬t.val % 64 = 63) :
    (dats m hO 0 c).leavesExact 15 t = iprop(∃ d, owns (c : Thread nD τ) (ms0_15 m hO t) fullShare ((dats m hO 0 c).before 15 t d)) :=
  (dats m hO 0 c).leavesExact_idle 15 t (idle_first _ h) (no_flush_15 m hO t h1)
theorem leaves_last_15 (hO : Ok m) (c : Dev nD) (t : Fin (cfgM m hO).N) (h : ¬cond0_0 (grid0.coords t)) (h1 : t.val % 64 = 63) :
    (dats m hO 0 c).leavesExact 15 t = owns (c : Thread nD τ) (ms0_15 m hO t) fullShare (vncV (iblk m hO c 2 (p0 m hO))) := by
  rw [← after0_15 m hO c t]; unfold Dat.leavesExact
  rw [show (cfgM m hO).idle 15 ((cfgM m hO).grid.coords t) = true from idle_first _ h, (flush_at_15 m hO t).mpr h1]; try rfl
theorem leaves_live_16 (hO : Ok m) (c : Dev nD) (t : Fin (cfgM m hO).N) (h : cond0_0 (grid0.coords t)) :
    (dats m hO 0 c).leavesExact 16 t = owns (c : Thread nD τ) (ms0_16 m hO t) fullShare (vnsV (iblk m hO c 1 (p0 m hO)) (iblk m hO c 2 (p0 m hO)) (iblk m hO c 4 (p0 m hO)) (iblk m hO c 6 (p0 m hO))) := by
  rw [← after0_16 m hO c t]; unfold Dat.leavesExact
  rw [show (cfgM m hO).idle 16 ((cfgM m hO).grid.coords t) = false from live_first _ h]; try rfl
theorem leaves_idle_16 (hO : Ok m) (c : Dev nD) (t : Fin (cfgM m hO).N) (h : ¬cond0_0 (grid0.coords t)) (h1 : ¬t.val % 64 = 63) :
    (dats m hO 0 c).leavesExact 16 t = iprop(∃ d, owns (c : Thread nD τ) (ms0_16 m hO t) fullShare ((dats m hO 0 c).before 16 t d)) :=
  (dats m hO 0 c).leavesExact_idle 16 t (idle_first _ h) (no_flush_16 m hO t h1)
theorem leaves_last_16 (hO : Ok m) (c : Dev nD) (t : Fin (cfgM m hO).N) (h : ¬cond0_0 (grid0.coords t)) (h1 : t.val % 64 = 63) :
    (dats m hO 0 c).leavesExact 16 t = owns (c : Thread nD τ) (ms0_16 m hO t) fullShare (vnsV (iblk m hO c 1 (p0 m hO)) (iblk m hO c 2 (p0 m hO)) (iblk m hO c 4 (p0 m hO)) (iblk m hO c 6 (p0 m hO))) := by
  rw [← after0_16 m hO c t]; unfold Dat.leavesExact
  rw [show (cfgM m hO).idle 16 ((cfgM m hO).grid.coords t) = true from idle_first _ h, (flush_at_16 m hO t).mpr h1]; try rfl
theorem leaves_live_17 (hO : Ok m) (c : Dev nD) (t : Fin (cfgM m hO).N) (h : cond0_0 (grid0.coords t)) :
    (dats m hO 0 c).leavesExact 17 t = owns (c : Thread nD τ) (ms0_17 m hO t) fullShare (k0_pay7 (iblk m hO c 7 (p0 m hO))) := by
  rw [← after0_17 m hO c t]; unfold Dat.leavesExact
  rw [show (cfgM m hO).idle 17 ((cfgM m hO).grid.coords t) = false from live_first _ h]; try rfl
theorem leaves_idle_17 (hO : Ok m) (c : Dev nD) (t : Fin (cfgM m hO).N) (h : ¬cond0_0 (grid0.coords t)) (h1 : ¬t.val % 64 = 63) :
    (dats m hO 0 c).leavesExact 17 t = iprop(∃ d, owns (c : Thread nD τ) (ms0_17 m hO t) fullShare ((dats m hO 0 c).before 17 t d)) :=
  (dats m hO 0 c).leavesExact_idle 17 t (idle_first _ h) (no_flush_17 m hO t h1)
theorem leaves_last_17 (hO : Ok m) (c : Dev nD) (t : Fin (cfgM m hO).N) (h : ¬cond0_0 (grid0.coords t)) (h1 : t.val % 64 = 63) :
    (dats m hO 0 c).leavesExact 17 t = owns (c : Thread nD τ) (ms0_17 m hO t) fullShare (k0_pay7 (iblk m hO c 7 (p0 m hO))) := by
  rw [← after0_17 m hO c t]; unfold Dat.leavesExact
  rw [show (cfgM m hO).idle 17 ((cfgM m hO).grid.coords t) = true from idle_first _ h, (flush_at_17 m hO t).mpr h1]; try rfl
theorem leaves_live_18 (hO : Ok m) (c : Dev nD) (t : Fin (cfgM m hO).N) (h : cond0_0 (grid0.coords t)) :
    (dats m hO 0 c).leavesExact 18 t = owns (c : Thread nD τ) (ms0_18 m hO t) fullShare (k0_pay8 (iblk m hO c 7 (p0 m hO))) := by
  rw [← after0_18 m hO c t]; unfold Dat.leavesExact
  rw [show (cfgM m hO).idle 18 ((cfgM m hO).grid.coords t) = false from live_first _ h]; try rfl
theorem leaves_idle_18 (hO : Ok m) (c : Dev nD) (t : Fin (cfgM m hO).N) (h : ¬cond0_0 (grid0.coords t)) (h1 : ¬t.val % 64 = 63) :
    (dats m hO 0 c).leavesExact 18 t = iprop(∃ d, owns (c : Thread nD τ) (ms0_18 m hO t) fullShare ((dats m hO 0 c).before 18 t d)) :=
  (dats m hO 0 c).leavesExact_idle 18 t (idle_first _ h) (no_flush_18 m hO t h1)
theorem leaves_last_18 (hO : Ok m) (c : Dev nD) (t : Fin (cfgM m hO).N) (h : ¬cond0_0 (grid0.coords t)) (h1 : t.val % 64 = 63) :
    (dats m hO 0 c).leavesExact 18 t = owns (c : Thread nD τ) (ms0_18 m hO t) fullShare (k0_pay8 (iblk m hO c 7 (p0 m hO))) := by
  rw [← after0_18 m hO c t]; unfold Dat.leavesExact
  rw [show (cfgM m hO).idle 18 ((cfgM m hO).grid.coords t) = true from idle_first _ h, (flush_at_18 m hO t).mpr h1]; try rfl

/-- A middle point. -/
theorem sound_B (hO : Ok m) (c : Dev nD) (t : Fin (cfgM m hO).N) (h0 : ¬t.val % 64 = 0) (h1 : ¬t.val % 64 = 63) :
    bodyPre m hO c t ⊢ wp frame (wpE (defs₀ (F := F)) Variants.none c none) Set.univ (bodyAt0 (adm m hO) t) (fun _ => bodyPost m hO c t) := by
  have hN : t.val < 64 := lt_of_lt_of_eq t.isLt (show (cfgM m hO).N = 64 from N_0)
  unfold bodyPre bodyPost bodyAt0
  simp only [before0_0, before0_1, before0_2, before0_3, before0_4, before0_5, before0_6, before0_7, before0_8, before0_9, before0_10, before0_11]
  rw [show (dats m hO 0 c).owesAt () t.succ = (dats m hO 0 c).owesAt () t.castSucc from rfl]
  rw [show (dats m hO 0 c).Φ t.succ = PhiS m hO c (t.val + 1) from rfl, PhiS_succ]
  have hc0 : ¬cond0_0 (grid0.coords t) := fun h => h0 ((hcond0_0 t).mp h)
  have hc1 : ¬cond0_1 (grid0.coords t) := fun h => h1 ((hcond0_1 t).mp h)
  rw [leaves_0, leaves_1, leaves_2, leaves_3, leaves_4, leaves_5, leaves_6, leaves_7, leaves_8, leaves_9, leaves_10, leaves_11, leaves_idle_12 m hO c t hc1 h1, leaves_idle_13 m hO c t hc0 h1, leaves_idle_14 m hO c t hc0 h1, leaves_idle_15 m hO c t hc0 h1, leaves_idle_16 m hO c t hc0 h1, leaves_idle_17 m hO c t hc0 h1, leaves_idle_18 m hO c t hc0 h1]
  rw [PhiS_castSucc m hO c t, PhiS_pos m hO c _ (by omega)]
  iintro ⟨⟨⟨⟨HS0, HS1, HS2, HS3, HS4, HS5, HS6, HS7, ⟨%d, %hd, HS8⟩⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, H12, H13, H14, H15, H16, H17, H18⟩
  have hnew := agree_put m hO c t d hd
  iapply (triple_B c (grid0.coords t) _ _ _ _ _ _ _ _ _ _ _ _ _ _ _ _ _ _ _ _ _ _ _ _ _ _ _ _ _ _ _ _ _ _ _ _ _ _ _ _ _ _ _ _ _ _ _ _ _ _ _ _ _ _ _ _ (iblk m hO c 0 t) (iblk m hO c 8 t) (iblk m hO c 9 t) (iblk m hO c 10 t) (iblk m hO c 11 t) (skbA m hO c) (svbA m hO c) (nkbA m hO c) (nvbA m hO c) (kscA m hO c) (vscA m hO c) d (tbl m 0) hc0 hc1 Set.univ _)
  isplitl [H0]; · iexact H0
  isplitl [H8]; · iexact H8
  isplitl [H9]; · iexact H9
  isplitl [H10]; · iexact H10
  isplitl [H11]; · iexact H11
  isplitl [HS0]; · iexact HS0
  isplitl [HS1]; · iexact HS1
  isplitl [HS2]; · iexact HS2
  isplitl [HS3]; · iexact HS3
  isplitl [HS4]; · iexact HS4
  isplitl [HS5]; · iexact HS5
  isplitl [HS8]; · iexact HS8
  isplitl [HT0]; · iexact HT0
  iintro ⟨H0, H8, H9, H10, H11, HS0, HS1, HS2, HS3, HS4, HS5, HS8, HT0⟩
  isplitl [HS0 HS1 HS2 HS3 HS4 HS5 HS6 HS7 HS8 Hg HT0]
  · isplitl [HS0 HS1 HS2 HS3 HS4 HS5 HS6 HS7 HS8 Hg]
    · isplitl [HS0 HS1 HS2 HS3 HS4 HS5 HS6 HS7 HS8]
      · isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        iexists _; isplitr; · ipureintro; exact hnew
        iexact HS8
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

/-- The last point. -/
theorem sound_C (hO : Ok m) (c : Dev nD) (t : Fin (cfgM m hO).N) (h0 : ¬t.val % 64 = 0) (h1 : t.val % 64 = 63) :
    bodyPre m hO c t ⊢ wp frame (wpE (defs₀ (F := F)) Variants.none c none) Set.univ (bodyAt0 (adm m hO) t) (fun _ => bodyPost m hO c t) := by
  have hN : t.val < 64 := lt_of_lt_of_eq t.isLt (show (cfgM m hO).N = 64 from N_0)
  unfold bodyPre bodyPost bodyAt0
  simp only [before0_0, before0_1, before0_2, before0_3, before0_4, before0_5, before0_6, before0_7, before0_8, before0_9, before0_10, before0_11]
  rw [show (dats m hO 0 c).owesAt () t.succ = (dats m hO 0 c).owesAt () t.castSucc from rfl]
  rw [show (dats m hO 0 c).Φ t.succ = PhiS m hO c (t.val + 1) from rfl, PhiS_succ]
  have hc0 : ¬cond0_0 (grid0.coords t) := fun h => h0 ((hcond0_0 t).mp h)
  have hc1 : cond0_1 (grid0.coords t) := (hcond0_1 t).mpr h1
  rw [leaves_0, leaves_1, leaves_2, leaves_3, leaves_4, leaves_5, leaves_6, leaves_7, leaves_8, leaves_9, leaves_10, leaves_11, leaves_live_12 m hO c t hc1, leaves_last_13 m hO c t hc0 h1, leaves_last_14 m hO c t hc0 h1, leaves_last_15 m hO c t hc0 h1, leaves_last_16 m hO c t hc0 h1, leaves_last_17 m hO c t hc0 h1, leaves_last_18 m hO c t hc0 h1]
  simp only [before_last_13 m hO c t h1, before_last_14 m hO c t h1, before_last_15 m hO c t h1, before_last_16 m hO c t h1, before_last_17 m hO c t h1, before_last_18 m hO c t h1]
  rw [PhiS_castSucc m hO c t, PhiS_pos m hO c _ (by omega)]
  iintro ⟨⟨⟨⟨HS0, HS1, HS2, HS3, HS4, HS5, HS6, HS7, ⟨%d, %hd, HS8⟩⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  have hnew := agree_put m hO c t d hd
  have h64 : t.val + 1 = 64 := by omega
  have hfin : finPut (grid0.coords t) (loA m hO c t) (hiA m hO c t) d = finA m hO c := agree_all m hO c _ (h64 ▸ hnew)
  unfold outA
  rw [← hfin]
  iapply (triple_C c (grid0.coords t) _ _ _ _ _ _ _ _ _ _ _ _ _ _ _ _ _ _ _ _ _ _ _ _ _ _ _ _ _ _ _ _ _ _ _ _ _ _ _ _ _ _ _ _ _ _ _ _ _ _ _ _ _ _ _ _ (iblk m hO c 0 t) (iblk m hO c 8 t) (iblk m hO c 9 t) (iblk m hO c 10 t) (iblk m hO c 11 t) (skbA m hO c) (svbA m hO c) (nkbA m hO c) (nvbA m hO c) (kscA m hO c) (vscA m hO c) d (tbl m 0) hc0 hc1 Set.univ _)
  isplitl [H0]; · iexact H0
  isplitl [H8]; · iexact H8
  isplitl [H9]; · iexact H9
  isplitl [H10]; · iexact H10
  isplitl [H11]; · iexact H11
  isplitl [HS0]; · iexact HS0
  isplitl [HS1]; · iexact HS1
  isplitl [HS2]; · iexact HS2
  isplitl [HS3]; · iexact HS3
  isplitl [HS4]; · iexact HS4
  isplitl [HS5]; · iexact HS5
  isplitl [HS8]; · iexact HS8
  isplitl [H12]; · iexists _; iexact H12
  isplitl [HT0]; · iexact HT0
  iintro ⟨H0, H8, H9, H10, H11, HS0, HS1, HS2, HS3, HS4, HS5, HS8, H12, HT0⟩
  isplitl [HS0 HS1 HS2 HS3 HS4 HS5 HS6 HS7 HS8 Hg HT0]
  · isplitl [HS0 HS1 HS2 HS3 HS4 HS5 HS6 HS7 HS8 Hg]
    · isplitl [HS0 HS1 HS2 HS3 HS4 HS5 HS6 HS7 HS8]
      · isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        iexists _; isplitr; · ipureintro; exact hnew
        iexact HS8
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

/-- The first point. -/
theorem sound_A (hO : Ok m) (c : Dev nD) (t : Fin (cfgM m hO).N) (h0 : t.val % 64 = 0) (h1 : ¬t.val % 64 = 63) :
    bodyPre m hO c t ⊢ wp frame (wpE (defs₀ (F := F)) Variants.none c none) Set.univ (bodyAt0 (adm m hO) t) (fun _ => bodyPost m hO c t) := by
  have hN : t.val < 64 := lt_of_lt_of_eq t.isLt (show (cfgM m hO).N = 64 from N_0)
  unfold bodyPre bodyPost bodyAt0
  simp only [before0_0, before0_1, before0_2, before0_3, before0_4, before0_5, before0_6, before0_7, before0_8, before0_9, before0_10, before0_11]
  rw [show (dats m hO 0 c).owesAt () t.succ = (dats m hO 0 c).owesAt () t.castSucc from rfl]
  rw [show (dats m hO 0 c).Φ t.succ = PhiS m hO c (t.val + 1) from rfl, PhiS_succ]
  have hc0 : cond0_0 (grid0.coords t) := (hcond0_0 t).mpr h0
  have hc1 : ¬cond0_1 (grid0.coords t) := fun h => h1 ((hcond0_1 t).mp h)
  rw [leaves_0, leaves_1, leaves_2, leaves_3, leaves_4, leaves_5, leaves_6, leaves_7, leaves_8, leaves_9, leaves_10, leaves_11, leaves_idle_12 m hO c t hc1 h1, leaves_live_13 m hO c t hc0, leaves_live_14 m hO c t hc0, leaves_live_15 m hO c t hc0, leaves_live_16 m hO c t hc0, leaves_live_17 m hO c t hc0, leaves_live_18 m hO c t hc0]
  obtain rfl : t = p0 m hO := Fin.ext (show t.val = 0 by omega)
  rw [PhiS_castSucc m hO c _, PhiS_zero m hO c (p0 m hO).val rfl, PhiT0_eq, PhiA0_eq]
  iintro ⟨⟨⟨⟨HS0, HS1, HS2, HS3, HS4, HS5, HS6, HS7, HS8⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, H12, ⟨%d13, H13⟩, ⟨%d14, H14⟩, ⟨%d15, H15⟩, ⟨%d16, H16⟩, ⟨%d17, H17⟩, ⟨%d18, H18⟩⟩
  iapply (triple_A c (grid0.coords (p0 m hO)) _ _ _ _ _ _ _ _ _ _ _ _ _ _ _ _ _ _ _ _ _ _ _ _ _ _ _ _ _ _ _ _ _ _ _ _ _ _ _ _ _ _ _ _ _ _ _ _ _ _ _ _ _ _ _ _ (iblk m hO c 0 (p0 m hO)) (iblk m hO c 1 (p0 m hO)) (iblk m hO c 2 (p0 m hO)) (iblk m hO c 3 (p0 m hO)) (iblk m hO c 4 (p0 m hO)) (iblk m hO c 5 (p0 m hO)) (iblk m hO c 6 (p0 m hO)) (iblk m hO c 7 (p0 m hO)) (iblk m hO c 8 (p0 m hO)) (iblk m hO c 9 (p0 m hO)) (iblk m hO c 10 (p0 m hO)) (iblk m hO c 11 (p0 m hO)) (tbl m 0) hc0 hc1 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HT0]; · iexact HT0
  iintro ⟨H0, H1, H2, H3, H4, H5, H6, H7, H8, H9, H10, H11, H13, H14, H15, H16, H17, H18, HS0, HS1, HS2, HS3, HS4, HS5, HS6, HS7, ⟨%d, HS8⟩, HT0⟩
  have hnew := agree_put m hO c (p0 m hO) d (agree_zero m hO c d)
  isplitl [HS0 HS1 HS2 HS3 HS4 HS5 HS6 HS7 HS8 Hg HT0]
  · isplitl [HS0 HS1 HS2 HS3 HS4 HS5 HS6 HS7 HS8 Hg]
    · isplitl [HS0 HS1 HS2 HS3 HS4 HS5 HS6 HS7 HS8]
      · isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        iexists _; isplitr; · ipureintro; exact hnew
        iexact HS8
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

/-- The body at any point. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  by_cases h0 : t.val % 64 = 0
  · exact sound_A m hO c t h0 (by omega)
  · by_cases h1 : t.val % 64 = 63
    · exact sound_C m hO c t h0 h1
    · exact sound_B m hO c t h0 h1

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 from rfl, PhiS_zero m hO c 0 rfl]

theorem hout (hO : Ok m) (c : Dev nD) : (dats m hO 0 c).Φ (Fin.last (cfgM m hO).N) ⊢ Pipeline.ΦA spec0 c := by
  rw [show (dats m hO 0 c).Φ (Fin.last (cfgM m hO).N) = PhiS m hO c (cfgM m hO).N from rfl, PhiS_pos m hO c _ (by rw [show (cfgM m hO).N = 64 from N_0]; decide), PhiA0_eq]
  iintro ⟨⟨⟨HS0, HS1, HS2, HS3, HS4, HS5, HS6, HS7, ⟨%d, -, HS8⟩⟩, Hg⟩, -⟩
  isplitl [HS0 HS1 HS2 HS3 HS4 HS5 HS6 HS7 HS8]
  · isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexact HS6
    isplitl [HS7]; · iexact HS7
    iexists _; iexact HS8
  iexact Hg

/-! ### The run and the frame -/

set_option backward.isDefEq.respectTransparency.types false in
/-- Every execution ends with the arrays at what the points left and every semaphore at zero. -/
theorem run_main_quiescent (hO : Ok m) : θ_run defs (onTc (τ := τ) (main (F := F))) (s₀ m ρ) (fun r => Pipeline.FramePost (Pipeline.pin pcfgs fun _ => adm m hO) (dats m hO) 0 (V m) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hin := hin m hO) (hout := hout m hO)

/-- The argument arrays end unchanged, -/
theorem args_kept (hO : Ok m) (r : PUnit × MemSt nD τ sig (Elt F)) (h : Pipeline.FramePost (Pipeline.pin pcfgs fun _ => adm m hO) (dats m hO) 0 (V m) r) (c : Dev nD) :
    r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) ∧ r.2.mem ((c.tc : Thread nD τ).loc main_arg11) = m ((c.tc : Thread nD τ).loc main_arg11) :=
  ⟨((h c).2 main_arg0 (by decide : main_arg0 ∈ Pipeline.restRefs sig spec0)).trans (V_main_arg0 m c), ((h c).2 main_arg1 (by decide : main_arg1 ∈ Pipeline.restRefs sig spec0)).trans (V_main_arg1 m c), ((h c).2 main_arg2 (by decide : main_arg2 ∈ Pipeline.restRefs sig spec0)).trans (V_main_arg2 m c), ((h c).2 main_arg3 (by decide : main_arg3 ∈ Pipeline.restRefs sig spec0)).trans (V_main_arg3 m c), ((h c).2 main_arg4 (by decide : main_arg4 ∈ Pipeline.restRefs sig spec0)).trans (V_main_arg4 m c), ((h c).2 main_arg5 (by decide : main_arg5 ∈ Pipeline.restRefs sig spec0)).trans (V_main_arg5 m c), ((h c).2 main_arg6 (by decide : main_arg6 ∈ Pipeline.restRefs sig spec0)).trans (V_main_arg6 m c), ((h c).2 main_arg7 (by decide : main_arg7 ∈ Pipeline.restRefs sig spec0)).trans (V_main_arg7 m c), ((h c).2 main_arg8 (by decide : main_arg8 ∈ Pipeline.restRefs sig spec0)).trans (V_main_arg8 m c), ((h c).2 main_arg9 (by decide : main_arg9 ∈ Pipeline.restRefs sig spec0)).trans (V_main_arg9 m c), ((h c).2 main_arg10 (by decide : main_arg10 ∈ Pipeline.restRefs sig spec0)).trans (V_main_arg10 m c), ((h c).2 main_arg11 (by decide : main_arg11 ∈ Pipeline.restRefs sig spec0)).trans (V_main_arg11 m c)⟩

/-- and the semaphores at zero. -/
theorem frame (hO : Ok m) : θ_run defs (onTc (τ := τ) (main (F := F))) ⟨m, fun _ => 0, ρ⟩ (fun r => (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) ∧ r.2.mem ((c.tc : Thread nD τ).loc main_arg11) = m ((c.tc : Thread nD τ).loc main_arg11)) ∧ r.2.sem = fun _ => 0) :=
  (θ_run defs _ _).mono (fun r h => ⟨args_kept m hO r h.1, h.2⟩) (run_main_quiescent m ρ hO)

end Cert.KernelIdeal.Gen

end
-- ==== Proof.Attend.lean ====
module

public import Idealize.ShloMosaic.Lib.Pointwise
public import Idealize.ShloMosaic.PureOps.Ideal
public import Mathlib.Algebra.BigOperators.Fin

@[expose] public section

set_option maxRecDepth 16384

/-! # Attention of one query over the sinks, the ring and the new token, over the extended reals

`attend` is the softmax attention of one query head as the problem states it: four sink tokens, 2048 ring tokens and the
new token, every token with a score, a value scale and a value entry. `attendK` is the same with the sinks and the new
tokens held in 32 columns, most of them masked by the score `⊥`. `attendK_eq` says that they agree. -/

noncomputable section

namespace Cert.Proof

open Idealize.ShloMosaic

/-- The constant 1/8. -/
def sm : EReal := Ideal.ofBits .f32 1040187392#32

theorem ofBits_bot : Ideal.ofBits .f32 4286578688#32 = (⊥ : EReal) := by simp [Ideal.ofBits, Ideal.ieee]

/-- The score of a query with a key of scale `w`. -/
def score (q k : Fin 64 → EReal) (w : EReal) : EReal := (∑ d, q d * k d) * w * sm

/-- The share of a token of score `s` under the largest score `m` and the denominator `den`. -/
def share (s m den : EReal) : EReal := Ideal.exp (s - m) * Ideal.div 1 den

theorem share_bot (m den : EReal) : share ⊥ m den = 0 := by
  unfold share
  rw [EReal.bot_sub, Ideal.exp_bot, zero_mul]

def mx (sS : Fin 4 → EReal) (sR : Fin 2048 → EReal) (sN : EReal) : EReal :=
  max (max (Finset.fold max ⊥ sS Finset.univ) (Finset.fold max ⊥ sR Finset.univ)) sN
def den (sS : Fin 4 → EReal) (sR : Fin 2048 → EReal) (sN : EReal) : EReal :=
  ∑ t, Ideal.exp (sS t - mx sS sR sN) + ∑ p, Ideal.exp (sR p - mx sS sR sN) + Ideal.exp (sN - mx sS sR sN)
/-- The attention of one query, one entry of the result. -/
def attend (sS wS vS : Fin 4 → EReal) (sR wR vR : Fin 2048 → EReal) (sN wN vN : EReal) : EReal :=
  ∑ t, share (sS t) (mx sS sR sN) (den sS sR sN) * wS t * vS t
    + ∑ p, share (sR p) (mx sS sR sN) (den sS sR sN) * wR p * vR p
    + share sN (mx sS sR sN) (den sS sR sN) * wN * vN

def mxK (s0 : Fin 32 → EReal) (sR : Fin 2048 → EReal) : EReal :=
  max (Finset.fold max ⊥ s0 Finset.univ) (Finset.fold max ⊥ sR Finset.univ)
def denK (s0 : Fin 32 → EReal) (sR : Fin 2048 → EReal) : EReal :=
  ∑ c, Ideal.exp (s0 c - mxK s0 sR) + ∑ p, Ideal.exp (sR p - mxK s0 sR)
/-- The attention with the sinks and the new tokens in 32 columns. -/
def attendK (s0 w0 v0 : Fin 32 → EReal) (sR wR vR : Fin 2048 → EReal) : EReal :=
  ∑ p, share (sR p) (mxK s0 sR) (denK s0 sR) * wR p * vR p
    + ∑ c, share (s0 c) (mxK s0 sR) (denK s0 sR) * w0 c * v0 c

/-- The column of sink token `t` of head `h`, -/
def colS (h t : Fin 4) : Fin 32 := ⟨4 * t.val + h.val, by omega⟩
/-- and of the new token of head `h` of the `b`-th sequence of the group. -/
def colN (h b : Fin 4) : Fin 32 := ⟨16 + (4 * b.val + h.val), by omega⟩
/-- The columns that count for head `h` of sequence `b`. -/
def Valid (h b : Fin 4) (c : Fin 32) : Prop := c.val % 4 = h.val ∧ (c.val < 16 ∨ (c.val - 16) / 4 = b.val)

theorem valid_cases (h b : Fin 4) (c : Fin 32) (hc : Valid h b c) : (∃ t, c = colS h t) ∨ c = colN h b := by
  obtain ⟨h1, h2⟩ := hc
  by_cases e : c.val < 16
  · exact .inl ⟨⟨c.val / 4, by omega⟩, Fin.ext (by show c.val = 4 * (c.val / 4) + h.val; omega)⟩
  · refine .inr (Fin.ext ?_)
    show c.val = 16 + (4 * b.val + h.val)
    rcases h2 with h2 | h2
    · exact absurd h2 e
    · omega

/-- A sum over the columns that vanishes off those that count. -/
theorem sum_valid (h b : Fin 4) (F : Fin 32 → EReal) (hF : ∀ c, ¬Valid h b c → F c = 0) :
    ∑ c, F c = ∑ t, F (colS h t) + F (colN h b) := by
  classical
  have hinj : Function.Injective (colS h) := fun x y e => by
    have e' : 4 * x.val + h.val = 4 * y.val + h.val := congrArg Fin.val e
    exact Fin.ext (by omega)
  have hn : colN h b ∉ Finset.univ.image (colS h) := by
    intro hm
    obtain ⟨t, -, e⟩ := Finset.mem_image.mp hm
    have e' : 4 * t.val + h.val = 16 + (4 * b.val + h.val) := congrArg Fin.val e
    omega
  rw [← Finset.sum_image (f := F) (fun x _ y _ e => hinj e), add_comm, ← Finset.sum_insert hn]
  refine (Finset.sum_subset (Finset.subset_univ _) fun c _ hc => hF c fun hv => hc ?_).symm
  rcases valid_cases h b c hv with ⟨t, rfl⟩ | rfl
  · exact Finset.mem_insert_of_mem (Finset.mem_image_of_mem _ (Finset.mem_univ _))
  · exact Finset.mem_insert_self _ _

theorem fold_le {n : ℕ} (f : Fin n → EReal) (a : EReal) (h : ∀ i, f i ≤ a) : Finset.fold max ⊥ f Finset.univ ≤ a :=
  (Finset.fold_max_le a).mpr ⟨bot_le, fun i _ => h i⟩
theorem le_fold {n : ℕ} (f : Fin n → EReal) (i : Fin n) : f i ≤ Finset.fold max ⊥ f Finset.univ :=
  (Finset.le_fold_max _).mpr (.inr ⟨i, Finset.mem_univ i, le_rfl⟩)

/-- The masked columns change nothing: the two statements of the attention agree. -/
theorem attendK_eq (h b : Fin 4) (s0 w0 v0 : Fin 32 → EReal) (sR wR vR : Fin 2048 → EReal) (hs : ∀ c, ¬Valid h b c → s0 c = ⊥) :
    attendK s0 w0 v0 sR wR vR = attend (fun t => s0 (colS h t)) (fun t => w0 (colS h t)) (fun t => v0 (colS h t)) sR wR vR
      (s0 (colN h b)) (w0 (colN h b)) (v0 (colN h b)) := by
  have hm : mxK s0 sR = mx (fun t => s0 (colS h t)) sR (s0 (colN h b)) := by
    unfold mxK mx
    apply le_antisymm
    · refine max_le (fold_le _ _ fun c => ?_) (le_max_of_le_left (le_max_right _ _))
      by_cases hv : Valid h b c
      · rcases valid_cases h b c hv with ⟨t, rfl⟩ | rfl
        · exact le_max_of_le_left (le_max_of_le_left (le_fold (fun t => s0 (colS h t)) t))
        · exact le_max_right _ _
      · rw [hs c hv]; exact bot_le
    · refine max_le (max_le (fold_le _ _ fun t => le_max_of_le_left (le_fold s0 _)) (le_max_right _ _)) (le_max_of_le_left (le_fold s0 _))
  have hd : denK s0 sR = den (fun t => s0 (colS h t)) sR (s0 (colN h b)) := by
    unfold denK den
    rw [hm, sum_valid h b _ fun c hc => by rw [hs c hc, EReal.bot_sub, Ideal.exp_bot]]
    ac_rfl
  unfold attendK attend
  rw [hm, hd, sum_valid h b _ fun c hc => by rw [hs c hc, share_bot, zero_mul, zero_mul]]
  exact (add_left_comm _ _ _).trans (add_assoc _ _ _).symm

/-- A query spread over the 256 rows of the four heads' keys, zero off its own head, scores as with its own head's. -/
theorem sum_head (h : Fin 4) (q : Fin 64 → EReal) (k : Fin 256 → EReal) (F : Fin 256 → EReal)
    (hF : ∀ x, F x = if h.val = x.val / 64 then q ⟨x.val % 64, by omega⟩ * k x else 0) :
    ∑ x, F x = ∑ d : Fin 64, q d * k ⟨64 * h.val + d.val, by omega⟩ := by
  classical
  have hinj : Function.Injective (fun d : Fin 64 => (⟨64 * h.val + d.val, by omega⟩ : Fin 256)) := fun x y e => by
    have e' : 64 * h.val + x.val = 64 * h.val + y.val := congrArg Fin.val e
    exact Fin.ext (by omega)
  have : ∀ d : Fin 64, q d * k ⟨64 * h.val + d.val, by omega⟩ = F ⟨64 * h.val + d.val, by omega⟩ := fun d => by
    rw [hF, if_pos (by show h.val = (64 * h.val + d.val) / 64; omega)]
    congr 2
    exact Fin.ext (by show d.val = (64 * h.val + d.val) % 64; omega)
  simp only [this]
  rw [← Finset.sum_image (f := F) (fun x _ y _ e => hinj e)]
  refine (Finset.sum_subset (Finset.subset_univ _) fun x _ hx => ?_).symm
  rw [hF, if_neg]
  intro e
  exact hx (Finset.mem_image.mpr ⟨⟨x.val % 64, by omega⟩, Finset.mem_univ _, Fin.ext (by show 64 * h.val + x.val % 64 = x.val; omega)⟩)

end Cert.Proof

end
-- ==== Proof.Quant.lean ====
module

public import proofs.«01_k».proof.Proof.Attend
@[expose] public section

set_option maxRecDepth 16384
/-! # The quantiser over the extended reals

Two statements of the same quantiser to fp8 with a power of two as scale. `rScale`, `rCode` take the smallest power of two
above `a / 448` and divide by it. `kScale`, `kCode` count the powers of two that are at most `a / 448`, assemble the scale
and its reciprocal as float words from the count, and multiply. They agree below the largest bf16 value. -/

noncomputable section

namespace Cert.Proof

open Idealize.ShloMosaic

/-- The constant 1/448 as a float, -/
def c448 : EReal := Ideal.ofBits .f32 991054117#32
/-- the largest absolute value of a row, -/
def amx (v : Fin 64 → EReal) : EReal := Finset.fold max (Ideal.ofBits .f32 4286578688#32) (fun x => max (v x) (-(v x))) Finset.univ
/-- the power of two of place `x`, -/
def pw (x : ℕ) : EReal := FloatOps.exp2 (F := Ideal) (φ := .f32) (FloatOps.sitofp (F := Ideal) .f32 (IntOp.subi (BitVec.ofNat 32 x) 126#32))
/-- the scale of a row of largest absolute value `a`, -/
def rScale (a : EReal) : EReal :=
  if a = 0 then 1 else Finset.fold min (Ideal.ofBits .f32 2139095040#32) (fun x : Fin 254 => if a * c448 < pw x.val then pw x.val else Ideal.ofBits .f32 2139095040#32) Finset.univ
/-- and a code. -/
def rCode (a x : EReal) : EReal := min (Ideal.ofBits .f32 1138753536#32) (max (Ideal.ofBits .f32 3286237184#32) (Ideal.div x (rScale a)))

/-- The exponent as a word, from the count of the thresholds, -/
def kExp (t : EReal) : BitVec 32 :=
  if t = 0 then 0#32 else IntOp.subi (FloatOps.fptosi (F := Ideal) (φ := .f32) 32 (∑ x : Fin 255, FloatOps.sitofp (F := Ideal) .f32 (BitVec.setWidth 32
    (BitVec.ofBool (decide (Ideal.ofBits .f32 (IntOp.shli ArithUnit.vector (IntOp.addi (IntOp.subi (BitVec.ofNat 32 x.val) 126#32) 127#32) 23#32) ≤ t)))))) 126#32
/-- the scale from its word, -/
def kScale (t : EReal) : EReal := Ideal.ofBits .f32 (IntOp.shli ArithUnit.vector (IntOp.addi (kExp t) 127#32) 23#32)
/-- and a code, by the reciprocal's word. -/
def kCode (t x : EReal) : EReal := min (Ideal.ofBits .f32 1138753536#32) (max (Ideal.ofBits .f32 3286237184#32)
  (x * Ideal.ofBits .f32 (IntOp.shli ArithUnit.vector (IntOp.addi (IntOp.subi (0#32) (kExp t)) 127#32) 23#32)))

theorem inf_word : Ideal.ofBits .f32 2139095040#32 = (⊤ : EReal) := by simp [Ideal.ofBits, Ideal.ieee]

theorem fields : ∀ n : Fin 255, (BitVec.ofNat 32 (n.val * 2 ^ 23)).extractLsb' 31 1 = 0#1 ∧ ((BitVec.ofNat 32 (n.val * 2 ^ 23)).extractLsb' 23 8).toNat = n.val
    ∧ ((BitVec.ofNat 32 (n.val * 2 ^ 23)).extractLsb' 0 23).toNat = 0 := by decide +kernel

/-- The word of a power of two. -/
theorem pow_word (n : ℕ) (h1 : 1 ≤ n) (h2 : n ≤ 254) : Ideal.ofBits .f32 (BitVec.ofNat 32 (n * 2 ^ 23)) = (((2 : ℝ) ^ ((n : ℤ) - 127) : ℝ) : EReal) := by
  obtain ⟨e1, e2, e3⟩ := fields ⟨n, by omega⟩
  dsimp only at e1 e2 e3
  show Ideal.ieee 8 23 _ = _
  unfold Ideal.ieee
  dsimp only
  rw [show (8 + 23 : ℕ) = 31 from rfl, e1, e2, e3, if_neg (by omega), if_neg (by omega)]
  congr 1
  rw [show ((0#1 : BitVec 1) == 1#1) = false from rfl]
  simp only [Bool.false_eq_true, if_false, one_mul]
  rw [show ((n : ℤ) - (2 ^ (8 - 1) - 1) - (23 : ℕ)) = ((n : ℤ) - 127) - 23 by norm_num, zpow_sub₀ (by norm_num : (2 : ℝ) ≠ 0)]
  norm_num
  ring

theorem thr_word : ∀ x : Fin 255, IntOp.shli ArithUnit.vector (IntOp.addi (IntOp.subi (BitVec.ofNat 32 x.val) 126#32) 127#32) 23#32 = BitVec.ofNat 32 ((x.val + 1) * 2 ^ 23) := by
  decide +kernel
theorem scale_word : ∀ n : Fin 247, IntOp.shli ArithUnit.vector (IntOp.addi (IntOp.subi (BitVec.ofNat 32 n.val) 126#32) 127#32) 23#32 = BitVec.ofNat 32 ((n.val + 1) * 2 ^ 23)
    ∧ IntOp.shli ArithUnit.vector (IntOp.addi (IntOp.subi (0#32) (IntOp.subi (BitVec.ofNat 32 n.val) 126#32)) 127#32) 23#32 = BitVec.ofNat 32 ((253 - n.val) * 2 ^ 23) := by
  decide +kernel
theorem pw_word : ∀ x : Fin 254, (IntOp.subi (BitVec.ofNat 32 x.val) 126#32).toInt = (x.val : ℤ) - 126 := by decide +kernel

theorem pw_eq (x : Fin 254) : pw x.val = (((2 : ℝ) ^ ((x.val : ℤ) - 126) : ℝ) : EReal) := by
  show Ideal.exp2 (((IntOp.subi (BitVec.ofNat 32 x.val) 126#32).toInt : ℝ) : EReal) = _
  rw [pw_word, Ideal.exp2_coe]
  congr 1
  exact Real.rpow_intCast 2 _

/-- A threshold as a number: the last one is infinite. -/
theorem thr_le (x : Fin 255) (T : ℝ) (hT : T < (2 : ℝ) ^ (120 : ℤ)) :
    Ideal.ofBits .f32 (IntOp.shli ArithUnit.vector (IntOp.addi (IntOp.subi (BitVec.ofNat 32 x.val) 126#32) 127#32) 23#32) ≤ (T : EReal) ↔ (2 : ℝ) ^ ((x.val : ℤ) - 126) ≤ T := by
  rw [thr_word]
  by_cases hx : x.val = 254
  · rw [hx, show BitVec.ofNat 32 ((254 + 1) * 2 ^ 23) = 2139095040#32 from by decide, inf_word]
    constructor
    · intro h; exact absurd (top_le_iff.mp h) (EReal.coe_ne_top T)
    · intro h
      have : (2 : ℝ) ^ (120 : ℤ) ≤ (2 : ℝ) ^ (((254 : ℕ) : ℤ) - 126) := zpow_le_zpow_right₀ (by norm_num) (by norm_num)
      exact absurd (h.trans_lt hT) (not_lt.mpr this)
  · rw [pow_word _ (by omega) (by have := x.isLt; omega), EReal.coe_le_coe_iff]
    rw [show (((x.val + 1 : ℕ) : ℤ) - 127) = (x.val : ℤ) - 126 by push_cast; ring]

/-- The count of the powers of two that are at most `T`, and the smallest one above. -/
theorem exists_count (T : ℝ) (h0 : 0 < T) (hT : T < (2 : ℝ) ^ (120 : ℤ)) :
    ∃ N : ℕ, N ≤ 246 ∧ ∀ x : ℕ, (2 : ℝ) ^ ((x : ℤ) - 126) ≤ T ↔ x < N := by
  classical
  have hex : ∃ n : ℕ, T < (2 : ℝ) ^ ((n : ℤ) - 126) := ⟨246, by norm_num at hT ⊢; exact hT⟩
  refine ⟨Nat.find hex, Nat.find_min' hex (by norm_num at hT ⊢; exact hT), fun x => ?_⟩
  constructor
  · intro h
    by_contra hx
    have h1 := Nat.find_spec hex
    have : (2 : ℝ) ^ (((Nat.find hex : ℕ) : ℤ) - 126) ≤ (2 : ℝ) ^ ((x : ℤ) - 126) := zpow_le_zpow_right₀ (by norm_num) (by omega)
    exact absurd (h1.trans_le (this.trans h)) (lt_irrefl _)
  · intro h
    exact not_lt.mp (Nat.find_min hex h)

theorem indicator (p : Bool) : (FloatOps.sitofp (F := Ideal) .f32 (BitVec.setWidth 32 (BitVec.ofBool p)) : EReal) = if p then 1 else 0 := by
  show (((BitVec.setWidth 32 (BitVec.ofBool p)).toInt : ℝ) : EReal) = _
  cases p
  · rw [show (BitVec.setWidth 32 (BitVec.ofBool false)).toInt = 0 from by decide]; simp
  · rw [show (BitVec.setWidth 32 (BitVec.ofBool true)).toInt = 1 from by decide]; simp

theorem fptosi_nat (N : ℕ) (h : N ≤ 246) : Ideal.fptosi 32 ((N : ℝ) : EReal) = BitVec.ofNat 32 N := by
  unfold Ideal.fptosi
  rw [Ideal.toIntClamped_coe, if_pos (Nat.cast_nonneg N)]
  have : ⌊(N : ℝ)⌋ = (N : ℤ) := Int.floor_natCast N
  rw [this]
  have e : max (-((2 ^ (32 - 1) : ℕ) : ℤ)) (min (((2 ^ (32 - 1) : ℕ) : ℤ) - 1) (N : ℤ)) = N := by
    rw [min_eq_right (by norm_num <;> omega), max_eq_right (by norm_num <;> omega)]
  rw [e]
  rfl

theorem kExp_eq (T : ℝ) (h0 : 0 < T) (hT : T < (2 : ℝ) ^ (120 : ℤ)) (N : ℕ) (hN : N ≤ 246) (hx : ∀ x : ℕ, (2 : ℝ) ^ ((x : ℤ) - 126) ≤ T ↔ x < N) :
    kExp (T : EReal) = IntOp.subi (BitVec.ofNat 32 N) 126#32 := by
  unfold kExp
  rw [if_neg (by rw [← EReal.coe_zero, EReal.coe_eq_coe_iff]; exact h0.ne')]
  congr 1
  show Ideal.fptosi 32 _ = _
  rw [← fptosi_nat N hN]
  congr 1
  have : ∀ x : Fin 255, (FloatOps.sitofp (F := Ideal) .f32 (BitVec.setWidth 32
    (BitVec.ofBool (decide (Ideal.ofBits .f32 (IntOp.shli ArithUnit.vector (IntOp.addi (IntOp.subi (BitVec.ofNat 32 x.val) 126#32) 127#32) 23#32) ≤ (T : EReal))))) : EReal)
      = if x.val < N then 1 else 0 := by
    intro x
    rw [indicator]
    simp only [decide_eq_true_eq]
    rw [if_congr ((thr_le x T hT).trans (hx x.val)) rfl rfl]
  refine (Finset.sum_congr rfl fun x _ => this x).trans ?_
  rw [Finset.sum_ite, Finset.sum_const_zero, add_zero, Finset.sum_const, nsmul_one]
  have hc : (Finset.univ.filter fun x : Fin 255 => x.val < N).card = N := by
    rw [Fin.card_filter_val_lt]; omega
  rw [hc]; norm_cast

/-- For a positive row the counted scale is the smallest power of two above, -/
theorem kScale_pos (T : ℝ) (h0 : 0 < T) (hT : T < (2 : ℝ) ^ (120 : ℤ)) :
    ∃ N : ℕ, N ≤ 246 ∧ kScale (T : EReal) = (((2 : ℝ) ^ ((N : ℤ) - 126) : ℝ) : EReal)
      ∧ Ideal.ofBits .f32 (IntOp.shli ArithUnit.vector (IntOp.addi (IntOp.subi (0#32) (kExp T)) 127#32) 23#32) = (((2 : ℝ) ^ (126 - (N : ℤ)) : ℝ) : EReal)
      ∧ Finset.fold min (Ideal.ofBits .f32 2139095040#32) (fun x : Fin 254 => if (T : EReal) < pw x.val then pw x.val else Ideal.ofBits .f32 2139095040#32) Finset.univ
        = (((2 : ℝ) ^ ((N : ℤ) - 126) : ℝ) : EReal) := by
  obtain ⟨N, hN, hx⟩ := exists_count T h0 hT
  obtain ⟨w1, w2⟩ := scale_word ⟨N, by omega⟩
  dsimp only at w1 w2
  refine ⟨N, hN, ?_, ?_, ?_⟩
  · unfold kScale
    rw [kExp_eq T h0 hT N hN hx, w1, pow_word _ (by omega) (by omega)]
    congr 2; push_cast; ring
  · rw [kExp_eq T h0 hT N hN hx, w2, pow_word _ (by omega) (by omega)]
    congr 2
    rw [Nat.cast_sub (by omega)]; push_cast; ring
  · rw [inf_word]
    have hp : ∀ x : Fin 254, (T : EReal) < pw x.val ↔ N ≤ x.val := by
      intro x
      rw [pw_eq, EReal.coe_lt_coe_iff, ← not_le, hx, not_lt]
    refine le_antisymm ?_ ?_
    · refine (Finset.fold_min_le _).mpr (.inr ⟨⟨N, by omega⟩, Finset.mem_univ _, ?_⟩)
      rw [if_pos ((hp _).mpr le_rfl), pw_eq]
    · refine (Finset.le_fold_min _).mpr ⟨le_top, fun x _ => ?_⟩
      by_cases h : N ≤ x.val
      · rw [if_pos ((hp x).mpr h), pw_eq, EReal.coe_le_coe_iff]
        exact zpow_le_zpow_right₀ (by norm_num) (by omega)
      · rw [if_neg (fun e => h ((hp x).mp e))]; exact le_top

theorem c448_real : ∃ c : ℝ, 0 < c ∧ c < 1 / 400 ∧ c448 = (c : EReal) := by
  refine ⟨9586981 * (1 / 4294967296), by positivity, by norm_num, ?_⟩
  unfold c448
  simp [Ideal.ofBits, Ideal.ieee]
  norm_num

/-- The two quantisers agree on a row whose largest absolute value is at most the largest bf16 value. -/
theorem quant_eq (a : EReal) (B : ℝ) (h0 : 0 ≤ a) (hB : a ≤ (B : EReal)) (hB' : B < 400 * (2 : ℝ) ^ (120 : ℤ)) :
    kScale (a * c448) = rScale a ∧ ∀ x, kCode (a * c448) x = rCode a x := by
  obtain ⟨c, hc0, hc1, hc⟩ := c448_real
  obtain ⟨A, rfl⟩ : ∃ A : ℝ, a = (A : EReal) := by
    lift a to ℝ using ⟨fun e => by rw [e] at hB; exact absurd (top_le_iff.mp hB) (EReal.coe_ne_top B), fun e => by rw [e] at h0; exact absurd h0 (by simp)⟩
    exact ⟨a, rfl⟩
  have hA0 : 0 ≤ A := by exact_mod_cast h0
  have hAB : A ≤ B := by exact_mod_cast hB
  rw [hc, ← EReal.coe_mul]
  rcases hA0.eq_or_lt with rfl | hpos
  · have e : kExp ((0 * c : ℝ) : EReal) = 0#32 := by unfold kExp; rw [zero_mul, EReal.coe_zero, if_pos rfl]
    have e1 : Ideal.ofBits .f32 (IntOp.shli ArithUnit.vector (IntOp.addi (0#32) 127#32) 23#32) = (1 : EReal) := by
      rw [show IntOp.shli ArithUnit.vector (IntOp.addi (0#32) 127#32) 23#32 = BitVec.ofNat 32 (127 * 2 ^ 23) from by decide, pow_word _ (by norm_num) (by norm_num)]
      norm_num
    have e2 : rScale ((0 : ℝ) : EReal) = 1 := by unfold rScale; rw [EReal.coe_zero, if_pos rfl]
    refine ⟨?_, fun x => ?_⟩
    · unfold kScale; rw [e, e1, e2]
    · unfold kCode rCode
      rw [e, e2, show IntOp.subi (0#32) (0#32) = 0#32 from by decide, e1]
      unfold Ideal.div
      rw [if_neg one_ne_zero, inv_one]
  · have hT0 : 0 < A * c := mul_pos hpos hc0
    have hT : A * c < (2 : ℝ) ^ (120 : ℤ) := by
      have h1 : A * c < A * (1 / 400) := mul_lt_mul_of_pos_left hc1 hpos
      have h2 : A < 400 * (2 : ℝ) ^ (120 : ℤ) := hAB.trans_lt hB'
      linarith
    obtain ⟨N, hN, e1, e2, e3⟩ := kScale_pos _ hT0 hT
    have e4 : rScale (A : EReal) = (((2 : ℝ) ^ ((N : ℤ) - 126) : ℝ) : EReal) := by
      unfold rScale
      rw [if_neg (by rw [← EReal.coe_zero, EReal.coe_eq_coe_iff]; exact hpos.ne'), hc, ← EReal.coe_mul, e3]
    refine ⟨by rw [e1, e4], fun x => ?_⟩
    unfold kCode rCode
    rw [e2, e4]
    unfold Ideal.div
    rw [if_neg (by rw [← EReal.coe_zero, EReal.coe_eq_coe_iff]; positivity), ← EReal.coe_inv, ← zpow_neg]
    congr 6; ring

theorem amx_nonneg (v : Fin 64 → EReal) : 0 ≤ amx v := by
  unfold amx
  rw [ofBits_bot]
  refine le_trans ?_ (le_fold _ 0)
  rcases le_total 0 (v 0) with h | h
  · exact h.trans (le_max_left _ _)
  · exact (EReal.neg_nonneg.mpr h).trans (le_max_right _ _)
theorem amx_le (v : Fin 64 → EReal) (B : EReal) (h : ∀ x, max (v x) (-(v x)) ≤ B) : amx v ≤ B := by
  unfold amx
  rw [ofBits_bot]
  exact fold_le _ _ h

end Cert.Proof

end
-- ==== Proof.Spec.lean ====
module

public import proofs.«01_k».proof.Proof.Attend
public import proofs.«01_k».proof.Proof.Quant

@[expose] public section

set_option maxRecDepth 16384

/-! # The seven results, entry by entry, as functions of the arguments

`Inp` holds the entries of the arguments. Both programs are shown to compute the functions below; the words of the two
programs that differ in form (the clamp of the ring's length, the slot) are compared here. -/

noncomputable section

namespace Cert.Proof

open Idealize.ShloMosaic

/-- The entries of the arguments: the queries, the new keys and values, the sink keys, their scales, the sink values, their
    scales, the ring keys, their scales, the ring values, their scales, and the numbers of tokens seen. -/
structure Inp where
  q : Fin 64 → Fin 16 → Fin 64 → EReal
  kn : Fin 64 → Fin 4 → Fin 64 → EReal
  vn : Fin 64 → Fin 4 → Fin 64 → EReal
  sk : Fin 64 → Fin 4 → Fin 4 → Fin 64 → EReal
  sks : Fin 64 → Fin 4 → Fin 4 → EReal
  sv : Fin 64 → Fin 4 → Fin 4 → Fin 64 → EReal
  svs : Fin 64 → Fin 4 → Fin 4 → EReal
  k : Fin 64 → Fin 2048 → Fin 4 → Fin 64 → EReal
  ks : Fin 64 → Fin 2048 → Fin 4 → EReal
  v : Fin 64 → Fin 2048 → Fin 4 → Fin 64 → EReal
  vs : Fin 64 → Fin 2048 → Fin 4 → EReal
  seen : Fin 64 → BitVec 32

namespace Inp
variable (I : Inp)

/-- The scale of a new key row and its codes, -/
def kSc (b : Fin 64) (h : Fin 4) : EReal := rScale (amx (I.kn b h))
def kCd (b : Fin 64) (h : Fin 4) (d : Fin 64) : EReal := rCode (amx (I.kn b h)) (I.kn b h d)
/-- and the same for the values. -/
def vSc (b : Fin 64) (h : Fin 4) : EReal := rScale (amx (I.vn b h))
def vCd (b : Fin 64) (h : Fin 4) (d : Fin 64) : EReal := rCode (amx (I.vn b h)) (I.vn b h d)

/-- Query head `r` of sequence `b`, of key head `h`: entry `l` of its attention. -/
def attn (b : Fin 64) (r : Fin 16) (h : Fin 4) (l : Fin 64) : EReal :=
  attend (fun t => score (I.q b r) (I.sk b t h) (I.sks b t h)) (fun t => I.svs b t h) (fun t => I.sv b t h l)
    (fun p => if IntOp.cmpi CmpIPredicate.slt (BitVec.ofNat 32 p.val) (IntOp.subi (I.seen b) 4#32) = 1#1 then score (I.q b r) (I.k b p h) (I.ks b p h) else ⊥)
    (fun p => I.vs b p h) (fun p => I.v b p h l)
    (score (I.q b r) (I.kCd b h) (I.kSc b h)) (I.vSc b h) (I.vCd b h l)

/-- The attention result. -/
def out (b : Fin 64) (c : Fin 1024) : EReal :=
  I.attn b ⟨c.val / 64, Nat.div_lt_of_lt_mul c.isLt⟩ ⟨c.val / 256, Nat.div_lt_of_lt_mul c.isLt⟩ ⟨c.val % 64, Nat.mod_lt _ (by norm_num)⟩
/-- The slot the new token takes in the ring. -/
def slot (b : Fin 64) : BitVec 32 := IntOp.andi (IntOp.subi (I.seen b) 4#32) 2047#32
/-- The number of tokens after this one. -/
def next (b : Fin 64) : BitVec 32 := IntOp.addi (I.seen b) 1#32

end Inp

/-- For a ring token the clamp of the length at the ring's size does not matter. -/
theorem ring_word (p : Fin 2048) (x : BitVec 32) :
    IntOp.cmpi CmpIPredicate.slt (BitVec.ofNat 32 p.val) (IntOp.minsi x 2048#32) = IntOp.cmpi CmpIPredicate.slt (BitVec.ofNat 32 p.val) x := by
  have hp := p.isLt
  have e : (BitVec.ofNat 32 p.val).toInt = p.val := by
    rw [BitVec.toInt_eq_toNat_of_lt] <;> simp <;> omega
  unfold IntOp.minsi IntOp.cmpi
  by_cases h : x.slt 2048#32
  · simp [h]
  · have h1 : (2048 : ℤ) ≤ x.toInt := by
      have := h; rw [BitVec.slt_iff_toInt_lt] at this; simpa using this
    have h2 : (BitVec.ofNat 32 p.val).slt x = true := by rw [BitVec.slt_iff_toInt_lt, e]; omega
    have h3 : (BitVec.ofNat 32 p.val).slt 2048#32 = true := by
      rw [BitVec.slt_iff_toInt_lt, e]; show (p.val : ℤ) < 2048; omega
    simp [h, h2, h3]

/-- The remainder of the floor division by 2048, as the host computes it, is the low eleven bits. -/
theorem floor_word (y : BitVec 32) :
    Scalar.select
      (IntOp.andi
        (IntOp.cmpi CmpIPredicate.ne (IntOp.cmpi CmpIPredicate.slt (IntOp.remsi ArithUnit.host y 2048#32) 0#32) (IntOp.cmpi CmpIPredicate.slt 2048#32 0#32))
        (IntOp.cmpi CmpIPredicate.ne (IntOp.remsi ArithUnit.host y 2048#32) 0#32))
      (IntOp.addi (IntOp.remsi ArithUnit.host y 2048#32) 2048#32) (IntOp.remsi ArithUnit.host y 2048#32) = IntOp.andi y 2047#32 := by
  have hc : IntOp.remsi ArithUnit.host y 2048#32 = y.srem 2048#32 := if_neg (by unfold IntOp.SDivCorner; simp)
  have hand : (IntOp.andi y 2047#32).toNat = y.toNat % 2048 := by
    show (y &&& 2047#32).toNat = _
    rw [BitVec.toNat_and]; exact Nat.and_two_pow_sub_one_eq_mod y.toNat 11
  have hY := y.isLt
  have c0 : IntOp.cmpi CmpIPredicate.slt 2048#32 0#32 = 0#1 := by decide
  rw [hc, c0]
  by_cases hm : y.msb
  · have hs : y.srem 2048#32 = -((-y) % 2048#32) := by
      rw [BitVec.srem_eq, hm]; rfl
    have hn : ((-y) % 2048#32).toNat = (2 ^ 32 - y.toNat) % 2048 := by
      rw [BitVec.toNat_umod, BitVec.toNat_neg]; show (2 ^ 32 - y.toNat) % 2 ^ 32 % 2048 = _; omega
    have hr : (y.srem 2048#32).toNat = (2 ^ 32 - (2 ^ 32 - y.toNat) % 2048) % 2 ^ 32 := by rw [hs, BitVec.toNat_neg, hn]
    by_cases h0 : (2 ^ 32 - y.toNat) % 2048 = 0
    · have hz : y.srem 2048#32 = 0#32 := BitVec.eq_of_toNat_eq (by rw [hr, h0]; rfl)
      rw [hz]
      apply BitVec.eq_of_toNat_eq
      rw [hand]
      show 0 = _
      omega
    · have hlt : IntOp.cmpi CmpIPredicate.slt (y.srem 2048#32) 0#32 = 1#1 := by
        have : (y.srem 2048#32).slt 0#32 = true := by
          rw [BitVec.slt_iff_toInt_lt, BitVec.toInt_eq_toNat_cond, hr]; simp; omega
        unfold IntOp.cmpi; simp [this]
      have hne : IntOp.cmpi CmpIPredicate.ne (y.srem 2048#32) 0#32 = 1#1 := by
        have : (y.srem 2048#32 != 0#32) = true := by
          rw [bne_iff_ne]; intro e; rw [e] at hr; revert hr; simp; omega
        unfold IntOp.cmpi; simp [this]
      rw [hlt, hne]
      apply BitVec.eq_of_toNat_eq
      rw [hand]
      show (y.srem 2048#32 + 2048#32).toNat = _
      rw [BitVec.toNat_add, hr]
      show _ = _
      simp only [BitVec.toNat_ofNat]
      omega
  · have hm' : y.msb = false := by simpa using hm
    have hs : y.srem 2048#32 = y % 2048#32 := by
      rw [BitVec.srem_eq, hm']; rfl
    have hr : (y.srem 2048#32).toNat = y.toNat % 2048 := by rw [hs, BitVec.toNat_umod]; rfl
    have hlt : IntOp.cmpi CmpIPredicate.slt (y.srem 2048#32) 0#32 = 0#1 := by
      have : (y.srem 2048#32).slt 0#32 = false := by
        rw [Bool.eq_false_iff, Ne, BitVec.slt_iff_toInt_lt, BitVec.toInt_eq_toNat_cond, hr]; simp; omega
      unfold IntOp.cmpi; simp [this]
    rw [hlt]
    have hb : ∀ w : BitVec 1, IntOp.andi (IntOp.cmpi CmpIPredicate.ne 0#1 0#1) w = 0#1 := by decide
    rw [hb]
    apply BitVec.eq_of_toNat_eq
    rw [hand]
    exact hr

end Cert.Proof

end
-- ==== Proof.KTile.lean ====
module

public import proofs.«01_k».proof.Proof.Named
public import proofs.«01_k».proof.Proof.Attend

@[expose] public section

set_option maxRecDepth 16384

/-! # What one grid point computes, entry by entry, over the extended reals -/

noncomputable section

namespace Cert.KernelIdeal.Gen

open Idealize.ShloMosaic Cert.Proof

theorem off1_0 : ∀ i : grid0.Coords, k0_off1 i 0 = 16 * (i 0).val := by decide +kernel
theorem off1_1 : ∀ i : grid0.Coords, k0_off1 i 1 = 0 := by decide +kernel
theorem off2_0 : ∀ i : grid0.Coords, k0_off2 i 0 = 16 * ((i 0).val / 4) := by decide +kernel
theorem off2_1 : ∀ i : grid0.Coords, k0_off2 i 1 = 0 := by decide +kernel
theorem off3_0 : ∀ i : grid0.Coords, k0_off3 i 0 = (i 0).val := by decide +kernel
theorem off3_1 : ∀ i : grid0.Coords, k0_off3 i 1 = 0 := by decide +kernel
theorem off5_0 : ∀ i : grid0.Coords, k0_off5 i 0 = 16 * (i 0).val := by decide +kernel
theorem off5_1 : ∀ i : grid0.Coords, k0_off5 i 1 = 0 := by decide +kernel
theorem off6_0 : ∀ i : grid0.Coords, k0_off6 i 0 = 16 * ((i 0).val / 4) := by decide +kernel
theorem off6_1 : ∀ i : grid0.Coords, k0_off6 i 1 = 0 := by decide +kernel

/-- The mask of the 32 columns, as a word: one exactly at the columns that count. -/
theorem mask_word : ∀ (b : Fin 64) (r : Fin 16) (c : Fin 32),
    (IntOp.andi
        (IntOp.cmpi CmpIPredicate.eq (IntOp.andi (BitVec.ofNat 32 c.val) 3#32) (IntOp.shrsi ArithUnit.vector (BitVec.ofNat 32 r.val) 2#32))
        (IntOp.ori (IntOp.cmpi CmpIPredicate.slt (BitVec.ofNat 32 c.val) 16#32)
          (IntOp.cmpi CmpIPredicate.eq (IntOp.shrsi ArithUnit.vector (IntOp.subi (BitVec.ofNat 32 c.val) 16#32) 2#32)
            (Scalar.andi (BitVec.ofNat 32 b.val) 3#32)))) = 1#1
      ↔ (c.val % 4 = r.val / 4 ∧ (c.val < 16 ∨ (c.val - 16) / 4 = b.val % 4)) := by decide +kernel

/-- The mask of the heads' rows. -/
theorem head_word : ∀ (r : Fin 16) (x : Fin 256),
    (IntOp.cmpi CmpIPredicate.eq (IntOp.shrsi ArithUnit.vector (BitVec.ofNat 32 r.val) 2#32) (IntOp.shrsi ArithUnit.vector (BitVec.ofNat 32 x.val) 6#32)) = 1#1
      ↔ r.val / 4 = x.val / 64 := by decide +kernel

/-- Which half of the lanes a row uses. -/
theorem half_word : ∀ r : Fin 8,
    (IntOp.cmpi CmpIPredicate.eq (IntOp.shrsi ArithUnit.vector (BitVec.ofNat 32 r.val) 2#32) (IntOp.andi (BitVec.ofNat 32 r.val) 1#32)) = 1#1
      ↔ r.val / 4 = r.val % 2 := by decide +kernel

theorem select_iff {α : Type} (w : BitVec 1) (P : Prop) [Decidable P] (h : w = 1#1 ↔ P) (x y : α) : Scalar.select w x y = if P then x else y := by
  by_cases hp : P
  · exact (if_pos (h.mpr hp)).trans (if_pos hp).symm
  · exact (if_neg (fun e => hp (h.mp e))).trans (if_neg hp).symm

section
variable (i : grid0.Coords) (x2 : Vec Ideal S1024x64 .bf16) (x10 : Vec Ideal S1x256x2048 .fp8e4m3) (x11 : Vec Ideal S1x4x2048 .f32)
  (x12 : Vec Ideal S1x256x2048 .fp8e4m3) (x13 : Vec Ideal S1x4x2048 .f32) (x21 : Vec Ideal S1024x64 .bf16) (x22 : Vec Ideal S1024x128 .bf16)
  (x23 : Vec Ideal S256x64 .bf16) (x24 : Vec Ideal S256x128 .bf16) (x25 x26 : Vec Ideal S64x128 .f32) (wd : Elt Ideal .i32)

/-- The sequence of the point. -/
def bt : Fin 64 := ⟨(i 0).val, (i 0).isLt⟩

/-- Head `r` of the point's sequence: entry `d` of its query. -/
def qK (r : Fin 16) (d : Fin 64) : EReal := x2 (ix2 (⟨16 * (bt i).val + r.val, by have := (bt i).isLt; omega⟩ : Fin 1024) d)
/-- Entry `d` of the key in column `c`. -/
def kK (c : Fin 32) (d : Fin 64) : EReal :=
  if h : c.val < 16 then x21 (ix2 (⟨16 * (bt i).val + c.val, by have := (bt i).isLt; omega⟩ : Fin 1024) d)
  else x23 (ix2 (⟨16 * ((bt i).val / 4) + (c.val - 16), by have := (bt i).isLt; omega⟩ : Fin 256) d)
/-- Entry `l` of the value in column `c`. -/
def vK (l : Fin 128) (c : Fin 32) : EReal :=
  if h : c.val < 16 then x22 (ix2 (⟨16 * (bt i).val + c.val, by have := (bt i).isLt; omega⟩ : Fin 1024) l)
  else x24 (ix2 (⟨16 * ((bt i).val / 4) + (c.val - 16), by have := (bt i).isLt; omega⟩ : Fin 256) l)
/-- The masked score of head `r` with column `c`, -/
def s0K (r : Fin 16) (c : Fin 32) : EReal :=
  if c.val % 4 = r.val / 4 ∧ (c.val < 16 ∨ (c.val - 16) / 4 = (bt i).val % 4) then
    score (qK i x2 r) (kK i x21 x23 c) (x25 (ix2 (bt i) (⟨c.val, by omega⟩ : Fin 128))) else ⊥
/-- and with ring token `p`. -/
def sRK (r : Fin 16) (p : Fin 2048) : EReal :=
  if IntOp.cmpi CmpIPredicate.slt (BitVec.ofNat 32 p.val) (Scalar.subi wd 4#32) = 1#1 then
    score (qK i x2 r) (fun d => x10 (ix3 0 (⟨64 * (r.val / 4) + d.val, by omega⟩ : Fin 256) p)) (x11 (ix3 0 (⟨r.val / 4, by omega⟩ : Fin 4) p)) else ⊥

theorem tS0_apply (r : Fin 16) (c : Fin 32) : tS0 i x2 x21 x23 x25 (ix2 r c) =
    (∑ d, qK i x2 r d * kK i x21 x23 c d) * x25 (ix2 (bt i) (⟨c.val, by omega⟩ : Fin 128)) := by
  pointwise [tS0, tQ, k0_pay59, k0_pay57]
  simp only [off1_0, off1_1, off2_0, off2_1, off3_0, off3_1, Nat.zero_add]
  rfl

theorem tR3_apply (r : Fin 16) (c : Fin 32) : tR3 i x2 x21 x23 x25 (ix2 r c) = s0K i x2 x21 x23 x25 r c := by
  pointwise [tR3, k0_pay60, k0_pay58]
  rw [tS0_apply, ofBits_bot]
  exact select_iff _ _ (mask_word (bt i) r c) _ _

theorem tQ_apply (r : Fin 16) (d : Fin 64) : k0_pay57 (F := Ideal) (tQ i x2) (ix2 r d) = qK i x2 r d := by
  pointwise [k0_pay57, tQ]
  simp only [off1_0, off1_1, Nat.zero_add]
  rfl

theorem pay62_apply (v6 : FVec Ideal S16x64 .bf16) (r : Fin 16) (p : Fin 2048) (q : Fin 64 → EReal) (hq : ∀ d, v6 (ix2 r d) = q d) :
    k0_pay62 (F := Ideal) v6 x10 x11 wd (ix2 r p) = if IntOp.cmpi CmpIPredicate.slt (BitVec.ofNat 32 p.val) (Scalar.subi wd 4#32) = 1#1 then
      score q (fun d => x10 (ix3 0 (⟨64 * (r.val / 4) + d.val, by omega⟩ : Fin 256) p)) (x11 (ix3 0 (⟨r.val / 4, by omega⟩ : Fin 4) p)) else ⊥ := by
  pointwise [k0_pay62]
  rw [ofBits_bot, sum_head ⟨r.val / 4, by omega⟩ q (fun x => x10 (ix3 0 x p)) _ (fun x => ?_)]
  · rfl
  · refine (select_iff _ _ (head_word r x) _ _).trans ?_
    by_cases e : r.val / 4 = x.val / 64
    · rw [if_pos e, if_pos e]
      congr 1
      simp only [hq]
      split_ifs <;> · congr 1; exact Fin.ext (by show _ = x.val % 64; dsimp only; omega)
    · rw [if_neg e, if_neg e]

theorem tR5_apply (r : Fin 16) (p : Fin 2048) : tR5 i x2 x10 x11 wd (ix2 r p) = sRK i x2 x10 x11 wd r p :=
  pay62_apply x10 x11 wd _ r p _ (tQ_apply i x2 r)

theorem m_apply (r : Fin 16) : k0_pay64 (F := Ideal) (tR5 i x2 x10 x11 wd) (tR6 i x2 x21 x23 x25) (ix2 r 0) =
    mxK (s0K i x2 x21 x23 x25 r) (sRK i x2 x10 x11 wd r) := by
  pointwise [k0_pay64, tR6, k0_pay63]
  rw [ofBits_bot]
  unfold mxK
  congr 1
  · exact congrArg (fun f => Finset.fold max ⊥ f Finset.univ) (funext fun c => tR3_apply i x2 x21 x23 x25 r c)
  · exact congrArg (fun f => Finset.fold max ⊥ f Finset.univ) (funext fun p => tR5_apply i x2 x10 x11 wd r p)

theorem r_apply (r : Fin 16) : k0_pay67 (F := Ideal) (tR3 i x2 x21 x23 x25) (tR5 i x2 x10 x11 wd) (tR6 i x2 x21 x23 x25) (ix2 r 0) =
    Ideal.div 1 (denK (s0K i x2 x21 x23 x25 r) (sRK i x2 x10 x11 wd r)) := by
  pointwise [k0_pay67, k0_pay65, k0_pay66]
  simp only [m_apply, tR3_apply, tR5_apply]
  rfl

theorem o_apply (r : Fin 16) (k : Fin 256) : k0_pay69 (F := Ideal) (tR3 i x2 x21 x23 x25) (k0_pay61 x13) (tR5 i x2 x10 x11 wd) (tR6 i x2 x21 x23 x25) x12 (ix2 r k) =
    ∑ p, share (sRK i x2 x10 x11 wd r p) (mxK (s0K i x2 x21 x23 x25 r) (sRK i x2 x10 x11 wd r)) (denK (s0K i x2 x21 x23 x25 r) (sRK i x2 x10 x11 wd r))
      * x13 (ix3 0 (⟨r.val / 4, by omega⟩ : Fin 4) p) * x12 (ix3 0 k p) := by
  pointwise [k0_pay69, k0_pay66, k0_pay61]
  simp only [m_apply, r_apply, tR5_apply]
  rfl

theorem o0_apply (r : Fin 16) (l : Fin 128) : k0_pay68 (F := Ideal) (tR3 i x2 x21 x23 x25) (tR5 i x2 x10 x11 wd) (tR6 i x2 x21 x23 x25)
      (View.ld x26 (Rect.unit (s := S64x128) (k0_off3 i) S1x128.size (k0_off3_inb i)))
      (View.ld x22 (Rect.unit (s := S1024x128) (k0_off5 i) S16x128.size (k0_off5_inb i)))
      (View.ld x24 (Rect.unit (s := S256x128) (k0_off6 i) S16x128.size (k0_off6_inb i))) (ix2 r l) =
    ∑ c : Fin 32, share (s0K i x2 x21 x23 x25 r c) (mxK (s0K i x2 x21 x23 x25 r) (sRK i x2 x10 x11 wd r)) (denK (s0K i x2 x21 x23 x25 r) (sRK i x2 x10 x11 wd r))
      * x26 (ix2 (bt i) (⟨c.val, by omega⟩ : Fin 128)) * vK i x22 x24 l c := by
  pointwise [k0_pay68, k0_pay65]
  simp only [m_apply, r_apply, tR3_apply, off3_0, off3_1, off5_0, off5_1, off6_0, off6_1, Nat.zero_add]
  rw [Fin.sum_univ_add (a := 16) (b := 16)]
  congr 1

/-- Head `r`'s result with the entry `k` of the ring values and the entry `l` of the others. -/
def resK (r : Fin 16) (k : Fin 256) (l : Fin 128) : EReal :=
  attendK (s0K i x2 x21 x23 x25 r) (fun c => x26 (ix2 (bt i) (⟨c.val, by omega⟩ : Fin 128))) (vK i x22 x24 l)
    (sRK i x2 x10 x11 wd r) (fun p => x13 (ix3 0 (⟨r.val / 4, by omega⟩ : Fin 4) p)) (fun p => x12 (ix3 0 k p))

theorem pay70_apply (r : Fin 8) (l : Fin 128) : k0_pay70 (F := Ideal) (tR3 i x2 x21 x23 x25) (k0_pay61 x13) (tR5 i x2 x10 x11 wd) (tR6 i x2 x21 x23 x25)
      (View.ld x26 (Rect.unit (s := S64x128) (k0_off3 i) S1x128.size (k0_off3_inb i)))
      (View.ld x22 (Rect.unit (s := S1024x128) (k0_off5 i) S16x128.size (k0_off5_inb i)))
      (View.ld x24 (Rect.unit (s := S256x128) (k0_off6 i) S16x128.size (k0_off6_inb i))) x12 (ix2 r l) =
    resK i x2 x10 x11 x12 x13 x21 x22 x23 x24 x25 x26 wd ⟨r.val, by omega⟩ ⟨l.val, by omega⟩ l := by
  pointwise [k0_pay70]
  rw [o_apply, o0_apply (wd := wd) (x10 := x10) (x11 := x11)]
  rfl

theorem tileLo_apply (r : Fin 8) (l : Fin 128) : tileLo i x2 x10 x11 x12 x13 x21 x22 x23 x24 x25 x26 wd (ix2 r l) =
    if r.val / 4 = r.val % 2 then resK i x2 x10 x11 x12 x13 x21 x22 x23 x24 x25 x26 wd ⟨r.val, by omega⟩ ⟨l.val, by omega⟩ l
    else resK i x2 x10 x11 x12 x13 x21 x22 x23 x24 x25 x26 wd ⟨r.val, by omega⟩ ⟨(l.val + 64) % 128, by omega⟩ ⟨(l.val + 64) % 128, by omega⟩ := by
  pointwise [tileLo, k0_pay1, k0_pay72, k0_pay71]
  rw [select_iff _ _ (half_word r), pay70_apply, pay70_apply]
  rfl

theorem tileHi_apply (r : Fin 8) (l : Fin 128) : tileHi i x2 x10 x11 x12 x13 x21 x22 x23 x24 x25 x26 wd (ix2 r l) =
    if r.val / 4 = r.val % 2 then resK i x2 x10 x11 x12 x13 x21 x22 x23 x24 x25 x26 wd ⟨8 + r.val, by omega⟩ ⟨128 + l.val, by omega⟩ l
    else resK i x2 x10 x11 x12 x13 x21 x22 x23 x24 x25 x26 wd ⟨8 + r.val, by omega⟩ ⟨128 + (l.val + 64) % 128, by omega⟩ ⟨(l.val + 64) % 128, by omega⟩ := by
  pointwise [tileHi, k0_pay2]
  rw [select_iff _ _ (half_word r)]
  simp only [o_apply, o0_apply (wd := wd) (x10 := x10) (x11 := x11)]
  rfl

end

end Cert.KernelIdeal.Gen

end
-- ==== Proof.KArr.lean ====
module

public import proofs.«01_k».proof.Proof.Frame
public import proofs.«01_k».proof.Proof.Spec
public import proofs.«01_k».proof.Proof.KTile
public import Idealize.ShloMosaic.Lib.Pipeline.ValueKit
public import Idealize.ShloMosaic.Lib.Pointwise

@[expose] public section

set_option maxRecDepth 16384

/-! # The arrays the kernel's region finds and leaves, entry by entry, in terms of its arguments -/

noncomputable section

namespace Cert.KernelIdeal.Gen

open Idealize.ShloMosaic Idealize.ShloMosaic.TcCoe Idealize.SL.Sem Cert.Proof
open Idealize.ShloMosaic.Pipeline (Dat)

variable (m : (ℓ : Loc nD τ sig) → Buf (Elt Ideal) ℓ) (hO : Ok m) (c : Dev nD)

/-- The entries of the kernel's arguments. -/
def inp : Inp where
  q b r d := (m (c.tc.loc main_arg0) : Vec Ideal S64x1x16x64 .bf16) (ix4 b 0 r d)
  kn b h d := (m (c.tc.loc main_arg1) : Vec Ideal S64x1x4x64 .bf16) (ix4 b 0 h d)
  vn b h d := (m (c.tc.loc main_arg2) : Vec Ideal S64x1x4x64 .bf16) (ix4 b 0 h d)
  sk b t h d := (m (c.tc.loc main_arg3) : Vec Ideal S64x4x4x64 .fp8e4m3) (ix4 b t h d)
  sks b t h := (m (c.tc.loc main_arg4) : Vec Ideal S64x4x4 .f32) (ix3 b t h)
  sv b t h d := (m (c.tc.loc main_arg5) : Vec Ideal S64x4x4x64 .fp8e4m3) (ix4 b t h d)
  svs b t h := (m (c.tc.loc main_arg6) : Vec Ideal S64x4x4 .f32) (ix3 b t h)
  k b p h d := (m (c.tc.loc main_arg7) : Vec Ideal S64x2048x4x64 .fp8e4m3) (ix4 b p h d)
  ks b p h := (m (c.tc.loc main_arg8) : Vec Ideal S64x2048x4 .f32) (ix3 b p h)
  v b p h d := (m (c.tc.loc main_arg9) : Vec Ideal S64x2048x4x64 .fp8e4m3) (ix4 b p h d)
  vs b p h := (m (c.tc.loc main_arg10) : Vec Ideal S64x2048x4 .f32) (ix3 b p h)
  seen b := (m (c.tc.loc main_arg11) : Vec Ideal S64 .i32) (ix1 b)

/-! ## The arrays the region finds -/

theorem Va_q (r : Fin 1024) (d : Fin 64) : (V m c main_v0 : Vec Ideal S1024x64 .bf16) (ix2 r d) = (inp m c).q ⟨r.val / 16, Nat.div_lt_of_lt_mul r.isLt⟩ ⟨r.val % 16, Nat.mod_lt _ (by norm_num)⟩ d := by
  simp only [V, hostOps0, List.flatten_cons, List.flatten_nil, List.append_nil, List.cons_append, List.nil_append]
  after_results_simp
  pointwise
  rfl
theorem Va_kn (r : Fin 256) (d : Fin 64) : (V m c main_v1 : Vec Ideal S256x64 .bf16) (ix2 r d) = (inp m c).kn ⟨r.val / 4, Nat.div_lt_of_lt_mul r.isLt⟩ ⟨r.val % 4, Nat.mod_lt _ (by norm_num)⟩ d := by
  simp only [V, hostOps0, List.flatten_cons, List.flatten_nil, List.append_nil, List.cons_append, List.nil_append]
  after_results_simp
  pointwise
  rfl
theorem Va_vn (r : Fin 256) (d : Fin 64) : (V m c main_v2 : Vec Ideal S256x64 .bf16) (ix2 r d) = (inp m c).vn ⟨r.val / 4, Nat.div_lt_of_lt_mul r.isLt⟩ ⟨r.val % 4, Nat.mod_lt _ (by norm_num)⟩ d := by
  simp only [V, hostOps0, List.flatten_cons, List.flatten_nil, List.append_nil, List.cons_append, List.nil_append]
  after_results_simp
  pointwise
  rfl
theorem Va_sk (r : Fin 1024) (d : Fin 64) : (V m c main_v3 : Vec Ideal S1024x64 .fp8e4m3) (ix2 r d) = (inp m c).sk ⟨r.val / 16, Nat.div_lt_of_lt_mul r.isLt⟩ ⟨r.val / 4 % 4, Nat.mod_lt _ (by norm_num)⟩ ⟨r.val % 4, Nat.mod_lt _ (by norm_num)⟩ d := by
  simp only [V, hostOps0, List.flatten_cons, List.flatten_nil, List.append_nil, List.cons_append, List.nil_append]
  after_results_simp
  pointwise
  rfl
theorem Va_sv (r : Fin 1024) (d : Fin 64) : (V m c main_v4 : Vec Ideal S1024x64 .fp8e4m3) (ix2 r d) = (inp m c).sv ⟨r.val / 16, Nat.div_lt_of_lt_mul r.isLt⟩ ⟨r.val / 4 % 4, Nat.mod_lt _ (by norm_num)⟩ ⟨r.val % 4, Nat.mod_lt _ (by norm_num)⟩ d := by
  simp only [V, hostOps0, List.flatten_cons, List.flatten_nil, List.append_nil, List.cons_append, List.nil_append]
  after_results_simp
  pointwise
  rfl
theorem Va_sks (t h : Fin 4) (b : Fin 64) : (V m c main_v5 : Vec Ideal S4x4x64 .f32) (ix3 t h b) = (inp m c).sks b t h := by
  simp only [V, hostOps0, List.flatten_cons, List.flatten_nil, List.append_nil, List.cons_append, List.nil_append]
  after_results_simp
  pointwise
  rfl
theorem Va_svs (t h : Fin 4) (b : Fin 64) : (V m c main_v6 : Vec Ideal S4x4x64 .f32) (ix3 t h b) = (inp m c).svs b t h := by
  simp only [V, hostOps0, List.flatten_cons, List.flatten_nil, List.append_nil, List.cons_append, List.nil_append]
  after_results_simp
  pointwise
  rfl
theorem Va_k (b : Fin 64) (r : Fin 256) (p : Fin 2048) : (V m c main_v8 : Vec Ideal S64x256x2048 .fp8e4m3) (ix3 b r p) = (inp m c).k b p ⟨r.val / 64, Nat.div_lt_of_lt_mul r.isLt⟩ ⟨r.val % 64, Nat.mod_lt _ (by norm_num)⟩ := by
  simp only [V, hostOps0, List.flatten_cons, List.flatten_nil, List.append_nil, List.cons_append, List.nil_append]
  after_results_simp
  pointwise
  rfl
theorem Va_v (b : Fin 64) (r : Fin 256) (p : Fin 2048) : (V m c main_v10 : Vec Ideal S64x256x2048 .fp8e4m3) (ix3 b r p) = (inp m c).v b p ⟨r.val / 64, Nat.div_lt_of_lt_mul r.isLt⟩ ⟨r.val % 64, Nat.mod_lt _ (by norm_num)⟩ := by
  simp only [V, hostOps0, List.flatten_cons, List.flatten_nil, List.append_nil, List.cons_append, List.nil_append]
  after_results_simp
  pointwise
  rfl
theorem Va_ks (b : Fin 64) (h : Fin 4) (p : Fin 2048) : (V m c main_v11 : Vec Ideal S64x4x2048 .f32) (ix3 b h p) = (inp m c).ks b p h := by
  simp only [V, hostOps0, List.flatten_cons, List.flatten_nil, List.append_nil, List.cons_append, List.nil_append]
  after_results_simp
  pointwise
  rfl
theorem Va_vs (b : Fin 64) (h : Fin 4) (p : Fin 2048) : (V m c main_v12 : Vec Ideal S64x4x2048 .f32) (ix3 b h p) = (inp m c).vs b p h := by
  simp only [V, hostOps0, List.flatten_cons, List.flatten_nil, List.append_nil, List.cons_append, List.nil_append]
  after_results_simp
  pointwise
  rfl
theorem Va_seen (b : Fin 64) : (V m c main_v13 : Vec Ideal S1x64 .i32) (ix2 0 b) = (inp m c).seen b := by
  simp only [V, hostOps0, List.flatten_cons, List.flatten_nil, List.append_nil, List.cons_append, List.nil_append]
  after_results_simp
  pointwise
  rfl

/-! ## The blocks of the input windows -/

theorem blk_q (t : Fin (cfgM m hO).N) : (iblk m hO c 0 t : Vec Ideal S1024x64 .bf16) = (V m c main_v0 : Vec Ideal S1024x64 .bf16) := by
  funext x
  exact congrArg (V m c main_v0) (funext fun a => Fin.ext (((cfgM m hO).win 0).rect_emb_val_of_index_zero t a (by fin_cases a <;> rfl) x))
theorem blk_kn (t : Fin (cfgM m hO).N) : (iblk m hO c 1 t : Vec Ideal S256x64 .bf16) = (V m c main_v1 : Vec Ideal S256x64 .bf16) := by
  funext x
  exact congrArg (V m c main_v1) (funext fun a => Fin.ext (((cfgM m hO).win 1).rect_emb_val_of_index_zero t a (by fin_cases a <;> rfl) x))
theorem blk_vn (t : Fin (cfgM m hO).N) : (iblk m hO c 2 t : Vec Ideal S256x64 .bf16) = (V m c main_v2 : Vec Ideal S256x64 .bf16) := by
  funext x
  exact congrArg (V m c main_v2) (funext fun a => Fin.ext (((cfgM m hO).win 2).rect_emb_val_of_index_zero t a (by fin_cases a <;> rfl) x))
theorem blk_sk (t : Fin (cfgM m hO).N) : (iblk m hO c 3 t : Vec Ideal S1024x64 .fp8e4m3) = (V m c main_v3 : Vec Ideal S1024x64 .fp8e4m3) := by
  funext x
  exact congrArg (V m c main_v3) (funext fun a => Fin.ext (((cfgM m hO).win 3).rect_emb_val_of_index_zero t a (by fin_cases a <;> rfl) x))
theorem blk_sks (t : Fin (cfgM m hO).N) : (iblk m hO c 4 t : Vec Ideal S4x4x64 .f32) = (V m c main_v5 : Vec Ideal S4x4x64 .f32) := by
  funext x
  exact congrArg (V m c main_v5) (funext fun a => Fin.ext (((cfgM m hO).win 4).rect_emb_val_of_index_zero t a (by fin_cases a <;> rfl) x))
theorem blk_sv (t : Fin (cfgM m hO).N) : (iblk m hO c 5 t : Vec Ideal S1024x64 .fp8e4m3) = (V m c main_v4 : Vec Ideal S1024x64 .fp8e4m3) := by
  funext x
  exact congrArg (V m c main_v4) (funext fun a => Fin.ext (((cfgM m hO).win 5).rect_emb_val_of_index_zero t a (by fin_cases a <;> rfl) x))
theorem blk_svs (t : Fin (cfgM m hO).N) : (iblk m hO c 6 t : Vec Ideal S4x4x64 .f32) = (V m c main_v6 : Vec Ideal S4x4x64 .f32) := by
  funext x
  exact congrArg (V m c main_v6) (funext fun a => Fin.ext (((cfgM m hO).win 6).rect_emb_val_of_index_zero t a (by fin_cases a <;> rfl) x))
theorem blk_seen (t : Fin (cfgM m hO).N) : (iblk m hO c 7 t : Vec Ideal S1x64 .i32) = (V m c main_v13 : Vec Ideal S1x64 .i32) := by
  funext x
  exact congrArg (V m c main_v13) (funext fun a => Fin.ext (((cfgM m hO).win 7).rect_emb_val_of_index_zero t a (by fin_cases a <;> rfl) x))
theorem row_index : ∀ i : grid0.Coords, (BitVec.ofNat 32 (i 0).val).toNat = (i 0).val := by decide +kernel
theorem blk_k (t : Fin (cfgM m hO).N) (r : Fin 256) (p : Fin 2048) :
    (iblk m hO c 8 t : Vec Ideal S1x256x2048 .fp8e4m3) (ix3 0 r p) = (V m c main_v8 : Vec Ideal S64x256x2048 .fp8e4m3) (ix3 (bt (grid0.coords t)) r p) := by
  have e : ∀ a : Fin 3, ((((cfgM m hO).win 8).rect t).emb (ix3 0 r p) a : Nat) = (ix3 (bt (grid0.coords t)) r p a).val := fun a => by
    refine (((cfgM m hO).win 8).rect_emb_val t (ix3 0 r p) a).trans ?_
    match a with
    | 0 => exact (congrArg (· * 1 + 0) (row_index (grid0.coords t))).trans (by show (grid0.coords t 0).val * 1 + 0 = (grid0.coords t 0).val; omega)
    | 1 => show 0 * _ + r.val = r.val; omega
    | 2 => show 0 * _ + p.val = p.val; omega
  exact congrArg (V m c main_v8) (funext fun a => Fin.ext (e a))
theorem blk_ks (t : Fin (cfgM m hO).N) (r : Fin 4) (p : Fin 2048) :
    (iblk m hO c 9 t : Vec Ideal S1x4x2048 .f32) (ix3 0 r p) = (V m c main_v11 : Vec Ideal S64x4x2048 .f32) (ix3 (bt (grid0.coords t)) r p) := by
  have e : ∀ a : Fin 3, ((((cfgM m hO).win 9).rect t).emb (ix3 0 r p) a : Nat) = (ix3 (bt (grid0.coords t)) r p a).val := fun a => by
    refine (((cfgM m hO).win 9).rect_emb_val t (ix3 0 r p) a).trans ?_
    match a with
    | 0 => exact (congrArg (· * 1 + 0) (row_index (grid0.coords t))).trans (by show (grid0.coords t 0).val * 1 + 0 = (grid0.coords t 0).val; omega)
    | 1 => show 0 * _ + r.val = r.val; omega
    | 2 => show 0 * _ + p.val = p.val; omega
  exact congrArg (V m c main_v11) (funext fun a => Fin.ext (e a))
theorem blk_v (t : Fin (cfgM m hO).N) (r : Fin 256) (p : Fin 2048) :
    (iblk m hO c 10 t : Vec Ideal S1x256x2048 .fp8e4m3) (ix3 0 r p) = (V m c main_v10 : Vec Ideal S64x256x2048 .fp8e4m3) (ix3 (bt (grid0.coords t)) r p) := by
  have e : ∀ a : Fin 3, ((((cfgM m hO).win 10).rect t).emb (ix3 0 r p) a : Nat) = (ix3 (bt (grid0.coords t)) r p a).val := fun a => by
    refine (((cfgM m hO).win 10).rect_emb_val t (ix3 0 r p) a).trans ?_
    match a with
    | 0 => exact (congrArg (· * 1 + 0) (row_index (grid0.coords t))).trans (by show (grid0.coords t 0).val * 1 + 0 = (grid0.coords t 0).val; omega)
    | 1 => show 0 * _ + r.val = r.val; omega
    | 2 => show 0 * _ + p.val = p.val; omega
  exact congrArg (V m c main_v10) (funext fun a => Fin.ext (e a))
theorem blk_vs (t : Fin (cfgM m hO).N) (r : Fin 4) (p : Fin 2048) :
    (iblk m hO c 11 t : Vec Ideal S1x4x2048 .f32) (ix3 0 r p) = (V m c main_v12 : Vec Ideal S64x4x2048 .f32) (ix3 (bt (grid0.coords t)) r p) := by
  have e : ∀ a : Fin 3, ((((cfgM m hO).win 11).rect t).emb (ix3 0 r p) a : Nat) = (ix3 (bt (grid0.coords t)) r p a).val := fun a => by
    refine (((cfgM m hO).win 11).rect_emb_val t (ix3 0 r p) a).trans ?_
    match a with
    | 0 => exact (congrArg (· * 1 + 0) (row_index (grid0.coords t))).trans (by show (grid0.coords t 0).val * 1 + 0 = (grid0.coords t 0).val; omega)
    | 1 => show 0 * _ + r.val = r.val; omega
    | 2 => show 0 * _ + p.val = p.val; omega
  exact congrArg (V m c main_v12) (funext fun a => Fin.ext (e a))

theorem off4_0 : ∀ i : grid0.Coords, k0_off4 i 0 + 0 = (i 0).val := by decide +kernel
/-- The word of the table at a point is the number of tokens its sequence has seen. -/
theorem word_seen (t : Fin (cfgM m hO).N) : tWord c (grid0.coords t) (tbl m 0) = (inp m c).seen (bt (grid0.coords t)) := by
  obtain rfl : c = 0 := Subsingleton.elim _ _
  have e : tbl m 0 = m (((0 : Dev nD).tc : Thread nD τ).loc main_arg11) := V_main_arg11 m 0
  rw [e]
  unfold tWord
  exact congrArg (m (((0 : Dev nD).tc : Thread nD τ).loc main_arg11)) (funext fun a => Fin.ext (by fin_cases a; exact off4_0 _))

/-! ## The arrays the region leaves -/

/-- The last grid point. -/
def pL : Fin (cfgM m hO).N := ⟨63, by rw [show (cfgM m hO).N = 64 from N_0]; decide⟩
theorem final_12 : ((dats m hO 0 c).arrAt 12 (cfgM m hO).N : Vec Ideal S64x1024 .bf16) = outA m hO c := by
  have hw : ((cfgM m hO).win 12).WholeAt (pL m hO) := ⟨(flush_at_12 m hO _).mpr rfl,
    fun t h => Fin.ext (by have := (flush_at_12 m hO t).mp h; have : t.val < 64 := Nat.lt_of_lt_of_eq t.isLt N_0; show t.val = 63; omega), fun a => by fin_cases a <;> exact ⟨rfl, rfl⟩⟩
  funext j
  refine ((dats m hO 0 c).arrAt_emb_eq_after_last 12 (pL m hO) hw j).trans ?_
  exact congrFun (after0_12 m hO c (pL m hO)) _
theorem final_13 : ((dats m hO 0 c).arrAt 13 (cfgM m hO).N : Vec Ideal S256x64 .fp8e4m3) = kncV (iblk m hO c 1 (p0 m hO)) := by
  have hw : ((cfgM m hO).win 13).WholeAt (pL m hO) := ⟨(flush_at_13 m hO _).mpr rfl,
    fun t h => Fin.ext (by have := (flush_at_13 m hO t).mp h; have : t.val < 64 := Nat.lt_of_lt_of_eq t.isLt N_0; show t.val = 63; omega), fun a => by fin_cases a <;> exact ⟨rfl, rfl⟩⟩
  funext j
  refine ((dats m hO 0 c).arrAt_emb_eq_after_last 13 (pL m hO) hw j).trans ?_
  exact congrFun (after0_13 m hO c (pL m hO)) _
theorem final_14 : ((dats m hO 0 c).arrAt 14 (cfgM m hO).N : Vec Ideal S4x64 .f32) = knsV (iblk m hO c 1 (p0 m hO)) (iblk m hO c 4 (p0 m hO)) := by
  have hw : ((cfgM m hO).win 14).WholeAt (pL m hO) := ⟨(flush_at_14 m hO _).mpr rfl,
    fun t h => Fin.ext (by have := (flush_at_14 m hO t).mp h; have : t.val < 64 := Nat.lt_of_lt_of_eq t.isLt N_0; show t.val = 63; omega), fun a => by fin_cases a <;> exact ⟨rfl, rfl⟩⟩
  funext j
  refine ((dats m hO 0 c).arrAt_emb_eq_after_last 14 (pL m hO) hw j).trans ?_
  exact congrFun (after0_14 m hO c (pL m hO)) _
theorem final_15 : ((dats m hO 0 c).arrAt 15 (cfgM m hO).N : Vec Ideal S256x64 .fp8e4m3) = vncV (iblk m hO c 2 (p0 m hO)) := by
  have hw : ((cfgM m hO).win 15).WholeAt (pL m hO) := ⟨(flush_at_15 m hO _).mpr rfl,
    fun t h => Fin.ext (by have := (flush_at_15 m hO t).mp h; have : t.val < 64 := Nat.lt_of_lt_of_eq t.isLt N_0; show t.val = 63; omega), fun a => by fin_cases a <;> exact ⟨rfl, rfl⟩⟩
  funext j
  refine ((dats m hO 0 c).arrAt_emb_eq_after_last 15 (pL m hO) hw j).trans ?_
  exact congrFun (after0_15 m hO c (pL m hO)) _
theorem final_16 : ((dats m hO 0 c).arrAt 16 (cfgM m hO).N : Vec Ideal S4x64 .f32) = vnsV (iblk m hO c 1 (p0 m hO)) (iblk m hO c 2 (p0 m hO)) (iblk m hO c 4 (p0 m hO)) (iblk m hO c 6 (p0 m hO)) := by
  have hw : ((cfgM m hO).win 16).WholeAt (pL m hO) := ⟨(flush_at_16 m hO _).mpr rfl,
    fun t h => Fin.ext (by have := (flush_at_16 m hO t).mp h; have : t.val < 64 := Nat.lt_of_lt_of_eq t.isLt N_0; show t.val = 63; omega), fun a => by fin_cases a <;> exact ⟨rfl, rfl⟩⟩
  funext j
  refine ((dats m hO 0 c).arrAt_emb_eq_after_last 16 (pL m hO) hw j).trans ?_
  exact congrFun (after0_16 m hO c (pL m hO)) _
theorem final_17 : ((dats m hO 0 c).arrAt 17 (cfgM m hO).N : Vec Ideal S1x64 .i32) = k0_pay7 (F := Ideal) (iblk m hO c 7 (p0 m hO)) := by
  have hw : ((cfgM m hO).win 17).WholeAt (pL m hO) := ⟨(flush_at_17 m hO _).mpr rfl,
    fun t h => Fin.ext (by have := (flush_at_17 m hO t).mp h; have : t.val < 64 := Nat.lt_of_lt_of_eq t.isLt N_0; show t.val = 63; omega), fun a => by fin_cases a <;> exact ⟨rfl, rfl⟩⟩
  funext j
  refine ((dats m hO 0 c).arrAt_emb_eq_after_last 17 (pL m hO) hw j).trans ?_
  exact congrFun (after0_17 m hO c (pL m hO)) _
theorem final_18 : ((dats m hO 0 c).arrAt 18 (cfgM m hO).N : Vec Ideal S1x64 .i32) = k0_pay8 (F := Ideal) (iblk m hO c 7 (p0 m hO)) := by
  have hw : ((cfgM m hO).win 18).WholeAt (pL m hO) := ⟨(flush_at_18 m hO _).mpr rfl,
    fun t h => Fin.ext (by have := (flush_at_18 m hO t).mp h; have : t.val < 64 := Nat.lt_of_lt_of_eq t.isLt N_0; show t.val = 63; omega), fun a => by fin_cases a <;> exact ⟨rfl, rfl⟩⟩
  funext j
  refine ((dats m hO 0 c).arrAt_emb_eq_after_last 18 (pL m hO) hw j).trans ?_
  exact congrFun (after0_18 m hO c (pL m hO)) _

end Cert.KernelIdeal.Gen

end
-- ==== Proof.KQuant.lean ====
module

public import proofs.«01_k».proof.Proof.Named
public import proofs.«01_k».proof.Proof.KTile
public import proofs.«01_k».proof.Proof.Quant
public import proofs.«01_k».proof.Proof.Spec
public import Idealize.ShloMosaic.Lib.Pipeline.ValueKit

@[expose] public section

set_option maxRecDepth 16384

/-! # What the first grid point leaves, entry by entry -/

noncomputable section

namespace Cert.KernelIdeal.Gen

open Idealize.ShloMosaic Cert.Proof

/-! ## The codes and the scales of the new tokens -/

theorem sckV_apply (kn : Vec Ideal S256x64 .bf16) (r : Fin 256) (l : Fin 128) : sckV kn (ix2 r l) = kScale (amx (fun x => kn (ix2 r x)) * c448) := by
  pointwise [sckV, k0_pay16, k0_pay9, k0_pay10, k0_pay11, k0_pay12, k0_pay13, k0_pay14]
  rfl
theorem scvV_apply (vn : Vec Ideal S256x64 .bf16) (r : Fin 256) (l : Fin 128) : scvV vn (ix2 r l) = kScale (amx (fun x => vn (ix2 r x)) * c448) := by
  pointwise [scvV, k0_pay33, k0_pay30, k0_pay31]
  rfl
theorem kncV_apply (kn : Vec Ideal S256x64 .bf16) (r : Fin 256) (d : Fin 64) : kncV kn (ix2 r d) = kCode (amx (fun x => kn (ix2 r x)) * c448) (kn (ix2 r d)) := by
  pointwise [kncV, k0_pay15, k0_pay9, k0_pay10, k0_pay11, k0_pay12, k0_pay13, k0_pay14]
  rfl
theorem vncV_apply (vn : Vec Ideal S256x64 .bf16) (r : Fin 256) (d : Fin 64) : vncV vn (ix2 r d) = kCode (amx (fun x => vn (ix2 r x)) * c448) (vn (ix2 r d)) := by
  pointwise [vncV, k0_pay32, k0_pay30, k0_pay31]
  rfl
/-- The codes held for the scores are the codes; -/
theorem nkbV_apply (kn : Vec Ideal S256x64 .bf16) (r : Fin 256) (d : Fin 64) : nkbV kn (ix2 r d) = kncV kn (ix2 r d) := by
  pointwise [nkbV, k0_pay17]
  rfl
/-- those of the values are held twice. -/
theorem nvbV_apply (vn : Vec Ideal S256x64 .bf16) (r : Fin 256) (l : Fin 128) : nvbV vn (ix2 r l) = vncV vn (ix2 r (⟨l.val % 64, by omega⟩ : Fin 64)) := by
  pointwise [nvbV, k0_pay34]
  unfold vncV
  split_ifs with h <;> exact congrArg (fun x => k0_pay32 vn (ix2 r x)) (Fin.ext (by dsimp only; omega))
/-- The sink keys, -/
theorem skbV_apply (sk : Vec Ideal S1024x64 .fp8e4m3) (r : Fin 1024) (d : Fin 64) : skbV sk (ix2 r d) = sk (ix2 r d) := by
  pointwise [skbV, k0_pay48]
/-- and the sink values, held twice. -/
theorem svbV_apply (sv : Vec Ideal S1024x64 .fp8e4m3) (r : Fin 1024) (l : Fin 128) : svbV sv (ix2 r l) = sv (ix2 r (⟨l.val % 64, by omega⟩ : Fin 64)) := by
  pointwise [svbV, k0_pay56, k0_pay49]
  split_ifs with h <;> exact congrArg (fun x => sv (ix2 r x)) (Fin.ext (by dsimp only; omega))

/-! ## The scales in the lanes -/

/-- Lane `l` of a row of scales: below 16 the sinks', from 16 to 31 those of the row's own head. -/
theorem lane_words : ∀ l : Fin 128,
    (IntOp.cmpi CmpIPredicate.slt (BitVec.ofNat 32 l.val) 16#32 = 1#1 ↔ l.val < 16) ∧ (IntOp.cmpi CmpIPredicate.slt (BitVec.ofNat 32 l.val) 32#32 = 1#1 ↔ l.val < 32)
    ∧ (IntOp.cmpi CmpIPredicate.eq (IntOp.andi (BitVec.ofNat 32 l.val) 3#32) 3#32 = 1#1 ↔ l.val % 4 = 3)
    ∧ (IntOp.cmpi CmpIPredicate.eq (IntOp.andi (BitVec.ofNat 32 l.val) 3#32) 2#32 = 1#1 ↔ l.val % 4 = 2)
    ∧ (IntOp.cmpi CmpIPredicate.eq (IntOp.andi (BitVec.ofNat 32 l.val) 3#32) 1#32 = 1#1 ↔ l.val % 4 = 1)
    ∧ (IntOp.cmpi CmpIPredicate.eq (IntOp.andi (BitVec.ofNat 32 l.val) 3#32) 0#32 = 1#1 ↔ l.val % 4 = 0)
    ∧ (IntOp.cmpi CmpIPredicate.slt (BitVec.ofNat 32 l.val) 64#32 = 1#1 ↔ l.val < 64) := by decide +kernel

/-- The choice among the four heads' scales and the sinks'. -/
theorem lane_pick (l : Fin 128) (C h0 h1 h2 h3 z : EReal) :
    Scalar.select (IntOp.cmpi CmpIPredicate.slt (BitVec.ofNat 32 l.val) 16#32) C
      (Scalar.select (IntOp.cmpi CmpIPredicate.slt (BitVec.ofNat 32 l.val) 32#32)
        (Scalar.select (IntOp.cmpi CmpIPredicate.eq (IntOp.andi (BitVec.ofNat 32 l.val) 3#32) 3#32) h3
          (Scalar.select (IntOp.cmpi CmpIPredicate.eq (IntOp.andi (BitVec.ofNat 32 l.val) 3#32) 2#32) h2
            (Scalar.select (IntOp.cmpi CmpIPredicate.eq (IntOp.andi (BitVec.ofNat 32 l.val) 3#32) 1#32) h1
              (Scalar.select (IntOp.cmpi CmpIPredicate.eq (IntOp.andi (BitVec.ofNat 32 l.val) 3#32) 0#32) h0 z)))) z)
    = if l.val < 16 then C else if l.val < 32 then (if l.val % 4 = 3 then h3 else if l.val % 4 = 2 then h2 else if l.val % 4 = 1 then h1 else h0) else z := by
  obtain ⟨w16, w32, e3, e2, e1, e0, -⟩ := lane_words l
  rw [select_iff _ _ w16, select_iff _ _ w32, select_iff _ _ e3, select_iff _ _ e2, select_iff _ _ e1, select_iff _ _ e0]
  split_ifs <;> first | rfl | omega

section
variable (C : Vec Ideal S128x128 .f32) (h0 h1 h2 h3 : Vec Ideal S64x128 .f32) (b : Fin 64) (l : Fin 128)

/-- A row of the keys' scales, -/
theorem pay27_apply : k0_pay27 (k0_pay24 C) (iota .tc S64x128 32 [1] iota_S64x128_d1_w32) (k0_pay25 h0) h1 3#32 h2 h3 (ix2 b l) =
    if l.val < 16 then C (ix2 l (⟨b.val, by omega⟩ : Fin 128)) else if l.val < 32 then (if l.val % 4 = 3 then h3 (ix2 b l) else if l.val % 4 = 2 then h2 (ix2 b l) else if l.val % 4 = 1 then h1 (ix2 b l) else h0 (ix2 b l)) else 0 := by
  refine Eq.trans ?_ (lane_pick l (C (ix2 l (⟨b.val, by omega⟩ : Fin 128))) (h0 (ix2 b l)) (h1 (ix2 b l)) (h2 (ix2 b l)) (h3 (ix2 b l)) 0)
  pointwise [k0_pay27, k0_pay24, k0_pay25, k0_pay26]
theorem pay28_apply : k0_pay28 (k0_pay24 C) (iota .tc S64x128 32 [1] iota_S64x128_d1_w32) (k0_pay25 h0) h1 3#32 h2 h3 (ix2 b l) =
    k0_pay27 (k0_pay24 C) (iota .tc S64x128 32 [1] iota_S64x128_d1_w32) (k0_pay25 h0) h1 3#32 h2 h3 (ix2 b l) := by
  pointwise [k0_pay28, k0_pay27]
/-- and of the values'. -/
theorem pay45_apply : k0_pay45 (k0_pay41 C) (iota .tc S64x128 32 [1] iota_S64x128_d1_w32) (k0_pay42 h0 h1 h2) h3 k0_pay43 3#32 (ix2 b l) =
    if l.val < 16 then C (ix2 l (⟨b.val, by omega⟩ : Fin 128)) else if l.val < 32 then (if l.val % 4 = 3 then h3 (ix2 b l) else if l.val % 4 = 2 then h2 (ix2 b l) else if l.val % 4 = 1 then h1 (ix2 b l) else h0 (ix2 b l)) else 0 := by
  refine Eq.trans ?_ (lane_pick l (C (ix2 l (⟨b.val, by omega⟩ : Fin 128))) (h0 (ix2 b l)) (h1 (ix2 b l)) (h2 (ix2 b l)) (h3 (ix2 b l)) 0)
  pointwise [k0_pay45, k0_pay41, k0_pay42, k0_pay43, k0_pay44]
theorem pay46_apply : k0_pay46 (k0_pay41 C) (iota .tc S64x128 32 [1] iota_S64x128_d1_w32) (k0_pay42 h0 h1 h2) h3 k0_pay43 3#32 (ix2 b l) =
    k0_pay45 (k0_pay41 C) (iota .tc S64x128 32 [1] iota_S64x128_d1_w32) (k0_pay42 h0 h1 h2) h3 k0_pay43 3#32 (ix2 b l) := by
  pointwise [k0_pay46, k0_pay45]
end

/-- The rows of one head, entry by entry. -/
theorem headRows_apply (h : ℕ) (hh : h < 4) (inb) (X : Vec Ideal S256x128 .f32) (b : Fin 64) (l : Fin 128) :
    headRows h inb X (ix2 b l) = X (ix2 (⟨4 * b.val + h, by omega⟩ : Fin 256) l) := by
  refine congrArg X (funext fun a => Fin.ext ?_)
  match a with
  | 0 => show h + 4 * b.val = _; show _ = 4 * b.val + h; omega
  | 1 => show 0 + 1 * l.val = l.val; omega

/-- The own-head choice of equal rows. -/
theorem pick_rows (X : Vec Ideal S256x128 .f32) (b : Fin 64) (l : Fin 128) :
    (if l.val % 4 = 3 then headRows 3 (by decide) X (ix2 b l) else if l.val % 4 = 2 then headRows 2 (by decide) X (ix2 b l) else if l.val % 4 = 1 then headRows 1 (by decide) X (ix2 b l) else headRows 0 (by decide) X (ix2 b l))
    = X (ix2 (⟨4 * b.val + l.val % 4, by omega⟩ : Fin 256) l) := by
  rw [headRows_apply 0 (by norm_num), headRows_apply 1 (by norm_num), headRows_apply 2 (by norm_num), headRows_apply 3 (by norm_num)]
  split_ifs <;> exact congrArg (fun x => X (ix2 x l)) (Fin.ext (by dsimp only; omega))

/-- A store of four rows from row `o`: at row `o + h` it is what was stored, -/
theorem canon_row (o : ℕ) (inb) (w : Vec Ideal S4x64 .f32) (L : List (View.Piece (Elt Ideal) S128x128 .f32)) (h : Fin 4) (b : Fin 64) (r : Fin 128) (hr : r.val = o + h.val) :
    View.canon (⟨Rect.unit (s := S128x128) ![o, 0] S4x64.size inb, w⟩ :: L) (ix2 r (⟨b.val, by omega⟩ : Fin 128)) = w (ix2 h b) := by
  have e : (ix2 r (⟨b.val, by omega⟩ : Fin 128) : S128x128.Idx) = (Rect.unit (s := S128x128) ![o, 0] S4x64.size inb).emb (ix2 h b) := by
    funext a
    refine Fin.ext ?_
    match a with
    | 0 => show r.val = o + 1 * h.val; omega
    | 1 => show b.val = 0 + 1 * b.val; omega
  rw [e]
  exact View.canon_cons_emb _ _ _ _
/-- and off these rows what was there. -/
theorem canon_off (o : ℕ) (inb) (w : Vec Ideal S4x64 .f32) (L : List (View.Piece (Elt Ideal) S128x128 .f32)) (r x : Fin 128) (hr : r.val < o) :
    View.canon (⟨Rect.unit (s := S128x128) ![o, 0] S4x64.size inb, w⟩ :: L) (ix2 r x) = View.canon L (ix2 r x) := by
  refine View.canon_cons_of_not_mem _ _ fun hm => ?_
  obtain ⟨j, -, e⟩ := (LoadRect.mem_set _).mp hm (0 : Fin 2)
  have e0 : r.val = o + 1 * j := e
  omega

/-- The sinks' scales after the four stores. -/
theorem canon_sinks (w0 w1 w2 w3 : Vec Ideal S4x64 .f32) (L : List (View.Piece (Elt Ideal) S128x128 .f32)) (t h : Fin 4) (b : Fin 64) (r : Fin 128) (hr : r.val = 4 * t.val + h.val) (i0 i1 i2 i3) :
    View.canon (⟨Rect.unit (s := S128x128) ![12, 0] S4x64.size i3, w3⟩ :: ⟨Rect.unit (s := S128x128) ![8, 0] S4x64.size i2, w2⟩ :: ⟨Rect.unit (s := S128x128) ![4, 0] S4x64.size i1, w1⟩ ::
      ⟨Rect.unit (s := S128x128) ![0, 0] S4x64.size i0, w0⟩ :: L) (ix2 r (⟨b.val, by omega⟩ : Fin 128)) = (match t with | 0 => w0 | 1 => w1 | 2 => w2 | 3 => w3) (ix2 h b) := by
  match t with
  | 0 => rw [canon_off _ _ _ _ _ _ (by simp at hr; omega), canon_off _ _ _ _ _ _ (by simp at hr; omega), canon_off _ _ _ _ _ _ (by simp at hr; omega)]; exact canon_row _ _ _ _ h b r (by simpa using hr)
  | 1 => rw [canon_off _ _ _ _ _ _ (by simp at hr; omega), canon_off _ _ _ _ _ _ (by simp at hr; omega)]; exact canon_row _ _ _ _ h b r (by simpa using hr)
  | 2 => rw [canon_off _ _ _ _ _ _ (by simp at hr; omega)]; exact canon_row _ _ _ _ h b r (by simpa using hr)
  | 3 => exact canon_row _ _ _ _ h b r (by simpa using hr)

/-- The plane `t` of the sinks' scales. -/
theorem plane (t : ℕ) (ht : t < 4) (inb) (s : Vec Ideal S4x4x64 .f32) (h : Fin 4) (b : Fin 64) :
    View.ld s (Rect.unit (s := S4x4x64) ![t, 0, 0] S1x4x64.size inb) (ix3 (0 : Fin 1) h b) = s (ix3 (⟨t, ht⟩ : Fin 4) h b) := by
  refine congrArg s (funext fun a => Fin.ext ?_)
  match a with
  | 0 => show t + 1 * 0 = t; omega
  | 1 => show 0 + 1 * h.val = h.val; omega
  | 2 => show 0 + 1 * b.val = b.val; omega

section
variable (kn vn : Vec Ideal S256x64 .bf16) (sks svs : Vec Ideal S4x4x64 .f32)

theorem trkL_apply (t h : Fin 4) (b : Fin 64) (r : Fin 128) (hr : r.val = 4 * t.val + h.val) : View.canon (trkL sks) (ix2 r (⟨b.val, by omega⟩ : Fin 128)) = sks (ix3 t h b) := by
  refine (canon_sinks _ _ _ _ _ t h b r hr _ _ _ _).trans ?_
  match t with
  | 0 => pointwise [k0_pay20, k0_pay19]
  | 1 => pointwise [k0_pay21]
  | 2 => pointwise [k0_pay22]
  | 3 => pointwise [k0_pay23]
theorem trvL_apply (t h : Fin 4) (b : Fin 64) (r : Fin 128) (hr : r.val = 4 * t.val + h.val) : View.canon (trvL kn sks svs) (ix2 r (⟨b.val, by omega⟩ : Fin 128)) = svs (ix3 t h b) := by
  refine (canon_sinks _ _ _ _ _ t h b r hr _ _ _ _).trans ?_
  match t with
  | 0 => pointwise [k0_pay36]
  | 1 => pointwise [k0_pay37]
  | 2 => pointwise [k0_pay39, k0_pay38]
  | 3 => pointwise [k0_pay40]

/-- Lane `4 t + h` of the keys' scales is the scale of sink token `t`, head `h`; -/
theorem kscV_sink (t h : Fin 4) (b : Fin 64) (l : Fin 128) (hl : l.val = 4 * t.val + h.val) : kscV kn sks (ix2 b l) = sks (ix3 t h b) := by
  unfold kscV
  refine (pay27_apply _ _ _ _ _ b l).trans ?_
  rw [if_pos (by omega)]
  exact trkL_apply sks t h b l hl
/-- a lane from 16 to 31 is the new scale of its head. -/
theorem kscV_new (b : Fin 64) (l : Fin 128) (h16 : 16 ≤ l.val) (h32 : l.val < 32) : kscV kn sks (ix2 b l) = sckV kn (ix2 (⟨4 * b.val + l.val % 4, by omega⟩ : Fin 256) l) := by
  unfold kscV
  refine (pay27_apply _ _ _ _ _ b l).trans ?_
  rw [if_neg (by omega), if_pos h32]
  exact pick_rows _ b l
theorem vscV_sink (t h : Fin 4) (b : Fin 64) (l : Fin 128) (hl : l.val = 4 * t.val + h.val) : vscV kn vn sks svs (ix2 b l) = svs (ix3 t h b) := by
  unfold vscV
  refine (pay45_apply _ _ _ _ _ b l).trans ?_
  rw [if_pos (by omega)]
  exact trvL_apply kn sks svs t h b l hl
theorem vscV_new (b : Fin 64) (l : Fin 128) (h16 : 16 ≤ l.val) (h32 : l.val < 32) : vscV kn vn sks svs (ix2 b l) = scvV vn (ix2 (⟨4 * b.val + l.val % 4, by omega⟩ : Fin 256) l) := by
  unfold vscV
  refine (pay45_apply _ _ _ _ _ b l).trans ?_
  rw [if_neg (by omega), if_pos h32]
  exact pick_rows _ b l

/-- The store of the finished rows, read back. -/
theorem canon_rows (w : Vec Ideal S64x128 .f32) (L : List (View.Piece (Elt Ideal) S128x128 .f32)) (inb) (b : Fin 64) (l : Fin 128) (b' : Fin 128) (hb : b'.val = b.val) :
    View.canon (⟨Rect.unit (s := S128x128) ![0, 0] S64x128.size inb, w⟩ :: L) (ix2 b' l) = w (ix2 b l) := by
  have e : (ix2 b' l : S128x128.Idx) = (Rect.unit (s := S128x128) ![0, 0] S64x128.size inb).emb (ix2 b l) := by
    funext a
    refine Fin.ext ?_
    match a with
    | 0 => show b'.val = 0 + 1 * b.val; omega
    | 1 => show l.val = 0 + 1 * l.val; omega
  rw [e]
  exact View.canon_cons_emb _ _ _ _

/-- The new scales, transposed. -/
theorem knsV_apply (h : Fin 4) (b : Fin 64) : knsV kn sks (ix2 h b) = sckV kn (ix2 (⟨4 * b.val + h.val, by omega⟩ : Fin 256) (⟨16 + h.val, by omega⟩ : Fin 128)) := by
  have e : knsV kn sks (ix2 h b) = View.canon (trkL' kn sks) (ix2 (⟨b.val, by omega⟩ : Fin 128) (⟨16 + h.val, by omega⟩ : Fin 128)) := by
    unfold knsV; pointwise [k0_pay29]
  refine e.trans ((canon_rows _ _ _ b _ _ rfl).trans ?_)
  refine (pay28_apply _ _ _ _ _ b _).trans ((kscV_new kn sks b _ (by dsimp only; omega) (by dsimp only; omega)).trans ?_)
  exact congrArg (fun x => sckV kn (ix2 x _)) (Fin.ext (by dsimp only; omega))
theorem vnsV_apply (h : Fin 4) (b : Fin 64) : vnsV kn vn sks svs (ix2 h b) = scvV vn (ix2 (⟨4 * b.val + h.val, by omega⟩ : Fin 256) (⟨16 + h.val, by omega⟩ : Fin 128)) := by
  have e : vnsV kn vn sks svs (ix2 h b) = View.canon (trvL' kn vn sks svs) (ix2 (⟨b.val, by omega⟩ : Fin 128) (⟨16 + h.val, by omega⟩ : Fin 128)) := by
    unfold vnsV; pointwise [k0_pay47]
  refine e.trans ((canon_rows _ _ _ b _ _ rfl).trans ?_)
  refine (pay46_apply _ _ _ _ _ b _).trans ((vscV_new kn vn sks svs b _ (by dsimp only; omega) (by dsimp only; omega)).trans ?_)
  exact congrArg (fun x => scvV vn (ix2 x _)) (Fin.ext (by dsimp only; omega))
end

/-! ## The slots and the next counts -/

theorem slots_apply (s : Vec Ideal S1x64 .i32) (b : Fin 64) : k0_pay7 (F := Ideal) s (ix2 0 b) = IntOp.andi (IntOp.subi (s (ix2 0 b)) 4#32) 2047#32 := by
  pointwise [k0_pay7, k0_pay6]
theorem nexts_apply (s : Vec Ideal S1x64 .i32) (b : Fin 64) : k0_pay8 (F := Ideal) s (ix2 0 b) = IntOp.addi (s (ix2 0 b)) 1#32 := by
  pointwise [k0_pay8, k0_pay6]

end Cert.KernelIdeal.Gen

end
-- ==== Proof.KOut.lean ====
module

public import proofs.«01_k».proof.Proof.KArr
public import proofs.«01_k».proof.Proof.KQuant

@[expose] public section

set_option maxRecDepth 16384

/-! # The kernel's attention result, entry by entry -/

noncomputable section

namespace Cert.KernelIdeal.Gen

open Idealize.ShloMosaic Idealize.ShloMosaic.TcCoe Idealize.SL.Sem Cert.Proof

/-! ## The result from the collected rows -/

/-- Entry `(b, x)` of the result is lane `x % 128` of the collected row of head `x / 64` of sequence `b`. -/
def outG (X : Vec Ideal S1024x128 .f32) (y : S64x1024.Idx) : EReal :=
  X (ix2 (⟨16 * (y 0).val + (y 1).val / 64, by have h0 : (y 0).val < 64 := (y 0).isLt; have h1 : (y 1).val < 1024 := (y 1).isLt; omega⟩ : Fin 1024)
    (⟨(y 1).val % 128, Nat.mod_lt _ (by norm_num)⟩ : Fin 128))

theorem half_lane (b : Fin 64) (l : Fin 128) : k0_pay50 (ix2 b l) = IntOp.cmpi CmpIPredicate.slt (BitVec.ofNat 32 l.val) 64#32 := by
  pointwise [k0_pay50]

theorem piece_apply (X : Vec Ideal S1024x128 .f32) (o r r' : ℕ) (ho : o = 64 * r) (hr : r % 2 = 0) (hr' : r' = r + 1) (i0 i1) (inb)
    (w : Vec Ideal S64x128 .bf16) (hw : w = fun y => Scalar.select (k0_pay50 y) (qRows r i0 X y) (qRows r' i1 X y)) (y : S64x128.Idx) :
    w y = outG X ((Rect.unit (s := S64x1024) ![0, o] S64x128.size inb).emb y) := by
  have hl : (y 1).val < 128 := (y 1).isLt
  have hb : (y 0).val < 64 := (y 0).isLt
  rw [hw]
  have hy : y = ix2 (y 0 : Fin 64) (y 1 : Fin 128) := funext fun a => match a with | 0 => rfl | 1 => rfl
  have hm : k0_pay50 y = IntOp.cmpi CmpIPredicate.slt (BitVec.ofNat 32 (y 1).val) 64#32 := by
    rw [hy]
    exact half_lane (y 0) (y 1)
  dsimp only
  rw [hm]
  refine (select_iff _ ((y 1).val < 64) (lane_words (y 1)).2.2.2.2.2.2 (qRows r i0 X y) (qRows r' i1 X y)).trans ?_
  unfold outG qRows
  split_ifs with h
  · refine congrArg X (funext fun a => Fin.ext ?_)
    match a with
    | 0 => show r + 16 * (y 0).val = 16 * (0 + 1 * (y 0).val) + (o + 1 * (y 1).val) / 64; omega
    | 1 => show 0 + 1 * (y 1).val = (o + 1 * (y 1).val) % 128; omega
  · refine congrArg X (funext fun a => Fin.ext ?_)
    match a with
    | 0 => show r' + 16 * (y 0).val = 16 * (0 + 1 * (y 0).val) + (o + 1 * (y 1).val) / 64; omega
    | 1 => show 0 + 1 * (y 1).val = (o + 1 * (y 1).val) % 128; omega

theorem canon_outL (X : Vec Ideal S1024x128 .f32) (y : S64x1024.Idx) : View.canon (outL X) y = outG X y := by
  refine View.canon_apply_of_pieces (outG X) (outL X) ?_ y (View.cover_of_tiled (outL X) ![64, 128] (by rfl) y)
  intro p hp
  unfold outL at hp
  rcases List.mem_cons.mp hp with rfl | hp
  · exact piece_apply X 896 14 15 rfl rfl rfl _ _ inb_S64x1024_S64x128_0_896 _ rfl
  rcases List.mem_cons.mp hp with rfl | hp
  · exact piece_apply X 768 12 13 rfl rfl rfl _ _ inb_S64x1024_S64x128_0_768 _ rfl
  rcases List.mem_cons.mp hp with rfl | hp
  · exact piece_apply X 640 10 11 rfl rfl rfl _ _ inb_S64x1024_S64x128_0_640 _ rfl
  rcases List.mem_cons.mp hp with rfl | hp
  · exact piece_apply X 512 8 9 rfl rfl rfl _ _ inb_S64x1024_S64x128_0_512 _ rfl
  rcases List.mem_cons.mp hp with rfl | hp
  · exact piece_apply X 384 6 7 rfl rfl rfl _ _ inb_S64x1024_S64x128_0_384 _ rfl
  rcases List.mem_cons.mp hp with rfl | hp
  · exact piece_apply X 256 4 5 rfl rfl rfl _ _ inb_S64x1024_S64x128_0_256 _ rfl
  rcases List.mem_cons.mp hp with rfl | hp
  · exact piece_apply X 128 2 3 rfl rfl rfl _ _ inb_S64x1024_S64x128_0_128 _ rfl
  rcases List.mem_cons.mp hp with rfl | hp
  · exact piece_apply X 0 0 1 rfl rfl rfl _ _ inb_S64x1024_S64x128_0_0 _ rfl
  nomatch hp

/-! ## One head's attention -/

theorem attend_congr {sS sS' wS wS' vS vS' : Fin 4 → EReal} {sR sR' wR wR' vR vR' : Fin 2048 → EReal} {sN sN' wN wN' vN vN' : EReal}
    (h1 : ∀ t, sS t = sS' t) (h2 : ∀ t, wS t = wS' t) (h3 : ∀ t, vS t = vS' t) (h4 : ∀ p, sR p = sR' p) (h5 : ∀ p, wR p = wR' p) (h6 : ∀ p, vR p = vR' p)
    (h7 : sN = sN') (h8 : wN = wN') (h9 : vN = vN') : attend sS wS vS sR wR vR sN wN vN = attend sS' wS' vS' sR' wR' vR' sN' wN' vN' := by
  rw [funext h1, funext h2, funext h3, funext h4, funext h5, funext h6, h7, h8, h9]

theorem score_congr {q q' k k' : Fin 64 → EReal} {w w' : EReal} (h1 : ∀ d, q d = q' d) (h2 : ∀ d, k d = k' d) (h3 : w = w') : score q k w = score q' k' w' := by
  rw [funext h1, funext h2, h3]

/-- The result of a head at a point whose arrays hold the arguments' entries is the head's attention. -/
theorem resK_eq (I : Inp) (i : grid0.Coords) (x2 : Vec Ideal S1024x64 .bf16) (x10 : Vec Ideal S1x256x2048 .fp8e4m3) (x11 : Vec Ideal S1x4x2048 .f32)
    (x12 : Vec Ideal S1x256x2048 .fp8e4m3) (x13 : Vec Ideal S1x4x2048 .f32) (x21 : Vec Ideal S1024x64 .bf16) (x22 : Vec Ideal S1024x128 .bf16)
    (x23 : Vec Ideal S256x64 .bf16) (x24 : Vec Ideal S256x128 .bf16) (x25 x26 : Vec Ideal S64x128 .f32) (wd : Elt Ideal .i32)
    (hq : ∀ (r : Fin 16) (d : Fin 64) (n : Fin 1024), n.val = 16 * (bt i).val + r.val → x2 (ix2 n d) = I.q (bt i) r d)
    (hsk : ∀ (t h : Fin 4) (d : Fin 64) (n : Fin 1024), n.val = 16 * (bt i).val + (4 * t.val + h.val) → x21 (ix2 n d) = I.sk (bt i) t h d)
    (hsv : ∀ (t h : Fin 4) (l : Fin 128) (n : Fin 1024), n.val = 16 * (bt i).val + (4 * t.val + h.val) → x22 (ix2 n l) = I.sv (bt i) t h ⟨l.val % 64, by omega⟩)
    (hnk : ∀ (h : Fin 4) (d : Fin 64) (n : Fin 256), n.val = 4 * (bt i).val + h.val → x23 (ix2 n d) = I.kCd (bt i) h d)
    (hnv : ∀ (h : Fin 4) (l : Fin 128) (n : Fin 256), n.val = 4 * (bt i).val + h.val → x24 (ix2 n l) = I.vCd (bt i) h ⟨l.val % 64, by omega⟩)
    (hks : ∀ (t h : Fin 4) (n : Fin 128), n.val = 4 * t.val + h.val → x25 (ix2 (bt i) n) = I.sks (bt i) t h)
    (hkn : ∀ (h : Fin 4) (n : Fin 128), 16 ≤ n.val → n.val < 32 → n.val % 4 = h.val → x25 (ix2 (bt i) n) = I.kSc (bt i) h)
    (hvs : ∀ (t h : Fin 4) (n : Fin 128), n.val = 4 * t.val + h.val → x26 (ix2 (bt i) n) = I.svs (bt i) t h)
    (hvn : ∀ (h : Fin 4) (n : Fin 128), 16 ≤ n.val → n.val < 32 → n.val % 4 = h.val → x26 (ix2 (bt i) n) = I.vSc (bt i) h)
    (hrk : ∀ (h : Fin 4) (d : Fin 64) (n : Fin 256) (p : Fin 2048), n.val = 64 * h.val + d.val → x10 (ix3 0 n p) = I.k (bt i) p h d)
    (hrks : ∀ (h : Fin 4) (p : Fin 2048), x11 (ix3 0 h p) = I.ks (bt i) p h)
    (hrv : ∀ (h : Fin 4) (d : Fin 64) (n : Fin 256) (p : Fin 2048), n.val = 64 * h.val + d.val → x12 (ix3 0 n p) = I.v (bt i) p h d)
    (hrvs : ∀ (h : Fin 4) (p : Fin 2048), x13 (ix3 0 h p) = I.vs (bt i) p h)
    (hw : wd = I.seen (bt i)) (r : Fin 16) (k : Fin 256) (l : Fin 128) (d : Fin 64) (hk : k.val = 64 * (r.val / 4) + d.val) (hl : l.val % 64 = d.val) :
    resK i x2 x10 x11 x12 x13 x21 x22 x23 x24 x25 x26 wd r k l = I.attn (bt i) r ⟨r.val / 4, by omega⟩ d := by
  have hb := (bt i).isLt
  have hd : (⟨l.val % 64, by omega⟩ : Fin 64) = d := Fin.ext hl
  unfold resK
  refine (attendK_eq (⟨r.val / 4, by omega⟩ : Fin 4) (⟨(bt i).val % 4, by omega⟩ : Fin 4) _ _ _ _ _ _ (fun c hc => if_neg hc)).trans ?_
  unfold Inp.attn
  have hcs : ∀ t : Fin 4, (colS (⟨r.val / 4, by omega⟩ : Fin 4) t).val = 4 * t.val + r.val / 4 := fun t => rfl
  have hcn : (colN (⟨r.val / 4, by omega⟩ : Fin 4) (⟨(bt i).val % 4, by omega⟩ : Fin 4)).val = 16 + (4 * ((bt i).val % 4) + r.val / 4) := rfl
  have hcs4 : ∀ t : Fin 4, (colS (⟨r.val / 4, by omega⟩ : Fin 4) t).val % 4 = r.val / 4 := fun t => by rw [hcs]; omega
  have hqr : ∀ d', qK i x2 r d' = I.q (bt i) r d' := fun d' => hq r d' _ rfl
  refine attend_congr (fun t => ?_) (fun t => ?_) (fun t => ?_) (fun p => ?_) (fun p => ?_) (fun p => ?_) ?_ ?_ ?_
  · refine (if_pos ⟨hcs4 t, .inl (by rw [hcs]; omega)⟩).trans ?_
    refine score_congr hqr (fun d' => ?_) ?_
    · unfold kK
      rw [dif_pos (by rw [hcs]; omega)]
      exact hsk t _ d' _ (by rfl)
    · exact hks t _ _ rfl
  · exact hvs t _ _ rfl
  · unfold vK
    rw [dif_pos (by rw [hcs]; omega)]
    exact (hsv t _ l _ (by rfl)).trans (congrArg (I.sv (bt i) t _) hd)
  · unfold sRK
    rw [hw]
    refine if_congr Iff.rfl (score_congr hqr (fun d' => ?_) ?_) rfl
    · exact hrk _ d' _ p rfl
    · exact hrks _ p
  · exact hrvs _ p
  · exact hrv _ d k p hk
  · refine (if_pos ⟨by rw [hcn]; dsimp only; omega, .inr (by rw [hcn]; dsimp only; omega)⟩).trans ?_
    refine score_congr hqr (fun d' => ?_) ?_
    · unfold kK
      rw [dif_neg (by rw [hcn]; omega)]
      exact hnk _ d' _ (by dsimp only; rw [hcn]; omega)
    · exact hkn _ _ (by dsimp only; rw [hcn]; omega) (by dsimp only; rw [hcn]; omega) (by dsimp only; rw [hcn]; omega)
  · exact hvn _ _ (by dsimp only; rw [hcn]; omega) (by dsimp only; rw [hcn]; omega) (by dsimp only; rw [hcn]; omega)
  · unfold vK
    rw [dif_neg (by rw [hcn]; omega)]
    exact (hnv _ l _ (by dsimp only; rw [hcn]; omega)).trans (congrArg (I.vCd (bt i) _) hd)

/-! ## The results in terms of the arguments -/

/-- The rows of new keys and values are of a size at which the exponent counted from the thresholds is the quantiser's. -/
structure Tame (I : Inp) : Prop where
  kS : ∀ b h, kScale (amx (I.kn b h) * c448) = rScale (amx (I.kn b h))
  kC : ∀ b h x, kCode (amx (I.kn b h) * c448) x = rCode (amx (I.kn b h)) x
  vS : ∀ b h, kScale (amx (I.vn b h) * c448) = rScale (amx (I.vn b h))
  vC : ∀ b h x, kCode (amx (I.vn b h) * c448) x = rCode (amx (I.vn b h)) x

variable (m : (ℓ : Loc nD τ sig) → Buf (Elt Ideal) ℓ) (hO : Ok m) (c : Dev nD)

/-- The row of new keys. -/
theorem row_kn (t : Fin (cfgM m hO).N) (b : Fin 64) (h : Fin 4) (n : Fin 256) (hn : n.val = 4 * b.val + h.val) (d : Fin 64) :
    (iblk m hO c 1 t : Vec Ideal S256x64 .bf16) (ix2 n d) = (inp m c).kn b h d := by
  rw [blk_kn]
  refine (Va_kn m c n d).trans ?_
  exact congrArg₂ (fun x y => (inp m c).kn x y d) (Fin.ext (by dsimp only; omega)) (Fin.ext (by dsimp only; omega))
theorem row_vn (t : Fin (cfgM m hO).N) (b : Fin 64) (h : Fin 4) (n : Fin 256) (hn : n.val = 4 * b.val + h.val) (d : Fin 64) :
    (iblk m hO c 2 t : Vec Ideal S256x64 .bf16) (ix2 n d) = (inp m c).vn b h d := by
  rw [blk_vn]
  refine (Va_vn m c n d).trans ?_
  exact congrArg₂ (fun x y => (inp m c).vn x y d) (Fin.ext (by dsimp only; omega)) (Fin.ext (by dsimp only; omega))

variable (hT : Tame (inp m c))
include hT

theorem new_kS (t : Fin (cfgM m hO).N) (b : Fin 64) (h : Fin 4) (n : Fin 256) (hn : n.val = 4 * b.val + h.val) (l : Fin 128) :
    sckV (iblk m hO c 1 t) (ix2 n l) = (inp m c).kSc b h := by
  refine (sckV_apply _ n l).trans ?_
  rw [funext (row_kn m hO c t b h n hn)]
  exact hT.kS b h
theorem new_kC (t : Fin (cfgM m hO).N) (b : Fin 64) (h : Fin 4) (n : Fin 256) (hn : n.val = 4 * b.val + h.val) (d : Fin 64) :
    kncV (iblk m hO c 1 t) (ix2 n d) = (inp m c).kCd b h d := by
  refine (kncV_apply _ n d).trans ?_
  rw [funext (row_kn m hO c t b h n hn), row_kn m hO c t b h n hn d]
  exact hT.kC b h _
theorem new_vS (t : Fin (cfgM m hO).N) (b : Fin 64) (h : Fin 4) (n : Fin 256) (hn : n.val = 4 * b.val + h.val) (l : Fin 128) :
    scvV (iblk m hO c 2 t) (ix2 n l) = (inp m c).vSc b h := by
  refine (scvV_apply _ n l).trans ?_
  rw [funext (row_vn m hO c t b h n hn)]
  exact hT.vS b h
theorem new_vC (t : Fin (cfgM m hO).N) (b : Fin 64) (h : Fin 4) (n : Fin 256) (hn : n.val = 4 * b.val + h.val) (d : Fin 64) :
    vncV (iblk m hO c 2 t) (ix2 n d) = (inp m c).vCd b h d := by
  refine (vncV_apply _ n d).trans ?_
  rw [funext (row_vn m hO c t b h n hn), row_vn m hO c t b h n hn d]
  exact hT.vC b h _

/-- The codes of the new keys, -/
theorem out_knc (r : Fin 256) (d : Fin 64) : ((dats m hO 0 c).arrAt 13 (cfgM m hO).N : Vec Ideal S256x64 .fp8e4m3) (ix2 r d)
    = (inp m c).kCd ⟨r.val / 4, Nat.div_lt_of_lt_mul r.isLt⟩ ⟨r.val % 4, Nat.mod_lt _ (by norm_num)⟩ d :=
  (congrFun (final_13 m hO c) (ix2 r d)).trans (new_kC m hO c hT _ _ _ r (by dsimp only; omega) d)
/-- their scales, -/
theorem out_kns (h : Fin 4) (b : Fin 64) : ((dats m hO 0 c).arrAt 14 (cfgM m hO).N : Vec Ideal S4x64 .f32) (ix2 h b) = (inp m c).kSc b h :=
  (congrFun (final_14 m hO c) (ix2 h b)).trans ((knsV_apply _ _ h b).trans (new_kS m hO c hT _ b h _ rfl _))
/-- the codes of the new values -/
theorem out_vnc (r : Fin 256) (d : Fin 64) : ((dats m hO 0 c).arrAt 15 (cfgM m hO).N : Vec Ideal S256x64 .fp8e4m3) (ix2 r d)
    = (inp m c).vCd ⟨r.val / 4, Nat.div_lt_of_lt_mul r.isLt⟩ ⟨r.val % 4, Nat.mod_lt _ (by norm_num)⟩ d :=
  (congrFun (final_15 m hO c) (ix2 r d)).trans (new_vC m hO c hT _ _ _ r (by dsimp only; omega) d)
/-- and their scales. -/
theorem out_vns (h : Fin 4) (b : Fin 64) : ((dats m hO 0 c).arrAt 16 (cfgM m hO).N : Vec Ideal S4x64 .f32) (ix2 h b) = (inp m c).vSc b h :=
  (congrFun (final_16 m hO c) (ix2 h b)).trans ((vnsV_apply _ _ _ _ h b).trans (new_vS m hO c hT _ b h _ rfl _))
omit hT in
/-- The slots -/
theorem out_slot (b : Fin 64) : ((dats m hO 0 c).arrAt 17 (cfgM m hO).N : Vec Ideal S1x64 .i32) (ix2 0 b) = (inp m c).slot b := by
  refine (congrFun (final_17 m hO c) (ix2 0 b)).trans ((slots_apply _ b).trans ?_)
  rw [blk_seen]
  exact congrArg (fun x => IntOp.andi (IntOp.subi x 4#32) 2047#32) (Va_seen m c b)
omit hT in
/-- and the next counts. -/
theorem out_next (b : Fin 64) : ((dats m hO 0 c).arrAt 18 (cfgM m hO).N : Vec Ideal S1x64 .i32) (ix2 0 b) = (inp m c).next b := by
  refine (congrFun (final_18 m hO c) (ix2 0 b)).trans ((nexts_apply _ b).trans ?_)
  rw [blk_seen]
  exact congrArg (fun x => IntOp.addi x 1#32) (Va_seen m c b)

/-- A head's result at a point. -/
theorem res_point (t : Fin (cfgM m hO).N) (r : Fin 16) (k : Fin 256) (l : Fin 128) (d : Fin 64) (hk : k.val = 64 * (r.val / 4) + d.val) (hl : l.val % 64 = d.val) :
    resK (grid0.coords t) (iblk m hO c 0 t) (iblk m hO c 8 t) (iblk m hO c 9 t) (iblk m hO c 10 t) (iblk m hO c 11 t) (skbA m hO c) (svbA m hO c) (nkbA m hO c) (nvbA m hO c) (kscA m hO c) (vscA m hO c) (tWord c (grid0.coords t) (tbl m 0)) r k l
    = (inp m c).attn (bt (grid0.coords t)) r ⟨r.val / 4, by omega⟩ d := by
  have hb := (bt (grid0.coords t)).isLt
  refine resK_eq (inp m c) (grid0.coords t) _ _ _ _ _ _ _ _ _ _ _ _ ?_ ?_ ?_ ?_ ?_ ?_ ?_ ?_ ?_ ?_ ?_ ?_ ?_ ?_ r k l d hk hl
  · intro r d n hn
    rw [blk_q]
    refine (Va_q m c n d).trans ?_
    exact congrArg₂ (fun x y => (inp m c).q x y d) (Fin.ext (by dsimp only; omega)) (Fin.ext (by dsimp only; omega))
  · intro t' h d n hn
    refine (skbV_apply _ n d).trans ?_
    rw [blk_sk]
    refine (Va_sk m c n d).trans ?_
    rw [show (⟨n.val / 16, Nat.div_lt_of_lt_mul n.isLt⟩ : Fin 64) = bt (grid0.coords t) from Fin.ext (by dsimp only; omega),
      show (⟨n.val / 4 % 4, Nat.mod_lt _ (by norm_num)⟩ : Fin 4) = t' from Fin.ext (by dsimp only; omega),
      show (⟨n.val % 4, Nat.mod_lt _ (by norm_num)⟩ : Fin 4) = h from Fin.ext (by dsimp only; omega)]
  · intro t' h l n hn
    refine (svbV_apply _ n l).trans ?_
    rw [blk_sv]
    refine (Va_sv m c n _).trans ?_
    rw [show (⟨n.val / 16, Nat.div_lt_of_lt_mul n.isLt⟩ : Fin 64) = bt (grid0.coords t) from Fin.ext (by dsimp only; omega),
      show (⟨n.val / 4 % 4, Nat.mod_lt _ (by norm_num)⟩ : Fin 4) = t' from Fin.ext (by dsimp only; omega),
      show (⟨n.val % 4, Nat.mod_lt _ (by norm_num)⟩ : Fin 4) = h from Fin.ext (by dsimp only; omega)]
  · exact fun h d n hn => (nkbV_apply _ n d).trans (new_kC m hO c hT _ _ h n hn d)
  · exact fun h l n hn => (nvbV_apply _ n l).trans (new_vC m hO c hT _ _ h n hn _)
  · intro t' h n hn
    refine (kscV_sink _ _ t' h _ n hn).trans ?_
    rw [blk_sks]
    exact Va_sks m c t' h _
  · exact fun h n h1 h2 hn => (kscV_new _ _ _ n h1 h2).trans (new_kS m hO c hT _ _ h _ (by dsimp only; omega) _)
  · intro t' h n hn
    refine (vscV_sink _ _ _ _ t' h _ n hn).trans ?_
    rw [blk_svs]
    exact Va_svs m c t' h _
  · exact fun h n h1 h2 hn => (vscV_new _ _ _ _ _ n h1 h2).trans (new_vS m hO c hT _ _ h _ (by dsimp only; omega) _)
  · intro h d n p hn
    refine (blk_k m hO c t n p).trans ((Va_k m c _ n p).trans ?_)
    exact congrArg₂ (fun x y => (inp m c).k _ p x y) (Fin.ext (by dsimp only; omega)) (Fin.ext (by dsimp only; omega))
  · exact fun h p => (blk_ks m hO c t h p).trans (Va_ks m c _ h p)
  · intro h d n p hn
    refine (blk_v m hO c t n p).trans ((Va_v m c _ n p).trans ?_)
    exact congrArg₂ (fun x y => (inp m c).v _ p x y) (Fin.ext (by dsimp only; omega)) (Fin.ext (by dsimp only; omega))
  · exact fun h p => (blk_vs m hO c t h p).trans (Va_vs m c _ h p)
  · exact word_seen m hO c t

/-- A collected row: the lanes that the result reads hold the head's attention. -/
theorem fin_apply (b : Fin 64) (r : Fin 16) (d : Fin 64) (n : Fin 1024) (l : Fin 128) (hn : n.val = 16 * b.val + r.val) (hl : l.val = 64 * (r.val % 2) + d.val) :
    finA m hO c (ix2 n l) = (inp m c).attn b r ⟨r.val / 4, by omega⟩ d := by
  have hN : (cfgM m hO).N = 64 := N_0
  obtain ⟨t, ht⟩ : ∃ t : Fin (cfgM m hO).N, t.val = b.val := ⟨⟨b.val, by rw [hN]; exact b.isLt⟩, rfl⟩
  have hbt : bt (grid0.coords t) = b := Fin.ext ((coords_t m hO t).trans ht)
  subst hbt
  have ht' : (⟨n.val / 16, by rw [hN]; omega⟩ : Fin (cfgM m hO).N) = t := Fin.ext (by dsimp only; omega)
  by_cases h8 : r.val < 8
  · have e : finA m hO c (ix2 n l) = loA m hO c t (ix2 (⟨r.val, h8⟩ : Fin 8) l) := by
      refine (dif_pos (show n.val % 16 < 8 by omega)).trans ?_
      refine (congrArg (fun s => loA m hO c s _) ht').trans ?_
      exact congrArg (fun x => loA m hO c t (ix2 x l)) (Fin.ext (by show n.val % 16 = r.val; omega))
    refine e.trans ((tileLo_apply _ _ _ _ _ _ _ _ _ _ _ _ _ _ _).trans ?_)
    split_ifs with h
    · exact res_point m hO c hT t r _ _ d (by dsimp only at h ⊢; omega) (by dsimp only at h ⊢; omega)
    · exact res_point m hO c hT t r _ _ d (by dsimp only at h ⊢; omega) (by dsimp only at h ⊢; omega)
  · obtain ⟨s, rfl⟩ : ∃ s : Fin 8, r = ⟨8 + s.val, Nat.add_lt_add_left s.isLt 8⟩ := ⟨⟨r.val - 8, by omega⟩, Fin.ext (by dsimp only; omega)⟩
    dsimp only at hn hl
    have e : finA m hO c (ix2 n l) = hiA m hO c t (ix2 s l) := by
      refine (dif_neg (show ¬n.val % 16 < 8 by omega)).trans ?_
      refine (congrArg (fun s => hiA m hO c s _) ht').trans ?_
      exact congrArg (fun x => hiA m hO c t (ix2 x l)) (Fin.ext (by show n.val % 16 - 8 = s.val; omega))
    refine e.trans ((tileHi_apply _ _ _ _ _ _ _ _ _ _ _ _ _ _ _).trans ?_)
    have h1 : (8 + s.val) / 4 = 2 + s.val / 4 := by omega
    have h2 : (8 + s.val) % 2 = s.val % 2 := by omega
    rw [h2] at hl
    split_ifs with h
    · have h' : s.val / 4 = s.val % 2 := h
      exact res_point m hO c hT t ⟨8 + s.val, Nat.add_lt_add_left s.isLt 8⟩ _ _ d (by show 128 + l.val = 64 * ((8 + s.val) / 4) + d.val; omega) (by show l.val % 64 = d.val; omega)
    · have h' : ¬s.val / 4 = s.val % 2 := h
      exact res_point m hO c hT t ⟨8 + s.val, Nat.add_lt_add_left s.isLt 8⟩ _ _ d (by show 128 + (l.val + 64) % 128 = 64 * ((8 + s.val) / 4) + d.val; omega) (by show (l.val + 64) % 128 % 64 = d.val; omega)

/-- The attention result. -/
theorem out_out (b : Fin 64) (x : Fin 1024) : ((dats m hO 0 c).arrAt 12 (cfgM m hO).N : Vec Ideal S64x1024 .bf16) (ix2 b x) = (inp m c).out b x := by
  refine (congrFun (final_12 m hO c) (ix2 b x)).trans ((canon_outL _ _).trans ?_)
  refine (fin_apply m hO c hT b ⟨x.val / 64, by omega⟩ ⟨x.val % 64, by omega⟩ _ _ rfl (by dsimp only [ix2]; show x.val % 128 = _; omega)).trans ?_
  unfold Inp.out
  exact congrArg (fun h => (inp m c).attn b _ h _) (Fin.ext (by dsimp only; omega))

end Cert.KernelIdeal.Gen

end
-- ==== Proof.RefOut.lean ====
module

public import proofs.«01_k».proof.Proof.Gen.ReferenceIdeal.Skeleton
public import proofs.«01_k».proof.Proof.Quant
@[expose] public section

set_option maxRecDepth 16384
/-! # What the reference computes, entry by entry, over the extended reals -/

noncomputable section

namespace Cert.ReferenceIdeal.Gen

open Idealize.ShloMosaic Cert.Proof

section
variable (q : Vec Ideal S64x4x4x64 .bf16) (kn vn : Vec Ideal S64x4x64 .bf16) (sk : Vec Ideal S64x4x4x64 .fp8e4m3) (sks : Vec Ideal S64x4x4 .f32)
  (sv : Vec Ideal S64x4x4x64 .fp8e4m3) (svs : Vec Ideal S64x4x4 .f32) (k : Vec Ideal S64x4x2048x64 .fp8e4m3) (ks : Vec Ideal S64x4x2048 .f32)
  (v : Vec Ideal S64x4x2048x64 .fp8e4m3) (vs : Vec Ideal S64x4x2048 .f32) (len : Vec Ideal S64x1 .i32)

/-- The scale of a new key row, -/
theorem pay8_apply (b : Fin 64) (h : Fin 4) : k0_pay8 kn (ix2 b h) = rScale (amx fun d => kn (ix3 b h d)) := by
  pointwise [k0_pay8, k0_pay7]
  rfl
/-- its codes, -/
theorem pay9_apply (b : Fin 64) (h : Fin 4) (d : Fin 64) : k0_pay9 kn (ix3 b h d) = rCode (amx fun d => kn (ix3 b h d)) (kn (ix3 b h d)) := by
  pointwise [k0_pay9, k0_pay7]
  rw [pay8_apply]
  rfl
/-- the scale of a new value row, -/
theorem pay13_apply (b : Fin 64) (h : Fin 4) : k0_pay13 (k0_pay11 vn) k0_pay12 (ix2 b h) = rScale (amx fun d => vn (ix3 b h d)) := by
  pointwise [k0_pay13, k0_pay11, k0_pay12, k0_pay10]
  rfl
/-- and its codes. -/
theorem pay14_apply (b : Fin 64) (h : Fin 4) (d : Fin 64) : k0_pay14 (k0_pay10 vn) (k0_pay11 vn) k0_pay12 (ix3 b h d) = rCode (amx fun d => vn (ix3 b h d)) (vn (ix3 b h d)) := by
  pointwise [k0_pay14, k0_pay10]
  rw [pay13_apply]
  rfl

/-- The score with a sink, -/
def rS (b : Fin 64) (h g t : Fin 4) : EReal := score (fun d => q (ix4 b h g d)) (fun d => sk (ix4 b h t d)) (sks (ix3 b h t))
/-- with a ring token -/
def rR (b : Fin 64) (h g : Fin 4) (p : Fin 2048) : EReal :=
  if IntOp.cmpi CmpIPredicate.slt (BitVec.ofNat 32 p.val) (len (ix2 b 0)) = 1#1 then score (fun d => q (ix4 b h g d)) (fun d => k (ix4 b h p d)) (ks (ix3 b h p)) else ⊥
/-- and with the new token. -/
def rN (b : Fin 64) (h g : Fin 4) : EReal :=
  score (fun d => q (ix4 b h g d)) (fun d => rCode (amx fun d => kn (ix3 b h d)) (kn (ix3 b h d))) (rScale (amx fun d => kn (ix3 b h d)))

theorem s15 (b : Fin 64) (h g t : Fin 4) : k0_pay15 (k0_pay6 q) sk sks (ix4 b h g t) = rS q sk sks b h g t := by
  pointwise [k0_pay15, k0_pay6]
  rfl
theorem s16 (b : Fin 64) (h g : Fin 4) : k0_pay16 (k0_pay6 q) (k0_pay8 kn) (k0_pay9 kn) (ix4 b h g 0) = rN q kn b h g := by
  pointwise [k0_pay16, k0_pay6]
  simp only [pay8_apply, pay9_apply]
  rfl
theorem s17 (b : Fin 64) (h g : Fin 4) (p : Fin 2048) : k0_pay17 (k0_pay6 q) k ks len (ix4 b h g p) = rR q k ks len b h g p := by
  pointwise [k0_pay17, k0_pay6]
  rw [ofBits_bot]
  rfl

def m18 : FVec Ideal S64x4x4 .f32 := k0_pay18 (k0_pay6 q) (k0_pay8 kn) (k0_pay9 kn) (k0_pay15 (k0_pay6 q) sk sks) k ks len
theorem m18_apply (b : Fin 64) (h g : Fin 4) : m18 q kn sk sks k ks len (ix3 b h g) = mx (rS q sk sks b h g) (rR q k ks len b h g) (rN q kn b h g) := by
  pointwise [m18, k0_pay18]
  simp only [s15, s17, ofBits_bot, Finset.univ_unique, Finset.fold_singleton, Fin.default_eq_zero, Fin.isValue]
  rw [s16]
  unfold mx
  congr 1
  exact max_eq_left bot_le
theorem e19_apply (b : Fin 64) (h g t : Fin 4) : k0_pay19 (k0_pay6 q) (k0_pay8 kn) (k0_pay9 kn) (k0_pay15 (k0_pay6 q) sk sks) k ks len (ix4 b h g t) =
    Ideal.exp (rS q sk sks b h g t - mx (rS q sk sks b h g) (rR q k ks len b h g) (rN q kn b h g)) := by
  rw [← m18_apply, ← s15]
  pointwise [k0_pay19, m18]
theorem e20_apply (b : Fin 64) (h g : Fin 4) : k0_pay20 (k0_pay6 q) (k0_pay8 kn) (k0_pay9 kn) (k0_pay15 (k0_pay6 q) sk sks) k ks len (ix4 b h g 0) =
    mx (rS q sk sks b h g) (rR q k ks len b h g) (rN q kn b h g) := by
  rw [← m18_apply]
  pointwise [k0_pay20, m18]

/-- The reciprocal of the denominator. -/
def r23 : FVec Ideal S64x4x4x1 .f32 :=
  k0_pay23 (k0_pay16 (k0_pay6 q) (k0_pay8 kn) (k0_pay9 kn)) (k0_pay17 (k0_pay6 q) k ks len) (k0_pay18 (k0_pay6 q) (k0_pay8 kn) (k0_pay9 kn) (k0_pay15 (k0_pay6 q) sk sks) k ks len)
    (k0_pay19 (k0_pay6 q) (k0_pay8 kn) (k0_pay9 kn) (k0_pay15 (k0_pay6 q) sk sks) k ks len) (k0_pay20 (k0_pay6 q) (k0_pay8 kn) (k0_pay9 kn) (k0_pay15 (k0_pay6 q) sk sks) k ks len)
theorem r23_apply (b : Fin 64) (h g : Fin 4) : r23 q kn sk sks k ks len (ix4 b h g 0) = Ideal.div 1 (den (rS q sk sks b h g) (rR q k ks len b h g) (rN q kn b h g)) := by
  pointwise [r23, k0_pay23, k0_pay21, k0_pay22]
  simp only [e19_apply, e20_apply, s17, Finset.univ_unique, Finset.sum_singleton, Fin.default_eq_zero, Fin.isValue]
  rw [s16, show k0_pay18 (k0_pay6 q) (k0_pay8 kn) (k0_pay9 kn) (k0_pay15 (k0_pay6 q) sk sks) k ks len (ix3 b h g) = _ from m18_apply q kn sk sks k ks len b h g]
  rfl

theorem r23_apply' (b : Fin 64) (h g : Fin 4) : k0_pay23 (k0_pay16 (k0_pay6 q) (k0_pay8 kn) (k0_pay9 kn)) (k0_pay17 (k0_pay6 q) k ks len) (k0_pay18 (k0_pay6 q) (k0_pay8 kn) (k0_pay9 kn) (k0_pay15 (k0_pay6 q) sk sks) k ks len)
    (k0_pay19 (k0_pay6 q) (k0_pay8 kn) (k0_pay9 kn) (k0_pay15 (k0_pay6 q) sk sks) k ks len) (k0_pay20 (k0_pay6 q) (k0_pay8 kn) (k0_pay9 kn) (k0_pay15 (k0_pay6 q) sk sks) k ks len) (ix4 b h g 0) = Ideal.div 1 (den (rS q sk sks b h g) (rR q k ks len b h g) (rN q kn b h g)) :=
  r23_apply q kn sk sks k ks len b h g

/-- The first result, whole. -/
def outR : FVec Ideal S64x1024 .bf16 :=
  k0_pay1 (k0_pay13 (k0_pay11 vn) k0_pay12) (k0_pay14 (k0_pay10 vn) (k0_pay11 vn) k0_pay12)
    (k0_pay22 (k0_pay16 (k0_pay6 q) (k0_pay8 kn) (k0_pay9 kn)) (k0_pay18 (k0_pay6 q) (k0_pay8 kn) (k0_pay9 kn) (k0_pay15 (k0_pay6 q) sk sks) k ks len))
    (k0_pay23 (k0_pay16 (k0_pay6 q) (k0_pay8 kn) (k0_pay9 kn)) (k0_pay17 (k0_pay6 q) k ks len) (k0_pay18 (k0_pay6 q) (k0_pay8 kn) (k0_pay9 kn) (k0_pay15 (k0_pay6 q) sk sks) k ks len)
      (k0_pay19 (k0_pay6 q) (k0_pay8 kn) (k0_pay9 kn) (k0_pay15 (k0_pay6 q) sk sks) k ks len) (k0_pay20 (k0_pay6 q) (k0_pay8 kn) (k0_pay9 kn) (k0_pay15 (k0_pay6 q) sk sks) k ks len))
    (k0_pay24 (k0_pay16 (k0_pay6 q) (k0_pay8 kn) (k0_pay9 kn)) (k0_pay17 (k0_pay6 q) k ks len) (k0_pay18 (k0_pay6 q) (k0_pay8 kn) (k0_pay9 kn) (k0_pay15 (k0_pay6 q) sk sks) k ks len)
      (k0_pay19 (k0_pay6 q) (k0_pay8 kn) (k0_pay9 kn) (k0_pay15 (k0_pay6 q) sk sks) k ks len) (k0_pay20 (k0_pay6 q) (k0_pay8 kn) (k0_pay9 kn) (k0_pay15 (k0_pay6 q) sk sks) k ks len) sv svs)
    (k0_pay25 (k0_pay16 (k0_pay6 q) (k0_pay8 kn) (k0_pay9 kn)) (k0_pay17 (k0_pay6 q) k ks len) (k0_pay18 (k0_pay6 q) (k0_pay8 kn) (k0_pay9 kn) (k0_pay15 (k0_pay6 q) sk sks) k ks len)
      (k0_pay19 (k0_pay6 q) (k0_pay8 kn) (k0_pay9 kn) (k0_pay15 (k0_pay6 q) sk sks) k ks len) (k0_pay20 (k0_pay6 q) (k0_pay8 kn) (k0_pay9 kn) (k0_pay15 (k0_pay6 q) sk sks) k ks len))
    (k0_pay26 v) (k0_pay27 vs)

theorem e22_apply (b : Fin 64) (h g : Fin 4) : k0_pay22 (k0_pay16 (k0_pay6 q) (k0_pay8 kn) (k0_pay9 kn)) (k0_pay18 (k0_pay6 q) (k0_pay8 kn) (k0_pay9 kn) (k0_pay15 (k0_pay6 q) sk sks) k ks len) (ix4 b h g 0) =
    Ideal.exp (rN q kn b h g - mx (rS q sk sks b h g) (rR q k ks len b h g) (rN q kn b h g)) := by
  rw [← m18_apply, ← s16]
  pointwise [k0_pay22, m18]
theorem p24_apply (b : Fin 64) (h g : Fin 4) (l : Fin 64) : k0_pay24 (k0_pay16 (k0_pay6 q) (k0_pay8 kn) (k0_pay9 kn)) (k0_pay17 (k0_pay6 q) k ks len) (k0_pay18 (k0_pay6 q) (k0_pay8 kn) (k0_pay9 kn) (k0_pay15 (k0_pay6 q) sk sks) k ks len)
      (k0_pay19 (k0_pay6 q) (k0_pay8 kn) (k0_pay9 kn) (k0_pay15 (k0_pay6 q) sk sks) k ks len) (k0_pay20 (k0_pay6 q) (k0_pay8 kn) (k0_pay9 kn) (k0_pay15 (k0_pay6 q) sk sks) k ks len) sv svs (ix4 b h g l) =
    ∑ t, share (rS q sk sks b h g t) (mx (rS q sk sks b h g) (rR q k ks len b h g) (rN q kn b h g)) (den (rS q sk sks b h g) (rR q k ks len b h g) (rN q kn b h g))
      * svs (ix3 b h t) * sv (ix4 b h t l) := by
  pointwise [k0_pay24]
  rw [show k0_pay23 _ _ _ _ _ (ix4 b h g 0) = _ from r23_apply q kn sk sks k ks len b h g]
  simp only [e19_apply]
  rfl
theorem p25_apply (b : Fin 64) (h g : Fin 4) (p : Fin 2048) : k0_pay25 (k0_pay16 (k0_pay6 q) (k0_pay8 kn) (k0_pay9 kn)) (k0_pay17 (k0_pay6 q) k ks len) (k0_pay18 (k0_pay6 q) (k0_pay8 kn) (k0_pay9 kn) (k0_pay15 (k0_pay6 q) sk sks) k ks len)
      (k0_pay19 (k0_pay6 q) (k0_pay8 kn) (k0_pay9 kn) (k0_pay15 (k0_pay6 q) sk sks) k ks len) (k0_pay20 (k0_pay6 q) (k0_pay8 kn) (k0_pay9 kn) (k0_pay15 (k0_pay6 q) sk sks) k ks len) (ix4 b h g p) =
    share (rR q k ks len b h g p) (mx (rS q sk sks b h g) (rR q k ks len b h g) (rN q kn b h g)) (den (rS q sk sks b h g) (rR q k ks len b h g) (rN q kn b h g)) := by
  pointwise [k0_pay25, k0_pay21]
  rw [show k0_pay23 _ _ _ _ _ (ix4 b h g 0) = _ from r23_apply q kn sk sks k ks len b h g, e20_apply, s17]
  rfl

theorem e26_apply (b : Fin 64) (h : Fin 4) (p : Fin 2048) (l : Fin 64) : k0_pay26 v (ix4 b h p l) = v (ix4 b h p l) := by
  pointwise [k0_pay26]
theorem e27_apply (b : Fin 64) (h g : Fin 4) (p : Fin 2048) : k0_pay27 vs (ix4 b h g p) = vs (ix3 b h p) := by
  pointwise [k0_pay27]
theorem pay1_apply (v54 : FVec Ideal S64x4 .f32) (v62 : FVec Ideal S64x4x64 .fp8e4m3) (v131 : FVec Ideal S64x4x4x1 .f32) (v139 : FVec Ideal S64x4x4x1 .f32) (v157 : FVec Ideal S64x4x4x64 .f32) (v159 : FVec Ideal S64x4x4x2048 .f32) (v162 : FVec Ideal S64x4x2048x64 .f32) (v166 : FVec Ideal S64x4x4x2048 .f32)
    (b : Fin 64) (c : Fin 1024) (h g : Fin 4) (l : Fin 64) (hh : h.val = c.val / 256) (hg : g.val = c.val / 64 % 4) (hl : l.val = c.val % 64) :
    k0_pay1 v54 v62 v131 v139 v157 v159 v162 v166 (ix2 b c) =
      v157 (ix4 b h g l) + ∑ p, v159 (ix4 b h g p) * v166 (ix4 b h g p) * v162 (ix4 b h p l)
        + v131 (ix4 b h g 0) * v139 (ix4 b h g 0) * v54 (ix2 b h) * v62 (ix3 b h l) := by
  obtain rfl : h = ⟨c.val / 256, Nat.div_lt_of_lt_mul c.isLt⟩ := Fin.ext hh
  obtain rfl : g = ⟨c.val / 64 % 4, Nat.mod_lt _ (by norm_num)⟩ := Fin.ext hg
  obtain rfl : l = ⟨c.val % 64, Nat.mod_lt _ (by norm_num)⟩ := Fin.ext hl
  pointwise [k0_pay1]
  rw [Fin.sum_univ_one]

/-- The first result is the attention of the sequence's heads. -/
theorem outR_apply (b : Fin 64) (c : Fin 1024) : outR q kn vn sk sks sv svs k ks v vs len (ix2 b c) =
    attend (rS q sk sks b ⟨c.val / 256, by omega⟩ ⟨c.val / 64 % 4, by omega⟩) (fun t => svs (ix3 b ⟨c.val / 256, by omega⟩ t)) (fun t => sv (ix4 b ⟨c.val / 256, by omega⟩ t ⟨c.val % 64, by omega⟩))
      (rR q k ks len b ⟨c.val / 256, by omega⟩ ⟨c.val / 64 % 4, by omega⟩) (fun p => vs (ix3 b ⟨c.val / 256, by omega⟩ p)) (fun p => v (ix4 b ⟨c.val / 256, by omega⟩ p ⟨c.val % 64, by omega⟩))
      (rN q kn b ⟨c.val / 256, by omega⟩ ⟨c.val / 64 % 4, by omega⟩)
      (rScale (amx fun d => vn (ix3 b ⟨c.val / 256, by omega⟩ d)))
      (rCode (amx fun d => vn (ix3 b ⟨c.val / 256, by omega⟩ d)) (vn (ix3 b ⟨c.val / 256, by omega⟩ ⟨c.val % 64, by omega⟩))) := by
  refine (pay1_apply _ _ _ _ _ _ _ _ b c ⟨c.val / 256, by omega⟩ ⟨c.val / 64 % 4, by omega⟩ ⟨c.val % 64, by omega⟩ rfl rfl rfl).trans ?_
  generalize (⟨c.val / 256, by omega⟩ : Fin 4) = h
  generalize (⟨c.val / 64 % 4, by omega⟩ : Fin 4) = g
  generalize (⟨c.val % 64, by omega⟩ : Fin 64) = l
  have h1 := e22_apply q kn sk sks k ks len b h g
  have h2 := r23_apply' q kn sk sks k ks len b h g
  refine congrArg₂ (· + ·) (congrArg₂ (· + ·) (p24_apply q kn sk sks sv svs k ks len b h g l) (Finset.sum_congr rfl fun p _ =>
    congrArg₂ (· * ·) (congrArg₂ (· * ·) (p25_apply q kn sk sks k ks len b h g p) (e27_apply vs b h g p)) (e26_apply v b h p l))) ?_
  exact congrArg₂ (· * ·) (congrArg₂ (· * ·) (congrArg₂ (· * ·) h1 h2) (pay13_apply vn b h)) (pay14_apply vn b h l)

theorem kncR_apply (r : Fin 256) (d : Fin 64) : k0_pay2 (k0_pay9 kn) (ix2 r d) =
    rCode (amx fun d => kn (ix3 ⟨r.val / 4, by omega⟩ ⟨r.val % 4, by omega⟩ d)) (kn (ix3 ⟨r.val / 4, by omega⟩ ⟨r.val % 4, by omega⟩ d)) := by
  pointwise [k0_pay2]
  exact pay9_apply kn _ _ d
theorem knsR_apply (h : Fin 4) (b : Fin 64) : k0_pay3 (k0_pay8 kn) (ix2 h b) = rScale (amx fun d => kn (ix3 b h d)) := by
  pointwise [k0_pay3]
  exact pay8_apply kn b h
theorem vncR_apply (r : Fin 256) (d : Fin 64) : k0_pay4 (k0_pay14 (k0_pay10 vn) (k0_pay11 vn) k0_pay12) (ix2 r d) =
    rCode (amx fun d => vn (ix3 ⟨r.val / 4, by omega⟩ ⟨r.val % 4, by omega⟩ d)) (vn (ix3 ⟨r.val / 4, by omega⟩ ⟨r.val % 4, by omega⟩ d)) := by
  pointwise [k0_pay4]
  exact pay14_apply vn _ _ d
theorem vnsR_apply (h : Fin 4) (b : Fin 64) : k0_pay5 (k0_pay13 (k0_pay11 vn) k0_pay12) (ix2 h b) = rScale (amx fun d => vn (ix3 b h d)) := by
  pointwise [k0_pay5]
  exact pay13_apply vn b h
end

end Cert.ReferenceIdeal.Gen

end
-- ==== Proof.RefArr.lean ====
module

public import proofs.«01_k».proof.Proof.Gen.ReferenceIdeal.Value
public import proofs.«01_k».proof.Proof.RefOut
public import proofs.«01_k».proof.Proof.Spec
public import Idealize.ShloMosaic.Lib.Pipeline.ValueKit

@[expose] public section

set_option maxRecDepth 16384

/-! # The reference's results, entry by entry, in terms of its arguments -/

noncomputable section

namespace Cert.ReferenceIdeal.Gen

open Idealize.ShloMosaic Idealize.ShloMosaic.TcCoe Idealize.SL.Sem Cert.Proof
open Idealize.ShloMosaic.Pipeline (Dat)

variable (m : (ℓ : Loc nD τ sig) → Buf (Elt Ideal) ℓ) (c : Dev nD)

/-- The entries of the reference's arguments. -/
def inp : Inp where
  q b r d := (m (c.tc.loc main_arg0) : Vec Ideal S64x1x16x64 .bf16) (ix4 b 0 r d)
  kn b h d := (m (c.tc.loc main_arg1) : Vec Ideal S64x1x4x64 .bf16) (ix4 b 0 h d)
  vn b h d := (m (c.tc.loc main_arg2) : Vec Ideal S64x1x4x64 .bf16) (ix4 b 0 h d)
  sk b t h d := (m (c.tc.loc main_arg3) : Vec Ideal S64x4x4x64 .fp8e4m3) (ix4 b t h d)
  sks b t h := (m (c.tc.loc main_arg4) : Vec Ideal S64x4x4 .f32) (ix3 b t h)
  sv b t h d := (m (c.tc.loc main_arg5) : Vec Ideal S64x4x4x64 .fp8e4m3) (ix4 b t h d)
  svs b t h := (m (c.tc.loc main_arg6) : Vec Ideal S64x4x4 .f32) (ix3 b t h)
  k b p h d := (m (c.tc.loc main_arg7) : Vec Ideal S64x2048x4x64 .fp8e4m3) (ix4 b p h d)
  ks b p h := (m (c.tc.loc main_arg8) : Vec Ideal S64x2048x4 .f32) (ix3 b p h)
  v b p h d := (m (c.tc.loc main_arg9) : Vec Ideal S64x2048x4x64 .fp8e4m3) (ix4 b p h d)
  vs b p h := (m (c.tc.loc main_arg10) : Vec Ideal S64x2048x4 .f32) (ix3 b p h)
  seen b := (m (c.tc.loc main_arg11) : Vec Ideal S64 .i32) (ix1 b)

/-! ## The arrays the region finds -/

theorem V_q (b : Fin 64) (h g : Fin 4) (d : Fin 64) : (V m c main_v0 : Vec Ideal S64x4x4x64 .bf16) (ix4 b h g d) = (inp m c).q b ⟨h.val * 4 + g.val, by omega⟩ d := by
  simp only [V, hostOps0, hostOps0_1, hostOps0_2, List.flatten_cons, List.flatten_nil, List.append_nil, List.cons_append, List.nil_append]
  after_results_simp
  pointwise
  rfl
theorem V_len (b : Fin 64) : (V m c main_v5 : Vec Ideal S64x1 .i32) (ix2 b 0) = IntOp.minsi (IntOp.subi ((inp m c).seen b) 4#32) 2048#32 := by
  simp only [V, hostOps0, hostOps0_1, hostOps0_2, List.flatten_cons, List.flatten_nil, List.append_nil, List.cons_append, List.nil_append]
  after_results_simp
  pointwise
  rfl
theorem V_slot (b : Fin 64) : (V m c main_v9 : Vec Ideal S1x64 .i32) (ix2 0 b) = (inp m c).slot b := by
  refine Eq.trans ?_ (floor_word (IntOp.subi ((inp m c).seen b) 4#32))
  simp only [V, hostOps0, hostOps0_1, hostOps0_2, List.flatten_cons, List.flatten_nil, List.append_nil, List.cons_append, List.nil_append]
  after_results_simp
  simp only [StableHlo.TRef.ofBuf, StableHlo.TRef.toBuf, cast_eq]
  pointwise
  rfl
theorem V_next (b : Fin 64) : (V m c main_v12 : Vec Ideal S1x64 .i32) (ix2 0 b) = (inp m c).next b := by
  simp only [V, hostOps0, hostOps0_1, hostOps0_2, List.flatten_cons, List.flatten_nil, List.append_nil, List.cons_append, List.nil_append]
  after_results_simp
  pointwise
  rfl
theorem V_kn (b : Fin 64) (h : Fin 4) (d : Fin 64) : (V m c main_v13 : Vec Ideal S64x4x64 .bf16) (ix3 b h d) = (inp m c).kn b h d := by
  simp only [V, hostOps0, hostOps0_1, hostOps0_2, List.flatten_cons, List.flatten_nil, List.append_nil, List.cons_append, List.nil_append]
  after_results_simp
  pointwise
  rfl
theorem V_vn (b : Fin 64) (h : Fin 4) (d : Fin 64) : (V m c main_v14 : Vec Ideal S64x4x64 .bf16) (ix3 b h d) = (inp m c).vn b h d := by
  simp only [V, hostOps0, hostOps0_1, hostOps0_2, List.flatten_cons, List.flatten_nil, List.append_nil, List.cons_append, List.nil_append]
  after_results_simp
  pointwise
  rfl
theorem V_sk (b : Fin 64) (h t : Fin 4) (d : Fin 64) : (V m c main_v15 : Vec Ideal S64x4x4x64 .fp8e4m3) (ix4 b h t d) = (inp m c).sk b t h d := by
  simp only [V, hostOps0, hostOps0_1, hostOps0_2, List.flatten_cons, List.flatten_nil, List.append_nil, List.cons_append, List.nil_append]
  after_results_simp
  pointwise
  rfl
theorem V_sks (b : Fin 64) (h t : Fin 4) : (V m c main_v16 : Vec Ideal S64x4x4 .f32) (ix3 b h t) = (inp m c).sks b t h := by
  simp only [V, hostOps0, hostOps0_1, hostOps0_2, List.flatten_cons, List.flatten_nil, List.append_nil, List.cons_append, List.nil_append]
  after_results_simp
  pointwise
  rfl
theorem V_sv (b : Fin 64) (h t : Fin 4) (d : Fin 64) : (V m c main_v17 : Vec Ideal S64x4x4x64 .fp8e4m3) (ix4 b h t d) = (inp m c).sv b t h d := by
  simp only [V, hostOps0, hostOps0_1, hostOps0_2, List.flatten_cons, List.flatten_nil, List.append_nil, List.cons_append, List.nil_append]
  after_results_simp
  pointwise
  rfl
theorem V_svs (b : Fin 64) (h t : Fin 4) : (V m c main_v18 : Vec Ideal S64x4x4 .f32) (ix3 b h t) = (inp m c).svs b t h := by
  simp only [V, hostOps0, hostOps0_1, hostOps0_2, List.flatten_cons, List.flatten_nil, List.append_nil, List.cons_append, List.nil_append]
  after_results_simp
  pointwise
  rfl
theorem V_k (b : Fin 64) (h : Fin 4) (p : Fin 2048) (d : Fin 64) : (V m c main_v19 : Vec Ideal S64x4x2048x64 .fp8e4m3) (ix4 b h p d) = (inp m c).k b p h d := by
  simp only [V, hostOps0, hostOps0_1, hostOps0_2, List.flatten_cons, List.flatten_nil, List.append_nil, List.cons_append, List.nil_append]
  after_results_simp
  pointwise
  rfl
theorem V_ks (b : Fin 64) (h : Fin 4) (p : Fin 2048) : (V m c main_v20 : Vec Ideal S64x4x2048 .f32) (ix3 b h p) = (inp m c).ks b p h := by
  simp only [V, hostOps0, hostOps0_1, hostOps0_2, List.flatten_cons, List.flatten_nil, List.append_nil, List.cons_append, List.nil_append]
  after_results_simp
  pointwise
  rfl
theorem V_v (b : Fin 64) (h : Fin 4) (p : Fin 2048) (d : Fin 64) : (V m c main_v21 : Vec Ideal S64x4x2048x64 .fp8e4m3) (ix4 b h p d) = (inp m c).v b p h d := by
  simp only [V, hostOps0, hostOps0_1, hostOps0_2, List.flatten_cons, List.flatten_nil, List.append_nil, List.cons_append, List.nil_append]
  after_results_simp
  pointwise
  rfl
theorem V_vs (b : Fin 64) (h : Fin 4) (p : Fin 2048) : (V m c main_v22 : Vec Ideal S64x4x2048 .f32) (ix3 b h p) = (inp m c).vs b p h := by
  simp only [V, hostOps0, hostOps0_1, hostOps0_2, List.flatten_cons, List.flatten_nil, List.append_nil, List.cons_append, List.nil_append]
  after_results_simp
  pointwise
  rfl

/-! ## Every input window holds its whole array -/

theorem blk_q (t) : iblk m c 0 t = V m c main_v0 := by
  funext x
  exact congrArg (V m c main_v0) (funext fun a => Fin.ext ((win0_0).rect_emb_val_of_index_zero t a (by fin_cases a <;> rfl) x))
theorem blk_kn (t) : iblk m c 1 t = V m c main_v13 := by
  funext x
  exact congrArg (V m c main_v13) (funext fun a => Fin.ext ((win0_1).rect_emb_val_of_index_zero t a (by fin_cases a <;> rfl) x))
theorem blk_vn (t) : iblk m c 2 t = V m c main_v14 := by
  funext x
  exact congrArg (V m c main_v14) (funext fun a => Fin.ext ((win0_2).rect_emb_val_of_index_zero t a (by fin_cases a <;> rfl) x))
theorem blk_sk (t) : iblk m c 3 t = V m c main_v15 := by
  funext x
  exact congrArg (V m c main_v15) (funext fun a => Fin.ext ((win0_3).rect_emb_val_of_index_zero t a (by fin_cases a <;> rfl) x))
theorem blk_sks (t) : iblk m c 4 t = V m c main_v16 := by
  funext x
  exact congrArg (V m c main_v16) (funext fun a => Fin.ext ((win0_4).rect_emb_val_of_index_zero t a (by fin_cases a <;> rfl) x))
theorem blk_sv (t) : iblk m c 5 t = V m c main_v17 := by
  funext x
  exact congrArg (V m c main_v17) (funext fun a => Fin.ext ((win0_5).rect_emb_val_of_index_zero t a (by fin_cases a <;> rfl) x))
theorem blk_svs (t) : iblk m c 6 t = V m c main_v18 := by
  funext x
  exact congrArg (V m c main_v18) (funext fun a => Fin.ext ((win0_6).rect_emb_val_of_index_zero t a (by fin_cases a <;> rfl) x))
theorem blk_k (t) : iblk m c 7 t = V m c main_v19 := by
  funext x
  exact congrArg (V m c main_v19) (funext fun a => Fin.ext ((win0_7).rect_emb_val_of_index_zero t a (by fin_cases a <;> rfl) x))
theorem blk_ks (t) : iblk m c 8 t = V m c main_v20 := by
  funext x
  exact congrArg (V m c main_v20) (funext fun a => Fin.ext ((win0_8).rect_emb_val_of_index_zero t a (by fin_cases a <;> rfl) x))
theorem blk_v (t) : iblk m c 9 t = V m c main_v21 := by
  funext x
  exact congrArg (V m c main_v21) (funext fun a => Fin.ext ((win0_9).rect_emb_val_of_index_zero t a (by fin_cases a <;> rfl) x))
theorem blk_vs (t) : iblk m c 10 t = V m c main_v22 := by
  funext x
  exact congrArg (V m c main_v22) (funext fun a => Fin.ext ((win0_10).rect_emb_val_of_index_zero t a (by fin_cases a <;> rfl) x))
theorem blk_len (t) : iblk m c 11 t = V m c main_v5 := by
  funext x
  exact congrArg (V m c main_v5) (funext fun a => Fin.ext ((win0_11).rect_emb_val_of_index_zero t a (by fin_cases a <;> rfl) x))

/-! ## The results -/

/-- The only grid point. -/
def t0 : Fin cfg0.N := ⟨0, by decide⟩

section
variable (x0 : Vec Ideal S64x4x4x64 .bf16) (x1 x2 : Vec Ideal S64x4x64 .bf16) (x3 : Vec Ideal S64x4x4x64 .fp8e4m3) (x4 : Vec Ideal S64x4x4 .f32) (x5 : Vec Ideal S64x4x4x64 .fp8e4m3) (x6 : Vec Ideal S64x4x4 .f32)
  (x7 : Vec Ideal S64x4x2048x64 .fp8e4m3) (x8 : Vec Ideal S64x4x2048 .f32) (x9 : Vec Ideal S64x4x2048x64 .fp8e4m3) (x10 : Vec Ideal S64x4x2048 .f32) (x11 : Vec Ideal S64x1 .i32)

/-- What the body leaves in the window of the attention result, -/
theorem out0_12_eq : out0_12 x0 x1 x2 x3 x4 x5 x6 x7 x8 x9 x10 x11 = outR x0 x1 x2 x3 x4 x5 x6 x7 x8 x9 x10 x11 := by
  have e0 : View.ld x0 r0_0 = x0 := View.ld_unit_lit _ _ (by decide)
  have e1 : View.ld x1 r0_1 = x1 := View.ld_unit_lit _ _ (by decide)
  have e2 : View.ld x2 r0_1 = x2 := View.ld_unit_lit _ _ (by decide)
  have e3 : View.ld x3 r0_0 = x3 := View.ld_unit_lit _ _ (by decide)
  have e4 : View.ld x4 r0_2 = x4 := View.ld_unit_lit _ _ (by decide)
  have e5 : View.ld x5 r0_0 = x5 := View.ld_unit_lit _ _ (by decide)
  have e6 : View.ld x6 r0_2 = x6 := View.ld_unit_lit _ _ (by decide)
  have e7 : View.ld x7 r0_3 = x7 := View.ld_unit_lit _ _ (by decide)
  have e8 : View.ld x8 r0_4 = x8 := View.ld_unit_lit _ _ (by decide)
  have e9 : View.ld x9 r0_3 = x9 := View.ld_unit_lit _ _ (by decide)
  have e10 : View.ld x10 r0_4 = x10 := View.ld_unit_lit _ _ (by decide)
  have e11 : View.ld x11 r0_5 = x11 := View.ld_unit_lit _ _ (by decide)
  unfold out0_12
  rw [View.canon_cons_unit_lit _ _ _ (by decide)]
  simp only [k0_pay40, k0_pay39, k0_pay38, k0_pay37, k0_pay36, k0_pay35, k0_pay34, k0_pay33, k0_pay32, k0_pay31, k0_pay30, k0_pay29, k0_pay28, e0, e1, e2, e3, e4, e5, e6, e7, e8, e9, e10, e11]
  try rfl
/-- of the codes of the new keys, -/
theorem out0_13_eq : out0_13 x0 x1 x2 x3 x4 x5 x6 x7 x8 x9 x10 x11 = k0_pay2 (k0_pay9 x1) := by
  have e1 : View.ld x1 r0_1 = x1 := View.ld_unit_lit _ _ (by decide)
  unfold out0_13
  rw [View.canon_cons_unit_lit _ _ _ (by decide)]
  simp only [k0_pay40, k0_pay39, k0_pay38, k0_pay37, k0_pay36, k0_pay35, k0_pay34, k0_pay33, k0_pay32, k0_pay31, k0_pay30, k0_pay29, k0_pay28, e1]
  try rfl
/-- of their scales, -/
theorem out0_14_eq : out0_14 x0 x1 x2 x3 x4 x5 x6 x7 x8 x9 x10 x11 = k0_pay3 (k0_pay8 x1) := by
  have e1 : View.ld x1 r0_1 = x1 := View.ld_unit_lit _ _ (by decide)
  unfold out0_14
  rw [View.canon_cons_unit_lit _ _ _ (by decide)]
  simp only [k0_pay40, k0_pay39, k0_pay38, k0_pay37, k0_pay36, k0_pay35, k0_pay34, k0_pay33, k0_pay32, k0_pay31, k0_pay30, k0_pay29, k0_pay28, e1]
  try rfl
/-- of the codes of the new values -/
theorem out0_15_eq : out0_15 x0 x1 x2 x3 x4 x5 x6 x7 x8 x9 x10 x11 = k0_pay4 (k0_pay14 (k0_pay10 x2) (k0_pay11 x2) k0_pay12) := by
  have e2 : View.ld x2 r0_1 = x2 := View.ld_unit_lit _ _ (by decide)
  unfold out0_15
  rw [View.canon_cons_unit_lit _ _ _ (by decide)]
  simp only [k0_pay40, k0_pay39, k0_pay38, k0_pay37, k0_pay36, k0_pay35, k0_pay34, k0_pay33, k0_pay32, k0_pay31, k0_pay30, k0_pay29, k0_pay28, e2]
  try rfl
/-- and of their scales. -/
theorem out0_16_eq : out0_16 x0 x1 x2 x3 x4 x5 x6 x7 x8 x9 x10 x11 = k0_pay5 (k0_pay13 (k0_pay11 x2) k0_pay12) := by
  have e2 : View.ld x2 r0_1 = x2 := View.ld_unit_lit _ _ (by decide)
  unfold out0_16
  rw [View.canon_cons_unit_lit _ _ _ (by decide)]
  simp only [k0_pay40, k0_pay39, k0_pay38, k0_pay37, k0_pay36, k0_pay35, k0_pay34, k0_pay33, k0_pay32, k0_pay31, k0_pay30, k0_pay29, k0_pay28, e2]
  try rfl
end

/-- The attention at arrays that hold the arguments' entries is the attention at the arguments. -/
theorem attend_eq (I : Inp) (q : Vec Ideal S64x4x4x64 .bf16) (kn vn : Vec Ideal S64x4x64 .bf16) (sk : Vec Ideal S64x4x4x64 .fp8e4m3) (sks : Vec Ideal S64x4x4 .f32)
    (sv : Vec Ideal S64x4x4x64 .fp8e4m3) (svs : Vec Ideal S64x4x4 .f32) (k : Vec Ideal S64x4x2048x64 .fp8e4m3) (ks : Vec Ideal S64x4x2048 .f32)
    (v : Vec Ideal S64x4x2048x64 .fp8e4m3) (vs : Vec Ideal S64x4x2048 .f32) (len : Vec Ideal S64x1 .i32)
    (hq : ∀ b h g d, q (ix4 b h g d) = I.q b ⟨h.val * 4 + g.val, by omega⟩ d) (hkn : ∀ b h d, kn (ix3 b h d) = I.kn b h d) (hvn : ∀ b h d, vn (ix3 b h d) = I.vn b h d)
    (hsk : ∀ b h t d, sk (ix4 b h t d) = I.sk b t h d) (hsks : ∀ b h t, sks (ix3 b h t) = I.sks b t h) (hsv : ∀ b h t d, sv (ix4 b h t d) = I.sv b t h d) (hsvs : ∀ b h t, svs (ix3 b h t) = I.svs b t h)
    (hk : ∀ b h p d, k (ix4 b h p d) = I.k b p h d) (hks : ∀ b h p, ks (ix3 b h p) = I.ks b p h) (hv : ∀ b h p d, v (ix4 b h p d) = I.v b p h d) (hvs : ∀ b h p, vs (ix3 b h p) = I.vs b p h)
    (hlen : ∀ b, len (ix2 b 0) = IntOp.minsi (IntOp.subi (I.seen b) 4#32) 2048#32) (b : Fin 64) (x : Fin 1024) :
    attend (rS q sk sks b ⟨x.val / 256, by omega⟩ ⟨x.val / 64 % 4, by omega⟩) (fun t => svs (ix3 b ⟨x.val / 256, by omega⟩ t)) (fun t => sv (ix4 b ⟨x.val / 256, by omega⟩ t ⟨x.val % 64, by omega⟩))
      (rR q k ks len b ⟨x.val / 256, by omega⟩ ⟨x.val / 64 % 4, by omega⟩) (fun p => vs (ix3 b ⟨x.val / 256, by omega⟩ p)) (fun p => v (ix4 b ⟨x.val / 256, by omega⟩ p ⟨x.val % 64, by omega⟩))
      (rN q kn b ⟨x.val / 256, by omega⟩ ⟨x.val / 64 % 4, by omega⟩) (rScale (amx fun d => vn (ix3 b ⟨x.val / 256, by omega⟩ d)))
      (rCode (amx fun d => vn (ix3 b ⟨x.val / 256, by omega⟩ d)) (vn (ix3 b ⟨x.val / 256, by omega⟩ ⟨x.val % 64, by omega⟩))) = I.out b x := by
  have hr : ∀ (h1 : x.val / 256 * 4 + x.val / 64 % 4 < 16), (⟨x.val / 256 * 4 + x.val / 64 % 4, h1⟩ : Fin 16) = ⟨x.val / 64, by omega⟩ :=
    fun _ => Fin.ext (by dsimp only; omega)
  unfold Inp.out Inp.attn rS rR rN
  simp only [hq, hsk, hsks, hsv, hsvs, hk, hks, hv, hvs, hkn, hvn, hlen, ring_word, hr]
  rfl

/-- The codes and the scale of a row whose entries are the arguments'. -/
theorem code_eq (x : Vec Ideal S64x4x64 .bf16) (f : Fin 64 → Fin 4 → Fin 64 → EReal) (hx : ∀ b h d, x (ix3 b h d) = f b h d) (b : Fin 64) (h : Fin 4) (d : Fin 64) :
    rCode (amx fun d => x (ix3 b h d)) (x (ix3 b h d)) = rCode (amx (f b h)) (f b h d) ∧ rScale (amx fun d => x (ix3 b h d)) = rScale (amx (f b h)) := by
  simp only [hx, and_self]

/-- The attention result, -/
theorem arr_out (b : Fin 64) (x : Fin 1024) : ((dats m 0 c).arrAt 12 cfg0.N : Vec Ideal S64x1024 .bf16) (ix2 b x) = (inp m c).out b x := by
  have h := congrFun ((Value.blocks12 m c t0 rfl).trans (Value.flushed12 m c t0)) (ix2 b x)
  refine Eq.trans ?_ (h.trans ?_)
  · exact congrArg ((dats m 0 c).arrAt 12 cfg0.N) (funext fun a => Fin.ext ((win0_12).rect_emb_val_of_index_zero t0 a (by fin_cases a <;> rfl) (ix2 b x)).symm)
  · refine (congrFun (out0_12_eq _ _ _ _ _ _ _ _ _ _ _ _) (ix2 b x)).trans ?_
    refine (outR_apply _ _ _ _ _ _ _ _ _ _ _ _ b x).trans ?_
    rw [blk_q, blk_kn, blk_vn, blk_sk, blk_sks, blk_sv, blk_svs, blk_k, blk_ks, blk_v, blk_vs, blk_len]
    exact attend_eq (inp m c) _ _ _ _ _ _ _ _ _ _ _ _ (V_q m c) (V_kn m c) (V_vn m c) (V_sk m c) (V_sks m c) (V_sv m c) (V_svs m c) (V_k m c) (V_ks m c) (V_v m c) (V_vs m c) (V_len m c) b x
/-- the codes of the new keys, -/
theorem arr_knc (r : Fin 256) (d : Fin 64) : ((dats m 0 c).arrAt 13 cfg0.N : Vec Ideal S256x64 .fp8e4m3) (ix2 r d) = (inp m c).kCd ⟨r.val / 4, Nat.div_lt_of_lt_mul r.isLt⟩ ⟨r.val % 4, Nat.mod_lt _ (by norm_num)⟩ d := by
  have h := congrFun ((Value.blocks13 m c t0 rfl).trans (Value.flushed13 m c t0)) (ix2 r d)
  refine Eq.trans ?_ (h.trans ?_)
  · exact congrArg ((dats m 0 c).arrAt 13 cfg0.N) (funext fun a => Fin.ext ((win0_13).rect_emb_val_of_index_zero t0 a (by fin_cases a <;> rfl) (ix2 r d)).symm)
  · refine (congrFun (out0_13_eq _ _ _ _ _ _ _ _ _ _ _ _) (ix2 r d)).trans ?_
    rw [blk_kn]
    exact (kncR_apply _ r d).trans (code_eq _ _ (V_kn m c) _ _ d).1
/-- their scales, -/
theorem arr_kns (h' : Fin 4) (b : Fin 64) : ((dats m 0 c).arrAt 14 cfg0.N : Vec Ideal S4x64 .f32) (ix2 h' b) = (inp m c).kSc b h' := by
  have h := congrFun ((Value.blocks14 m c t0 rfl).trans (Value.flushed14 m c t0)) (ix2 h' b)
  refine Eq.trans ?_ (h.trans ?_)
  · exact congrArg ((dats m 0 c).arrAt 14 cfg0.N) (funext fun a => Fin.ext ((win0_14).rect_emb_val_of_index_zero t0 a (by fin_cases a <;> rfl) (ix2 h' b)).symm)
  · refine (congrFun (out0_14_eq _ _ _ _ _ _ _ _ _ _ _ _) (ix2 h' b)).trans ?_
    rw [blk_kn]
    exact (knsR_apply _ h' b).trans (code_eq _ _ (V_kn m c) b h' 0).2
/-- the codes of the new values -/
theorem arr_vnc (r : Fin 256) (d : Fin 64) : ((dats m 0 c).arrAt 15 cfg0.N : Vec Ideal S256x64 .fp8e4m3) (ix2 r d) = (inp m c).vCd ⟨r.val / 4, Nat.div_lt_of_lt_mul r.isLt⟩ ⟨r.val % 4, Nat.mod_lt _ (by norm_num)⟩ d := by
  have h := congrFun ((Value.blocks15 m c t0 rfl).trans (Value.flushed15 m c t0)) (ix2 r d)
  refine Eq.trans ?_ (h.trans ?_)
  · exact congrArg ((dats m 0 c).arrAt 15 cfg0.N) (funext fun a => Fin.ext ((win0_15).rect_emb_val_of_index_zero t0 a (by fin_cases a <;> rfl) (ix2 r d)).symm)
  · refine (congrFun (out0_15_eq _ _ _ _ _ _ _ _ _ _ _ _) (ix2 r d)).trans ?_
    rw [blk_vn]
    exact (vncR_apply _ r d).trans (code_eq _ _ (V_vn m c) _ _ d).1
/-- and their scales. -/
theorem arr_vns (h' : Fin 4) (b : Fin 64) : ((dats m 0 c).arrAt 16 cfg0.N : Vec Ideal S4x64 .f32) (ix2 h' b) = (inp m c).vSc b h' := by
  have h := congrFun ((Value.blocks16 m c t0 rfl).trans (Value.flushed16 m c t0)) (ix2 h' b)
  refine Eq.trans ?_ (h.trans ?_)
  · exact congrArg ((dats m 0 c).arrAt 16 cfg0.N) (funext fun a => Fin.ext ((win0_16).rect_emb_val_of_index_zero t0 a (by fin_cases a <;> rfl) (ix2 h' b)).symm)
  · refine (congrFun (out0_16_eq _ _ _ _ _ _ _ _ _ _ _ _) (ix2 h' b)).trans ?_
    rw [blk_vn]
    exact (vnsR_apply _ h' b).trans (code_eq _ _ (V_vn m c) b h' 0).2

end Cert.ReferenceIdeal.Gen

end
-- ==== Proof.Value.lean ====
module

public import proofs.«01_k».proof.Defs
public import proofs.«01_k».proof.Proof.KOut
public import proofs.«01_k».proof.Proof.RefArr
public import Idealize.ShloMosaic.Lib.ReduceAll
public import Idealize.ShloMosaic.Adequacy

@[expose] public section

set_option maxRecDepth 16384

/-! # The kernel computes what the reference computes

The precondition bounds the new rows, so that the two quantisers agree on them. Both programs then hold, in each of the
seven results, the same function of the arguments. -/

noncomputable section

namespace Cert.Proof

open Idealize.ShloMosaic Idealize.ShloMosaic.TcCoe Idealize.SL.Sem

/-- The shape relations of the precondition. -/
theorem preFacts : Cert.Pre_tame.Facts where
  bcast_S_S64x1x4x64 := by decide
  reducesTo_S64x1x4x64_S_d0_1_2_3 := by decide
  h_S_ := by decide

/-! ## The precondition -/

instance : Subsingleton Cert.Pre_tame.S_.Idx := ⟨fun a b => funext fun i => i.elim0⟩

/-- The bound of the precondition: the greatest finite number of the new rows' format. -/
def bnd : ℝ := 255 * (2 : ℝ) ^ (120 : ℤ)

theorem bnd_bits : (Ideal.ofBits .bf16 0x7F7F#16 : EReal) = (bnd : EReal) := by
  simp [Ideal.ofBits, Ideal.ieee, bnd]

theorem bnd_lt : bnd < 400 * (2 : ℝ) ^ (120 : ℤ) := by
  unfold bnd
  exact mul_lt_mul_of_pos_right (by norm_num) (by positivity)

theorem ofBool_one (b : Bool) : BitVec.ofBool b = 1#1 ↔ b = true := by cases b <;> decide

/-- Below the bound the kernel's quantiser is the reference's. -/
theorem quant_row (v : Fin 64 → EReal) (h : ∀ d, max (v d) (-(v d)) ≤ (bnd : EReal)) :
    kScale (amx v * c448) = rScale (amx v) ∧ ∀ x, kCode (amx v * c448) x = rCode (amx v) x :=
  quant_eq (amx v) bnd (amx_nonneg v) (amx_le v _ h) bnd_lt

section
variable [Cert.Pre_tame.Facts]

/-- One array of the precondition: if its `all` is one, every entry is within the bound. -/
theorem all_le (x : FVec Ideal Cert.Pre_tame.S64x1x4x64 .bf16) (j : Cert.Pre_tame.S_.Idx)
    (e : Host.reduce IntOp.andi (cmpf .ole (Host.absf x) (broadcastInDim Cert.Pre_tame.S64x1x4x64 ![] Cert.Pre_tame.Facts.bcast_S_S64x1x4x64 (constant Cert.Pre_tame.S_ .bf16 0x7F7F#16)))
      (constantI Cert.Pre_tame.S_ 1 1#1) Cert.Pre_tame.Facts.reducesTo_S64x1x4x64_S_d0_1_2_3 Cert.Pre_tame.Facts.h_S_ j = 1#1)
    (i : Cert.Pre_tame.S64x1x4x64.Idx) : max (x i) (-(x i)) ≤ (bnd : EReal) := by
  have h := Host.reduce_andi_all _ _ _ _ j e i
  rw [← bnd_bits]
  exact of_decide_eq_true ((ofBool_one _).1 h)

/-- Under the precondition the kernel's quantiser is the reference's on every new row. -/
theorem tame_of_pre (m : (ℓ : Loc Cert.KernelIdeal.nD Cert.KernelIdeal.τ Cert.KernelIdeal.sig) → Buf (Elt Ideal) ℓ) (h : Pre_KernelIdeal_tame m)
    (c : Dev Cert.KernelIdeal.nD) : Cert.KernelIdeal.Gen.Tame (Cert.KernelIdeal.Gen.inp m c) := by
  have e := congrFun (h c) (fun i => i.elim0)
  obtain ⟨ek, ev⟩ := IntOp.andi_eq_one.1 e
  have hk := fun b h => quant_row ((Cert.KernelIdeal.Gen.inp m c).kn b h) fun d => all_le _ _ ek (ix4 b 0 h d)
  have hv := fun b h => quant_row ((Cert.KernelIdeal.Gen.inp m c).vn b h) fun d => all_le _ _ ev (ix4 b 0 h d)
  exact ⟨fun b h => (hk b h).1, fun b h => (hk b h).2, fun b h => (hv b h).1, fun b h => (hv b h).2⟩

end

/-! ## The results -/

/-- Two arrays of rank 2 with the same entries are equal. -/
theorem ext2 {n k : ℕ} {α : Type} (f g : (⟨2, ![n, k]⟩ : Shape).Idx → α) (h : ∀ a b, f (ix2 a b) = g (ix2 a b)) : f = g :=
  funext fun j => by
    have hj : j = ix2 (j 0) (j 1) := funext fun a => match a with | 0 => rfl | 1 => rfl
    rw [hj]
    exact h _ _

/-- Two arrays of one row with the same entries are equal. -/
theorem ext_row {k : ℕ} {α : Type} (f g : (⟨2, ![1, k]⟩ : Shape).Idx → α) (h : ∀ b, f (ix2 0 b) = g (ix2 0 b)) : f = g :=
  ext2 f g fun a b => by
    have ha : a = 0 := Subsingleton.elim _ _
    rw [ha]
    exact h b

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The two programs are given the same arguments. -/
def SameArgs : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
  ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)

/-- Then the entries both sides read are the same. -/
theorem inp_eq (h : SameArgs m m' c) : Cert.ReferenceIdeal.Gen.inp m' c = Cert.KernelIdeal.Gen.inp m c := by
  obtain ⟨h0, h1, h2, h3, h4, h5, h6, h7, h8, h9, h10, h11⟩ := h
  unfold Cert.ReferenceIdeal.Gen.inp Cert.KernelIdeal.Gen.inp
  congr 1
  · exact funext fun b => funext fun r => funext fun d => congrFun h0 (ix4 b 0 r d)
  · exact funext fun b => funext fun r => funext fun d => congrFun h1 (ix4 b 0 r d)
  · exact funext fun b => funext fun r => funext fun d => congrFun h2 (ix4 b 0 r d)
  · exact funext fun b => funext fun t => funext fun h => funext fun d => congrFun h3 (ix4 b t h d)
  · exact funext fun b => funext fun t => funext fun h => congrFun h4 (ix3 b t h)
  · exact funext fun b => funext fun t => funext fun h => funext fun d => congrFun h5 (ix4 b t h d)
  · exact funext fun b => funext fun t => funext fun h => congrFun h6 (ix3 b t h)
  · exact funext fun b => funext fun t => funext fun h => funext fun d => congrFun h7 (ix4 b t h d)
  · exact funext fun b => funext fun t => funext fun h => congrFun h8 (ix3 b t h)
  · exact funext fun b => funext fun t => funext fun h => funext fun d => congrFun h9 (ix4 b t h d)
  · exact funext fun b => funext fun t => funext fun h => congrFun h10 (ix3 b t h)
  · exact funext fun b => congrFun h11 (ix1 b)

/-- What the kernel's run leaves in result window `w`. -/
abbrev kRes (w : Fin 19) := (Cert.KernelIdeal.Gen.dats (F := Ideal) m trivial 0 c).arrAt w (Cert.KernelIdeal.Gen.cfgM (F := Ideal) m trivial).N
/-- What the reference's run leaves in result window `w`. -/
abbrev rRes (w : Fin 17) := (Cert.ReferenceIdeal.Gen.dats (F := Ideal) m' 0 c).arrAt w Cert.ReferenceIdeal.cfg0.N

variable (hT : Cert.KernelIdeal.Gen.Tame (Cert.KernelIdeal.Gen.inp m c)) (h : Cert.ReferenceIdeal.Gen.inp m' c = Cert.KernelIdeal.Gen.inp m c)
include hT h

theorem res_out : rRes m' c 12 = kRes m c 12 :=
  ext2 (n := 64) (k := 1024) (α := EReal) _ _ fun b x => (Cert.ReferenceIdeal.Gen.arr_out m' c b x).trans
    ((congrArg (fun I => Inp.out I b x) h).trans (Cert.KernelIdeal.Gen.out_out m trivial c hT b x).symm)
theorem res_knc : rRes m' c 13 = kRes m c 13 :=
  ext2 (n := 256) (k := 64) (α := EReal) _ _ fun r d => (Cert.ReferenceIdeal.Gen.arr_knc m' c r d).trans
    ((congrArg (fun I => Inp.kCd I _ _ d) h).trans (Cert.KernelIdeal.Gen.out_knc m trivial c hT r d).symm)
theorem res_kns : rRes m' c 14 = kRes m c 14 :=
  ext2 (n := 4) (k := 64) (α := EReal) _ _ fun a b => (Cert.ReferenceIdeal.Gen.arr_kns m' c a b).trans
    ((congrArg (fun I => Inp.kSc I b a) h).trans (Cert.KernelIdeal.Gen.out_kns m trivial c hT a b).symm)
theorem res_vnc : rRes m' c 15 = kRes m c 15 :=
  ext2 (n := 256) (k := 64) (α := EReal) _ _ fun r d => (Cert.ReferenceIdeal.Gen.arr_vnc m' c r d).trans
    ((congrArg (fun I => Inp.vCd I _ _ d) h).trans (Cert.KernelIdeal.Gen.out_vnc m trivial c hT r d).symm)
theorem res_vns : rRes m' c 16 = kRes m c 16 :=
  ext2 (n := 4) (k := 64) (α := EReal) _ _ fun a b => (Cert.ReferenceIdeal.Gen.arr_vns m' c a b).trans
    ((congrArg (fun I => Inp.vSc I b a) h).trans (Cert.KernelIdeal.Gen.out_vns m trivial c hT a b).symm)
omit hT in
theorem res_slot : Cert.ReferenceIdeal.Gen.V m' c Cert.ReferenceIdeal.main_v9 = kRes m c 17 :=
  ext_row (k := 64) (α := BitVec 32) _ _ fun b => (Cert.ReferenceIdeal.Gen.V_slot m' c b).trans
    ((congrArg (fun I => Inp.slot I b) h).trans (Cert.KernelIdeal.Gen.out_slot m trivial c b).symm)
omit hT in
theorem res_next : Cert.ReferenceIdeal.Gen.V m' c Cert.ReferenceIdeal.main_v12 = kRes m c 18 :=
  ext_row (k := 64) (α := BitVec 32) _ _ fun b => (Cert.ReferenceIdeal.Gen.V_next m' c b).trans
    ((congrArg (fun I => Inp.next I b) h).trans (Cert.KernelIdeal.Gen.out_next m trivial c b).symm)

end

/-! ## The claim -/

/-- From equal arguments within the precondition the kernel and the reference end with equal results, all seven of them. -/
theorem algebraic [hPre_tame : Cert.Pre_tame.Facts] : algebraic_KernelIdeal_ReferenceIdeal_pre_tame (hKernelIdeal := Cert.KernelIdeal.Gen.facts) (hReferenceIdeal := Cert.ReferenceIdeal.Gen.facts) := by
  intro m g m' g' hP hA
  have hT := tame_of_pre m hP
  have hI := fun c => inp_eq m m' c (hA c)
  refine ⟨fun c => kRes m c 12, fun c => kRes m c 13, fun c => kRes m c 14, fun c => kRes m c 15, fun c => kRes m c 16, fun c => kRes m c 17, fun c => kRes m c 18, ?_, ?_⟩
  · refine (θ_run _ _ _).mono (fun r h c => ?_) (Cert.KernelIdeal.Gen.run_main_quiescent m g trivial)
    exact ⟨(h.1 c).1 12, (h.1 c).1 13, (h.1 c).1 14, (h.1 c).1 15, (h.1 c).1 16, (h.1 c).1 17, (h.1 c).1 18, Cert.KernelIdeal.Gen.args_kept m trivial r h.1 c⟩
  · refine (θ_run _ _ _).mono (fun r h c => ?_) (Cert.ReferenceIdeal.Gen.run_main m' g')
    exact ⟨(Cert.ReferenceIdeal.Value.post12 m' r h c).trans (res_out m m' c (hT c) (hI c)),
      (Cert.ReferenceIdeal.Value.post13 m' r h c).trans (res_knc m m' c (hT c) (hI c)),
      (Cert.ReferenceIdeal.Value.post14 m' r h c).trans (res_kns m m' c (hT c) (hI c)),
      (Cert.ReferenceIdeal.Value.post15 m' r h c).trans (res_vnc m m' c (hT c) (hI c)),
      (Cert.ReferenceIdeal.Value.post16 m' r h c).trans (res_vns m m' c (hT c) (hI c)),
      ((h c).2 Cert.ReferenceIdeal.main_v9 (Pipeline.mem_restRefs_of Cert.ReferenceIdeal.main_v9 (by decide) (by decide))).trans (res_slot m m' c (hI c)),
      ((h c).2 Cert.ReferenceIdeal.main_v12 (Pipeline.mem_restRefs_of Cert.ReferenceIdeal.main_v12 (by decide) (by decide))).trans (res_next m m' c (hI c)),
      Cert.ReferenceIdeal.Value.kept_main_arg0 m' r h c, Cert.ReferenceIdeal.Value.kept_main_arg1 m' r h c, Cert.ReferenceIdeal.Value.kept_main_arg2 m' r h c,
      Cert.ReferenceIdeal.Value.kept_main_arg3 m' r h c, Cert.ReferenceIdeal.Value.kept_main_arg4 m' r h c, Cert.ReferenceIdeal.Value.kept_main_arg5 m' r h c,
      Cert.ReferenceIdeal.Value.kept_main_arg6 m' r h c, Cert.ReferenceIdeal.Value.kept_main_arg7 m' r h c, Cert.ReferenceIdeal.Value.kept_main_arg8 m' r h c,
      Cert.ReferenceIdeal.Value.kept_main_arg9 m' r h c, Cert.ReferenceIdeal.Value.kept_main_arg10 m' r h c, Cert.ReferenceIdeal.Value.kept_main_arg11 m' r h c⟩

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Value
public import proofs.«01_k».proof.Proof.SameProgram
public import proofs.«01_k».proof.Proof.Frame
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel's run at the machine's floats: the run of the program it equals. -/
theorem frame_kernel : quiescent_Kernel (hKernel := Cert.Kernel.Gen.facts) := by
  intro m g _
  rw [Same.run_eq (hK := Cert.Kernel.Gen.facts) (hI := Cert.KernelIdeal.Gen.facts)]
  exact Cert.KernelIdeal.Gen.frame (F := Bits) m g trivial

/-- The certificate: the frames, the kernel as printed and as read over the reals the same program, and equal results. -/
theorem claim : Cert.Claim :=
  ⟨Cert.Kernel.Gen.facts, Cert.KernelIdeal.Gen.facts, Cert.ReferenceIdeal.Gen.facts, preFacts,
    frame_kernel,
    fun m g _ => Cert.KernelIdeal.Gen.frame m g trivial, fun m g _ => Cert.KernelIdeal.Gen.frame m g trivial,
    fun m g _ => Cert.ReferenceIdeal.Gen.frame m g, fun m g _ => Cert.ReferenceIdeal.Gen.frame m g,
    trivial, algebraic (hPre_tame := preFacts)⟩

end Cert.Proof

end
